-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![512, 4096]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S512x512 : Shape := ⟨2, ![512, 512]⟩
abbrev S16x32x512 : Shape := ⟨3, ![16, 32, 512]⟩
abbrev S2x32x512 : Shape := ⟨3, ![2, 32, 512]⟩
abbrev S16 : Shape := ⟨1, ![16]⟩
abbrev S_ : Shape := ⟨0, ![]⟩
abbrev S1 : Shape := ⟨1, ![1]⟩
abbrev S1x32x512 : Shape := ⟨3, ![1, 32, 512]⟩
abbrev S32x512 : Shape := ⟨2, ![32, 512]⟩
abbrev S128x512 : Shape := ⟨2, ![128, 512]⟩
abbrev S128x256 : Shape := ⟨2, ![128, 256]⟩

abbrev nBuf : Space → Nat
  | .hbm => 8
  | .vmem => 13
  | .smem => 0
  | _ => 0

abbrev bufTy : (tb : Table) → Fin (tcTables nBuf tb) → BufTy
  | .hbm, ⟨0, _⟩ => ⟨S512x256, .bf16⟩
  | .hbm, ⟨1, _⟩ => ⟨S256x512, .bf16⟩
  | .hbm, ⟨2, _⟩ => ⟨S256x512, .bf16⟩
  | .hbm, ⟨3, _⟩ => ⟨S256x512, .bf16⟩
  | .hbm, ⟨4, _⟩ => ⟨S512x256, .bf16⟩
  | .hbm, ⟨5, _⟩ => ⟨S512x256, .bf16⟩
  | .hbm, ⟨6, _⟩ => ⟨S512x256, .bf16⟩
  | .hbm, ⟨7, _⟩ => ⟨S512x256, .f32⟩
  | .local _ .vmem, ⟨0, _⟩ => ⟨S512x256, .bf16⟩
  | .local _ .vmem, ⟨1, _⟩ => ⟨S256x512, .bf16⟩
  | .local _ .vmem, ⟨2, _⟩ => ⟨S512x256, .bf16⟩
  | .local _ .vmem, ⟨3, _⟩ => ⟨S256x512, .bf16⟩
  | .local _ .vmem, ⟨4, _⟩ => ⟨S512x256, .bf16⟩
  | .local _ .vmem, ⟨5, _⟩ => ⟨S256x512, .bf16⟩
  | .local _ .vmem, ⟨6, _⟩ => ⟨S512x256, .bf16⟩
  | .local _ .vmem, ⟨7, _⟩ => ⟨S512x256, .f32⟩
  | .local _ .vmem, ⟨8, _⟩ => ⟨S512x512, .bf16⟩
  | .local _ .vmem, ⟨9, _⟩ => ⟨S16x32x512, .bf16⟩
  | .local _ .vmem, ⟨10, _⟩ => ⟨S512x512, .bf16⟩
  | .local _ .vmem, ⟨11, _⟩ => ⟨S2x32x512, .bf16⟩
  | .local _ .vmem, ⟨12, _⟩ => ⟨S512x256, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_760 : BitVec 32 := 0#32
  let c0_i32_758 : BitVec 32 := 0#32
  let c1_i32_759 : BitVec 32 := 1#32
  let v1117 : BitVec 32 := Scalar.muli c0_i32_758 c1_i32_759
  let v1118 : BitVec 32 := Scalar.addi c0_i32_760 v1117
  v1118.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_760 : BitVec 32 := 0#32
  let c1_i32_758 : BitVec 32 := 1#32
  let c1_i32_759 : BitVec 32 := 1#32
  let v1117 : BitVec 32 := Scalar.muli c1_i32_758 c1_i32_759
  let v1118 : BitVec 32 := Scalar.addi c0_i32_760 v1117
  v1118.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_760 : BitVec 32 := 0#32
  let c2_i32_758 : BitVec 32 := 2#32
  let c1_i32_759 : BitVec 32 := 1#32
  let v1117 : BitVec 32 := Scalar.muli c2_i32_758 c1_i32_759
  let v1118 : BitVec 32 := Scalar.addi c0_i32_760 v1117
  v1118.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_760 : BitVec 32 := 0#32
  let c3_i32_758 : BitVec 32 := 3#32
  let c1_i32_759 : BitVec 32 := 1#32
  let v1117 : BitVec 32 := Scalar.muli c3_i32_758 c1_i32_759
  let v1118 : BitVec 32 := Scalar.addi c0_i32_760 v1117
  v1118.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_760 : BitVec 32 := 0#32
  let c4_i32_758 : BitVec 32 := 4#32
  let c1_i32_759 : BitVec 32 := 1#32
  let v1117 : BitVec 32 := Scalar.muli c4_i32_758 c1_i32_759
  let v1118 : BitVec 32 := Scalar.addi c0_i32_760 v1117
  v1118.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_760 : BitVec 32 := 0#32
  let c5_i32_758 : BitVec 32 := 5#32
  let c1_i32_759 : BitVec 32 := 1#32
  let v1117 : BitVec 32 := Scalar.muli c5_i32_758 c1_i32_759
  let v1118 : BitVec 32 := Scalar.addi c0_i32_760 v1117
  v1118.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_760 : BitVec 32 := 0#32
  let c6_i32_758 : BitVec 32 := 6#32
  let c1_i32_759 : BitVec 32 := 1#32
  let v1117 : BitVec 32 := Scalar.muli c6_i32_758 c1_i32_759
  let v1118 : BitVec 32 := Scalar.addi c0_i32_760 v1117
  v1118.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_760 : BitVec 32 := 0#32
  let c7_i32_758 : BitVec 32 := 7#32
  let c1_i32_759 : BitVec 32 := 1#32
  let v1117 : BitVec 32 := Scalar.muli c7_i32_758 c1_i32_759
  let v1118 : BitVec 32 := Scalar.addi c0_i32_760 v1117
  v1118.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_760 : BitVec 32 := 0#32
  let c8_i32_758 : BitVec 32 := 8#32
  let c1_i32_759 : BitVec 32 := 1#32
  let v1117 : BitVec 32 := Scalar.muli c8_i32_758 c1_i32_759
  let v1118 : BitVec 32 := Scalar.addi c0_i32_760 v1117
  v1118.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_760 : BitVec 32 := 0#32
  let c9_i32_758 : BitVec 32 := 9#32
  let c1_i32_759 : BitVec 32 := 1#32
  let v1117 : BitVec 32 := Scalar.muli c9_i32_758 c1_i32_759
  let v1118 : BitVec 32 := Scalar.addi c0_i32_760 v1117
  v1118.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_760 : BitVec 32 := 0#32
  let c10_i32_758 : BitVec 32 := 10#32
  let c1_i32_759 : BitVec 32 := 1#32
  let v1117 : BitVec 32 := Scalar.muli c10_i32_758 c1_i32_759
  let v1118 : BitVec 32 := Scalar.addi c0_i32_760 v1117
  v1118.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_760 : BitVec 32 := 0#32
  let c11_i32_758 : BitVec 32 := 11#32
  let c1_i32_759 : BitVec 32 := 1#32
  let v1117 : BitVec 32 := Scalar.muli c11_i32_758 c1_i32_759
  let v1118 : BitVec 32 := Scalar.addi c0_i32_760 v1117
  v1118.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_760 : BitVec 32 := 0#32
  let c12_i32_758 : BitVec 32 := 12#32
  let c1_i32_759 : BitVec 32 := 1#32
  let v1117 : BitVec 32 := Scalar.muli c12_i32_758 c1_i32_759
  let v1118 : BitVec 32 := Scalar.addi c0_i32_760 v1117
  v1118.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_760 : BitVec 32 := 0#32
  let c13_i32_758 : BitVec 32 := 13#32
  let c1_i32_759 : BitVec 32 := 1#32
  let v1117 : BitVec 32 := Scalar.muli c13_i32_758 c1_i32_759
  let v1118 : BitVec 32 := Scalar.addi c0_i32_760 v1117
  v1118.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_760 : BitVec 32 := 0#32
  let c14_i32_758 : BitVec 32 := 14#32
  let c1_i32_759 : BitVec 32 := 1#32
  let v1117 : BitVec 32 := Scalar.muli c14_i32_758 c1_i32_759
  let v1118 : BitVec 32 := Scalar.addi c0_i32_760 v1117
  v1118.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_760 : BitVec 32 := 0#32
  let c15_i32_758 : BitVec 32 := 15#32
  let c1_i32_759 : BitVec 32 := 1#32
  let v1117 : BitVec 32 := Scalar.muli c15_i32_758 c1_i32_759
  let v1118 : BitVec 32 := Scalar.addi c0_i32_760 v1117
  v1118.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_27 : BitVec 32 := 0#32
  let v65 : BitVec 1 := Scalar.cmpi .ne v2 c0_i32_27
  let v66 : BitVec 32 := Scalar.extui v65
  let c0_i32_28 : BitVec 32 := 0#32
  let v67 : BitVec 1 := Scalar.cmpi .ne v66 c0_i32_28
  v67

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev17 : Nat :=
  let c0_i32_760 : BitVec 32 := 0#32
  let c0_i32_758 : BitVec 32 := 0#32
  let c1_i32_759 : BitVec 32 := 1#32
  let v1117 : BitVec 32 := Scalar.muli c0_i32_758 c1_i32_759
  let v1118 : BitVec 32 := Scalar.addi c0_i32_760 v1117
  v1118.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_29 : BitVec 32 := 1#32
  let v68 : BitVec 1 := Scalar.cmpi .ne v2 c1_i32_29
  let v69 : BitVec 32 := Scalar.extui v68
  let c0_i32_30 : BitVec 32 := 0#32
  let v70 : BitVec 1 := Scalar.cmpi .ne v69 c0_i32_30
  v70

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev18 : Nat :=
  let c0_i32_760 : BitVec 32 := 0#32
  let c1_i32_758 : BitVec 32 := 1#32
  let c1_i32_759 : BitVec 32 := 1#32
  let v1117 : BitVec 32 := Scalar.muli c1_i32_758 c1_i32_759
  let v1118 : BitVec 32 := Scalar.addi c0_i32_760 v1117
  v1118.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_31 : BitVec 32 := 2#32
  let v71 : BitVec 1 := Scalar.cmpi .ne v2 c2_i32_31
  let v72 : BitVec 32 := Scalar.extui v71
  let c0_i32_32 : BitVec 32 := 0#32
  let v73 : BitVec 1 := Scalar.cmpi .ne v72 c0_i32_32
  v73

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev19 : Nat :=
  let c0_i32_760 : BitVec 32 := 0#32
  let c2_i32_758 : BitVec 32 := 2#32
  let c1_i32_759 : BitVec 32 := 1#32
  let v1117 : BitVec 32 := Scalar.muli c2_i32_758 c1_i32_759
  let v1118 : BitVec 32 := Scalar.addi c0_i32_760 v1117
  v1118.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_33 : BitVec 32 := 3#32
  let v74 : BitVec 1 := Scalar.cmpi .ne v2 c3_i32_33
  let v75 : BitVec 32 := Scalar.extui v74
  let c0_i32_34 : BitVec 32 := 0#32
  let v76 : BitVec 1 := Scalar.cmpi .ne v75 c0_i32_34
  v76

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev20 : Nat :=
  let c0_i32_760 : BitVec 32 := 0#32
  let c3_i32_758 : BitVec 32 := 3#32
  let c1_i32_759 : BitVec 32 := 1#32
  let v1117 : BitVec 32 := Scalar.muli c3_i32_758 c1_i32_759
  let v1118 : BitVec 32 := Scalar.addi c0_i32_760 v1117
  v1118.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_35 : BitVec 32 := 4#32
  let v77 : BitVec 1 := Scalar.cmpi .ne v2 c4_i32_35
  let v78 : BitVec 32 := Scalar.extui v77
  let c0_i32_36 : BitVec 32 := 0#32
  let v79 : BitVec 1 := Scalar.cmpi .ne v78 c0_i32_36
  v79

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev21 : Nat :=
  let c0_i32_760 : BitVec 32 := 0#32
  let c4_i32_758 : BitVec 32 := 4#32
  let c1_i32_759 : BitVec 32 := 1#32
  let v1117 : BitVec 32 := Scalar.muli c4_i32_758 c1_i32_759
  let v1118 : BitVec 32 := Scalar.addi c0_i32_760 v1117
  v1118.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_37 : BitVec 32 := 5#32
  let v80 : BitVec 1 := Scalar.cmpi .ne v2 c5_i32_37
  let v81 : BitVec 32 := Scalar.extui v80
  let c0_i32_38 : BitVec 32 := 0#32
  let v82 : BitVec 1 := Scalar.cmpi .ne v81 c0_i32_38
  v82

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev22 : Nat :=
  let c0_i32_760 : BitVec 32 := 0#32
  let c5_i32_758 : BitVec 32 := 5#32
  let c1_i32_759 : BitVec 32 := 1#32
  let v1117 : BitVec 32 := Scalar.muli c5_i32_758 c1_i32_759
  let v1118 : BitVec 32 := Scalar.addi c0_i32_760 v1117
  v1118.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_39 : BitVec 32 := 6#32
  let v83 : BitVec 1 := Scalar.cmpi .ne v2 c6_i32_39
  let v84 : BitVec 32 := Scalar.extui v83
  let c0_i32_40 : BitVec 32 := 0#32
  let v85 : BitVec 1 := Scalar.cmpi .ne v84 c0_i32_40
  v85

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev23 : Nat :=
  let c0_i32_760 : BitVec 32 := 0#32
  let c6_i32_758 : BitVec 32 := 6#32
  let c1_i32_759 : BitVec 32 := 1#32
  let v1117 : BitVec 32 := Scalar.muli c6_i32_758 c1_i32_759
  let v1118 : BitVec 32 := Scalar.addi c0_i32_760 v1117
  v1118.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_41 : BitVec 32 := 7#32
  let v86 : BitVec 1 := Scalar.cmpi .ne v2 c7_i32_41
  let v87 : BitVec 32 := Scalar.extui v86
  let c0_i32_42 : BitVec 32 := 0#32
  let v88 : BitVec 1 := Scalar.cmpi .ne v87 c0_i32_42
  v88

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev24 : Nat :=
  let c0_i32_760 : BitVec 32 := 0#32
  let c7_i32_758 : BitVec 32 := 7#32
  let c1_i32_759 : BitVec 32 := 1#32
  let v1117 : BitVec 32 := Scalar.muli c7_i32_758 c1_i32_759
  let v1118 : BitVec 32 := Scalar.addi c0_i32_760 v1117
  v1118.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_43 : BitVec 32 := 8#32
  let v89 : BitVec 1 := Scalar.cmpi .ne v2 c8_i32_43
  let v90 : BitVec 32 := Scalar.extui v89
  let c0_i32_44 : BitVec 32 := 0#32
  let v91 : BitVec 1 := Scalar.cmpi .ne v90 c0_i32_44
  v91

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev25 : Nat :=
  let c0_i32_760 : BitVec 32 := 0#32
  let c8_i32_758 : BitVec 32 := 8#32
  let c1_i32_759 : BitVec 32 := 1#32
  let v1117 : BitVec 32 := Scalar.muli c8_i32_758 c1_i32_759
  let v1118 : BitVec 32 := Scalar.addi c0_i32_760 v1117
  v1118.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_45 : BitVec 32 := 9#32
  let v92 : BitVec 1 := Scalar.cmpi .ne v2 c9_i32_45
  let v93 : BitVec 32 := Scalar.extui v92
  let c0_i32_46 : BitVec 32 := 0#32
  let v94 : BitVec 1 := Scalar.cmpi .ne v93 c0_i32_46
  v94

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev26 : Nat :=
  let c0_i32_760 : BitVec 32 := 0#32
  let c9_i32_758 : BitVec 32 := 9#32
  let c1_i32_759 : BitVec 32 := 1#32
  let v1117 : BitVec 32 := Scalar.muli c9_i32_758 c1_i32_759
  let v1118 : BitVec 32 := Scalar.addi c0_i32_760 v1117
  v1118.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_47 : BitVec 32 := 10#32
  let v95 : BitVec 1 := Scalar.cmpi .ne v2 c10_i32_47
  let v96 : BitVec 32 := Scalar.extui v95
  let c0_i32_48 : BitVec 32 := 0#32
  let v97 : BitVec 1 := Scalar.cmpi .ne v96 c0_i32_48
  v97

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev27 : Nat :=
  let c0_i32_760 : BitVec 32 := 0#32
  let c10_i32_758 : BitVec 32 := 10#32
  let c1_i32_759 : BitVec 32 := 1#32
  let v1117 : BitVec 32 := Scalar.muli c10_i32_758 c1_i32_759
  let v1118 : BitVec 32 := Scalar.addi c0_i32_760 v1117
  v1118.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_49 : BitVec 32 := 11#32
  let v98 : BitVec 1 := Scalar.cmpi .ne v2 c11_i32_49
  let v99 : BitVec 32 := Scalar.extui v98
  let c0_i32_50 : BitVec 32 := 0#32
  let v100 : BitVec 1 := Scalar.cmpi .ne v99 c0_i32_50
  v100

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev28 : Nat :=
  let c0_i32_760 : BitVec 32 := 0#32
  let c11_i32_758 : BitVec 32 := 11#32
  let c1_i32_759 : BitVec 32 := 1#32
  let v1117 : BitVec 32 := Scalar.muli c11_i32_758 c1_i32_759
  let v1118 : BitVec 32 := Scalar.addi c0_i32_760 v1117
  v1118.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_51 : BitVec 32 := 12#32
  let v101 : BitVec 1 := Scalar.cmpi .ne v2 c12_i32_51
  let v102 : BitVec 32 := Scalar.extui v101
  let c0_i32_52 : BitVec 32 := 0#32
  let v103 : BitVec 1 := Scalar.cmpi .ne v102 c0_i32_52
  v103

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev29 : Nat :=
  let c0_i32_760 : BitVec 32 := 0#32
  let c12_i32_758 : BitVec 32 := 12#32
  let c1_i32_759 : BitVec 32 := 1#32
  let v1117 : BitVec 32 := Scalar.muli c12_i32_758 c1_i32_759
  let v1118 : BitVec 32 := Scalar.addi c0_i32_760 v1117
  v1118.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_53 : BitVec 32 := 13#32
  let v104 : BitVec 1 := Scalar.cmpi .ne v2 c13_i32_53
  let v105 : BitVec 32 := Scalar.extui v104
  let c0_i32_54 : BitVec 32 := 0#32
  let v106 : BitVec 1 := Scalar.cmpi .ne v105 c0_i32_54
  v106

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev30 : Nat :=
  let c0_i32_760 : BitVec 32 := 0#32
  let c13_i32_758 : BitVec 32 := 13#32
  let c1_i32_759 : BitVec 32 := 1#32
  let v1117 : BitVec 32 := Scalar.muli c13_i32_758 c1_i32_759
  let v1118 : BitVec 32 := Scalar.addi c0_i32_760 v1117
  v1118.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_55 : BitVec 32 := 14#32
  let v107 : BitVec 1 := Scalar.cmpi .ne v2 c14_i32_55
  let v108 : BitVec 32 := Scalar.extui v107
  let c0_i32_56 : BitVec 32 := 0#32
  let v109 : BitVec 1 := Scalar.cmpi .ne v108 c0_i32_56
  v109

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev31 : Nat :=
  let c0_i32_760 : BitVec 32 := 0#32
  let c14_i32_758 : BitVec 32 := 14#32
  let c1_i32_759 : BitVec 32 := 1#32
  let v1117 : BitVec 32 := Scalar.muli c14_i32_758 c1_i32_759
  let v1118 : BitVec 32 := Scalar.addi c0_i32_760 v1117
  v1118.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_57 : BitVec 32 := 15#32
  let v110 : BitVec 1 := Scalar.cmpi .ne v2 c15_i32_57
  let v111 : BitVec 32 := Scalar.extui v110
  let c0_i32_58 : BitVec 32 := 0#32
  let v112 : BitVec 1 := Scalar.cmpi .ne v111 c0_i32_58
  v112

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev32 : Nat :=
  let c0_i32_760 : BitVec 32 := 0#32
  let c15_i32_758 : BitVec 32 := 15#32
  let c1_i32_759 : BitVec 32 := 1#32
  let v1117 : BitVec 32 := Scalar.muli c15_i32_758 c1_i32_759
  let v1118 : BitVec 32 := Scalar.addi c0_i32_760 v1117
  v1118.toNat
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v113 : BitVec 32 := Scalar.muli v2 c32_i32
  let v114 : Index := Scalar.indexCast v113
  let c0_59 : Index := 0#32
  ![v114.toNat, 0]
def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v117 : Index := Scalar.indexCast v2
  let c0_60 : Index := 0#32
  let c0_61 : Index := 0#32
  ![v117.toNat, 0, 0]
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_102 : BitVec 32 := 0#32
  let v178 : BitVec 1 := Scalar.cmpi .ne v2 c0_i32_102
  let v179 : BitVec 32 := Scalar.extui v178
  let c0_i32_103 : BitVec 32 := 0#32
  let v180 : BitVec 1 := Scalar.cmpi .ne v179 c0_i32_103
  v180

def k0_off35 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_762 : BitVec 32 := 0#32
  let c0_i32_763 : BitVec 32 := 0#32
  ![v2.toNat, 0, 0]
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_104 : BitVec 32 := 1#32
  let v181 : BitVec 1 := Scalar.cmpi .ne v2 c1_i32_104
  let v182 : BitVec 32 := Scalar.extui v181
  let c0_i32_105 : BitVec 32 := 0#32
  let v183 : BitVec 1 := Scalar.cmpi .ne v182 c0_i32_105
  v183

def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_762 : BitVec 32 := 0#32
  let c0_i32_763 : BitVec 32 := 0#32
  ![v2.toNat, 0, 0]
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_106 : BitVec 32 := 2#32
  let v184 : BitVec 1 := Scalar.cmpi .ne v2 c2_i32_106
  let v185 : BitVec 32 := Scalar.extui v184
  let c0_i32_107 : BitVec 32 := 0#32
  let v186 : BitVec 1 := Scalar.cmpi .ne v185 c0_i32_107
  v186

def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_108 : BitVec 32 := 3#32
  let v187 : BitVec 1 := Scalar.cmpi .ne v2 c3_i32_108
  let v188 : BitVec 32 := Scalar.extui v187
  let c0_i32_109 : BitVec 32 := 0#32
  let v189 : BitVec 1 := Scalar.cmpi .ne v188 c0_i32_109
  v189

def k0_off38 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_110 : BitVec 32 := 4#32
  let v190 : BitVec 1 := Scalar.cmpi .ne v2 c4_i32_110
  let v191 : BitVec 32 := Scalar.extui v190
  let c0_i32_111 : BitVec 32 := 0#32
  let v192 : BitVec 1 := Scalar.cmpi .ne v191 c0_i32_111
  v192

def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_112 : BitVec 32 := 5#32
  let v193 : BitVec 1 := Scalar.cmpi .ne v2 c5_i32_112
  let v194 : BitVec 32 := Scalar.extui v193
  let c0_i32_113 : BitVec 32 := 0#32
  let v195 : BitVec 1 := Scalar.cmpi .ne v194 c0_i32_113
  v195

def k0_off40 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_114 : BitVec 32 := 6#32
  let v196 : BitVec 1 := Scalar.cmpi .ne v2 c6_i32_114
  let v197 : BitVec 32 := Scalar.extui v196
  let c0_i32_115 : BitVec 32 := 0#32
  let v198 : BitVec 1 := Scalar.cmpi .ne v197 c0_i32_115
  v198

def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_116 : BitVec 32 := 7#32
  let v199 : BitVec 1 := Scalar.cmpi .ne v2 c7_i32_116
  let v200 : BitVec 32 := Scalar.extui v199
  let c0_i32_117 : BitVec 32 := 0#32
  let v201 : BitVec 1 := Scalar.cmpi .ne v200 c0_i32_117
  v201

def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_118 : BitVec 32 := 8#32
  let v202 : BitVec 1 := Scalar.cmpi .ne v2 c8_i32_118
  let v203 : BitVec 32 := Scalar.extui v202
  let c0_i32_119 : BitVec 32 := 0#32
  let v204 : BitVec 1 := Scalar.cmpi .ne v203 c0_i32_119
  v204

def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_120 : BitVec 32 := 9#32
  let v205 : BitVec 1 := Scalar.cmpi .ne v2 c9_i32_120
  let v206 : BitVec 32 := Scalar.extui v205
  let c0_i32_121 : BitVec 32 := 0#32
  let v207 : BitVec 1 := Scalar.cmpi .ne v206 c0_i32_121
  v207

def k0_off44 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond59 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_122 : BitVec 32 := 10#32
  let v208 : BitVec 1 := Scalar.cmpi .ne v2 c10_i32_122
  let v209 : BitVec 32 := Scalar.extui v208
  let c0_i32_123 : BitVec 32 := 0#32
  let v210 : BitVec 1 := Scalar.cmpi .ne v209 c0_i32_123
  v210

def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_124 : BitVec 32 := 11#32
  let v211 : BitVec 1 := Scalar.cmpi .ne v2 c11_i32_124
  let v212 : BitVec 32 := Scalar.extui v211
  let c0_i32_125 : BitVec 32 := 0#32
  let v213 : BitVec 1 := Scalar.cmpi .ne v212 c0_i32_125
  v213

def k0_off46 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_126 : BitVec 32 := 12#32
  let v214 : BitVec 1 := Scalar.cmpi .ne v2 c12_i32_126
  let v215 : BitVec 32 := Scalar.extui v214
  let c0_i32_127 : BitVec 32 := 0#32
  let v216 : BitVec 1 := Scalar.cmpi .ne v215 c0_i32_127
  v216

def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_128 : BitVec 32 := 13#32
  let v217 : BitVec 1 := Scalar.cmpi .ne v2 c13_i32_128
  let v218 : BitVec 32 := Scalar.extui v217
  let c0_i32_129 : BitVec 32 := 0#32
  let v219 : BitVec 1 := Scalar.cmpi .ne v218 c0_i32_129
  v219

def k0_off48 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_130 : BitVec 32 := 14#32
  let v220 : BitVec 1 := Scalar.cmpi .ne v2 c14_i32_130
  let v221 : BitVec 32 := Scalar.extui v220
  let c0_i32_131 : BitVec 32 := 0#32
  let v222 : BitVec 1 := Scalar.cmpi .ne v221 c0_i32_131
  v222

def k0_off49 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_132 : BitVec 32 := 15#32
  let v223 : BitVec 1 := Scalar.cmpi .ne v2 c15_i32_132
  let v224 : BitVec 32 := Scalar.extui v223
  let c0_i32_133 : BitVec 32 := 0#32
  let v225 : BitVec 1 := Scalar.cmpi .ne v224 c0_i32_133
  v225

def k0_off50 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond65 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_134 : BitVec 32 := 0#32
  let v226 : BitVec 1 := Scalar.cmpi .ne v2 c0_i32_134
  let v227 : BitVec 32 := Scalar.extui v226
  let c0_i32_135 : BitVec 32 := 0#32
  let v228 : BitVec 1 := Scalar.cmpi .ne v227 c0_i32_135
  v228

def k0_off51 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off52 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev33 : Nat :=
  let c0_i32_762 : BitVec 32 := 0#32
  let c0_i32_760 : BitVec 32 := 0#32
  let c1_i32_761 : BitVec 32 := 1#32
  let v1118 : BitVec 32 := Scalar.muli c0_i32_760 c1_i32_761
  let v1119 : BitVec 32 := Scalar.addi c0_i32_762 v1118
  v1119.toNat
def k0_cond66 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_136 : BitVec 32 := 1#32
  let v229 : BitVec 1 := Scalar.cmpi .ne v2 c1_i32_136
  let v230 : BitVec 32 := Scalar.extui v229
  let c0_i32_137 : BitVec 32 := 0#32
  let v231 : BitVec 1 := Scalar.cmpi .ne v230 c0_i32_137
  v231

def k0_off53 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off54 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev34 : Nat :=
  let c0_i32_762 : BitVec 32 := 0#32
  let c1_i32_760 : BitVec 32 := 1#32
  let c1_i32_761 : BitVec 32 := 1#32
  let v1118 : BitVec 32 := Scalar.muli c1_i32_760 c1_i32_761
  let v1119 : BitVec 32 := Scalar.addi c0_i32_762 v1118
  v1119.toNat
def k0_cond67 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_138 : BitVec 32 := 2#32
  let v232 : BitVec 1 := Scalar.cmpi .ne v2 c2_i32_138
  let v233 : BitVec 32 := Scalar.extui v232
  let c0_i32_139 : BitVec 32 := 0#32
  let v234 : BitVec 1 := Scalar.cmpi .ne v233 c0_i32_139
  v234

def k0_off55 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off56 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev35 : Nat :=
  let c0_i32_762 : BitVec 32 := 0#32
  let c2_i32_760 : BitVec 32 := 2#32
  let c1_i32_761 : BitVec 32 := 1#32
  let v1118 : BitVec 32 := Scalar.muli c2_i32_760 c1_i32_761
  let v1119 : BitVec 32 := Scalar.addi c0_i32_762 v1118
  v1119.toNat
def k0_cond68 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_140 : BitVec 32 := 3#32
  let v235 : BitVec 1 := Scalar.cmpi .ne v2 c3_i32_140
  let v236 : BitVec 32 := Scalar.extui v235
  let c0_i32_141 : BitVec 32 := 0#32
  let v237 : BitVec 1 := Scalar.cmpi .ne v236 c0_i32_141
  v237

def k0_off57 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off58 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev36 : Nat :=
  let c0_i32_762 : BitVec 32 := 0#32
  let c3_i32_760 : BitVec 32 := 3#32
  let c1_i32_761 : BitVec 32 := 1#32
  let v1118 : BitVec 32 := Scalar.muli c3_i32_760 c1_i32_761
  let v1119 : BitVec 32 := Scalar.addi c0_i32_762 v1118
  v1119.toNat
def k0_cond69 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_142 : BitVec 32 := 4#32
  let v238 : BitVec 1 := Scalar.cmpi .ne v2 c4_i32_142
  let v239 : BitVec 32 := Scalar.extui v238
  let c0_i32_143 : BitVec 32 := 0#32
  let v240 : BitVec 1 := Scalar.cmpi .ne v239 c0_i32_143
  v240

def k0_off59 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off60 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev37 : Nat :=
  let c0_i32_762 : BitVec 32 := 0#32
  let c4_i32_760 : BitVec 32 := 4#32
  let c1_i32_761 : BitVec 32 := 1#32
  let v1118 : BitVec 32 := Scalar.muli c4_i32_760 c1_i32_761
  let v1119 : BitVec 32 := Scalar.addi c0_i32_762 v1118
  v1119.toNat
def k0_cond70 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_144 : BitVec 32 := 5#32
  let v241 : BitVec 1 := Scalar.cmpi .ne v2 c5_i32_144
  let v242 : BitVec 32 := Scalar.extui v241
  let c0_i32_145 : BitVec 32 := 0#32
  let v243 : BitVec 1 := Scalar.cmpi .ne v242 c0_i32_145
  v243

def k0_off61 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off62 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev38 : Nat :=
  let c0_i32_762 : BitVec 32 := 0#32
  let c5_i32_760 : BitVec 32 := 5#32
  let c1_i32_761 : BitVec 32 := 1#32
  let v1118 : BitVec 32 := Scalar.muli c5_i32_760 c1_i32_761
  let v1119 : BitVec 32 := Scalar.addi c0_i32_762 v1118
  v1119.toNat
def k0_cond71 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_146 : BitVec 32 := 6#32
  let v244 : BitVec 1 := Scalar.cmpi .ne v2 c6_i32_146
  let v245 : BitVec 32 := Scalar.extui v244
  let c0_i32_147 : BitVec 32 := 0#32
  let v246 : BitVec 1 := Scalar.cmpi .ne v245 c0_i32_147
  v246

def k0_off63 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off64 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev39 : Nat :=
  let c0_i32_762 : BitVec 32 := 0#32
  let c6_i32_760 : BitVec 32 := 6#32
  let c1_i32_761 : BitVec 32 := 1#32
  let v1118 : BitVec 32 := Scalar.muli c6_i32_760 c1_i32_761
  let v1119 : BitVec 32 := Scalar.addi c0_i32_762 v1118
  v1119.toNat
def k0_cond72 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_148 : BitVec 32 := 7#32
  let v247 : BitVec 1 := Scalar.cmpi .ne v2 c7_i32_148
  let v248 : BitVec 32 := Scalar.extui v247
  let c0_i32_149 : BitVec 32 := 0#32
  let v249 : BitVec 1 := Scalar.cmpi .ne v248 c0_i32_149
  v249

def k0_off65 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off66 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev40 : Nat :=
  let c0_i32_762 : BitVec 32 := 0#32
  let c7_i32_760 : BitVec 32 := 7#32
  let c1_i32_761 : BitVec 32 := 1#32
  let v1118 : BitVec 32 := Scalar.muli c7_i32_760 c1_i32_761
  let v1119 : BitVec 32 := Scalar.addi c0_i32_762 v1118
  v1119.toNat
def k0_cond73 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_150 : BitVec 32 := 8#32
  let v250 : BitVec 1 := Scalar.cmpi .ne v2 c8_i32_150
  let v251 : BitVec 32 := Scalar.extui v250
  let c0_i32_151 : BitVec 32 := 0#32
  let v252 : BitVec 1 := Scalar.cmpi .ne v251 c0_i32_151
  v252

def k0_off67 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off68 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev41 : Nat :=
  let c0_i32_762 : BitVec 32 := 0#32
  let c8_i32_760 : BitVec 32 := 8#32
  let c1_i32_761 : BitVec 32 := 1#32
  let v1118 : BitVec 32 := Scalar.muli c8_i32_760 c1_i32_761
  let v1119 : BitVec 32 := Scalar.addi c0_i32_762 v1118
  v1119.toNat
def k0_cond74 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_152 : BitVec 32 := 9#32
  let v253 : BitVec 1 := Scalar.cmpi .ne v2 c9_i32_152
  let v254 : BitVec 32 := Scalar.extui v253
  let c0_i32_153 : BitVec 32 := 0#32
  let v255 : BitVec 1 := Scalar.cmpi .ne v254 c0_i32_153
  v255

def k0_off69 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off70 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev42 : Nat :=
  let c0_i32_762 : BitVec 32 := 0#32
  let c9_i32_760 : BitVec 32 := 9#32
  let c1_i32_761 : BitVec 32 := 1#32
  let v1118 : BitVec 32 := Scalar.muli c9_i32_760 c1_i32_761
  let v1119 : BitVec 32 := Scalar.addi c0_i32_762 v1118
  v1119.toNat
def k0_cond75 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_154 : BitVec 32 := 10#32
  let v256 : BitVec 1 := Scalar.cmpi .ne v2 c10_i32_154
  let v257 : BitVec 32 := Scalar.extui v256
  let c0_i32_155 : BitVec 32 := 0#32
  let v258 : BitVec 1 := Scalar.cmpi .ne v257 c0_i32_155
  v258

def k0_off71 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off72 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev43 : Nat :=
  let c0_i32_762 : BitVec 32 := 0#32
  let c10_i32_760 : BitVec 32 := 10#32
  let c1_i32_761 : BitVec 32 := 1#32
  let v1118 : BitVec 32 := Scalar.muli c10_i32_760 c1_i32_761
  let v1119 : BitVec 32 := Scalar.addi c0_i32_762 v1118
  v1119.toNat
def k0_cond76 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_156 : BitVec 32 := 11#32
  let v259 : BitVec 1 := Scalar.cmpi .ne v2 c11_i32_156
  let v260 : BitVec 32 := Scalar.extui v259
  let c0_i32_157 : BitVec 32 := 0#32
  let v261 : BitVec 1 := Scalar.cmpi .ne v260 c0_i32_157
  v261

def k0_off73 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off74 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev44 : Nat :=
  let c0_i32_762 : BitVec 32 := 0#32
  let c11_i32_760 : BitVec 32 := 11#32
  let c1_i32_761 : BitVec 32 := 1#32
  let v1118 : BitVec 32 := Scalar.muli c11_i32_760 c1_i32_761
  let v1119 : BitVec 32 := Scalar.addi c0_i32_762 v1118
  v1119.toNat
def k0_cond77 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_158 : BitVec 32 := 12#32
  let v262 : BitVec 1 := Scalar.cmpi .ne v2 c12_i32_158
  let v263 : BitVec 32 := Scalar.extui v262
  let c0_i32_159 : BitVec 32 := 0#32
  let v264 : BitVec 1 := Scalar.cmpi .ne v263 c0_i32_159
  v264

def k0_off75 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off76 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev45 : Nat :=
  let c0_i32_762 : BitVec 32 := 0#32
  let c12_i32_760 : BitVec 32 := 12#32
  let c1_i32_761 : BitVec 32 := 1#32
  let v1118 : BitVec 32 := Scalar.muli c12_i32_760 c1_i32_761
  let v1119 : BitVec 32 := Scalar.addi c0_i32_762 v1118
  v1119.toNat
def k0_cond78 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_160 : BitVec 32 := 13#32
  let v265 : BitVec 1 := Scalar.cmpi .ne v2 c13_i32_160
  let v266 : BitVec 32 := Scalar.extui v265
  let c0_i32_161 : BitVec 32 := 0#32
  let v267 : BitVec 1 := Scalar.cmpi .ne v266 c0_i32_161
  v267

def k0_off77 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off78 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev46 : Nat :=
  let c0_i32_762 : BitVec 32 := 0#32
  let c13_i32_760 : BitVec 32 := 13#32
  let c1_i32_761 : BitVec 32 := 1#32
  let v1118 : BitVec 32 := Scalar.muli c13_i32_760 c1_i32_761
  let v1119 : BitVec 32 := Scalar.addi c0_i32_762 v1118
  v1119.toNat
def k0_cond79 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_162 : BitVec 32 := 14#32
  let v268 : BitVec 1 := Scalar.cmpi .ne v2 c14_i32_162
  let v269 : BitVec 32 := Scalar.extui v268
  let c0_i32_163 : BitVec 32 := 0#32
  let v270 : BitVec 1 := Scalar.cmpi .ne v269 c0_i32_163
  v270

def k0_off79 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off80 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev47 : Nat :=
  let c0_i32_762 : BitVec 32 := 0#32
  let c14_i32_760 : BitVec 32 := 14#32
  let c1_i32_761 : BitVec 32 := 1#32
  let v1118 : BitVec 32 := Scalar.muli c14_i32_760 c1_i32_761
  let v1119 : BitVec 32 := Scalar.addi c0_i32_762 v1118
  v1119.toNat
def k0_cond80 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_164 : BitVec 32 := 15#32
  let v271 : BitVec 1 := Scalar.cmpi .ne v2 c15_i32_164
  let v272 : BitVec 32 := Scalar.extui v271
  let c0_i32_165 : BitVec 32 := 0#32
  let v273 : BitVec 1 := Scalar.cmpi .ne v272 c0_i32_165
  v273

def k0_off81 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off82 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev48 : Nat :=
  let c0_i32_762 : BitVec 32 := 0#32
  let c15_i32_760 : BitVec 32 := 15#32
  let c1_i32_761 : BitVec 32 := 1#32
  let v1118 : BitVec 32 := Scalar.muli c15_i32_760 c1_i32_761
  let v1119 : BitVec 32 := Scalar.addi c0_i32_762 v1118
  v1119.toNat
def k0_cond85 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_189 : BitVec 32 := 0#32
  let v305 : BitVec 1 := Scalar.cmpi .ne v2 c0_i32_189
  let v306 : BitVec 32 := Scalar.extui v305
  let c0_i32_190 : BitVec 32 := 0#32
  let v307 : BitVec 1 := Scalar.cmpi .ne v306 c0_i32_190
  v307

def k0_off83 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off84 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev49 : Nat :=
  let c0_i32_760 : BitVec 32 := 0#32
  let c0_i32_758 : BitVec 32 := 0#32
  let c1_i32_759 : BitVec 32 := 1#32
  let v1117 : BitVec 32 := Scalar.muli c0_i32_758 c1_i32_759
  let v1118 : BitVec 32 := Scalar.addi c0_i32_760 v1117
  v1118.toNat
def k0_cond86 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_191 : BitVec 32 := 1#32
  let v308 : BitVec 1 := Scalar.cmpi .ne v2 c1_i32_191
  let v309 : BitVec 32 := Scalar.extui v308
  let c0_i32_192 : BitVec 32 := 0#32
  let v310 : BitVec 1 := Scalar.cmpi .ne v309 c0_i32_192
  v310

def k0_off85 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off86 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev50 : Nat :=
  let c0_i32_760 : BitVec 32 := 0#32
  let c1_i32_758 : BitVec 32 := 1#32
  let c1_i32_759 : BitVec 32 := 1#32
  let v1117 : BitVec 32 := Scalar.muli c1_i32_758 c1_i32_759
  let v1118 : BitVec 32 := Scalar.addi c0_i32_760 v1117
  v1118.toNat
def k0_cond87 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_193 : BitVec 32 := 2#32
  let v311 : BitVec 1 := Scalar.cmpi .ne v2 c2_i32_193
  let v312 : BitVec 32 := Scalar.extui v311
  let c0_i32_194 : BitVec 32 := 0#32
  let v313 : BitVec 1 := Scalar.cmpi .ne v312 c0_i32_194
  v313

def k0_off87 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off88 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev51 : Nat :=
  let c0_i32_760 : BitVec 32 := 0#32
  let c2_i32_758 : BitVec 32 := 2#32
  let c1_i32_759 : BitVec 32 := 1#32
  let v1117 : BitVec 32 := Scalar.muli c2_i32_758 c1_i32_759
  let v1118 : BitVec 32 := Scalar.addi c0_i32_760 v1117
  v1118.toNat
def k0_cond88 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_195 : BitVec 32 := 3#32
  let v314 : BitVec 1 := Scalar.cmpi .ne v2 c3_i32_195
  let v315 : BitVec 32 := Scalar.extui v314
  let c0_i32_196 : BitVec 32 := 0#32
  let v316 : BitVec 1 := Scalar.cmpi .ne v315 c0_i32_196
  v316

def k0_off89 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off90 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev52 : Nat :=
  let c0_i32_760 : BitVec 32 := 0#32
  let c3_i32_758 : BitVec 32 := 3#32
  let c1_i32_759 : BitVec 32 := 1#32
  let v1117 : BitVec 32 := Scalar.muli c3_i32_758 c1_i32_759
  let v1118 : BitVec 32 := Scalar.addi c0_i32_760 v1117
  v1118.toNat
def k0_cond93 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_214 : BitVec 32 := 4#32
  let v341 : BitVec 1 := Scalar.cmpi .ne v2 c4_i32_214
  let v342 : BitVec 32 := Scalar.extui v341
  let c0_i32_215 : BitVec 32 := 0#32
  let v343 : BitVec 1 := Scalar.cmpi .ne v342 c0_i32_215
  v343

def k0_off91 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off92 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev53 : Nat :=
  let c0_i32_760 : BitVec 32 := 0#32
  let c4_i32_758 : BitVec 32 := 4#32
  let c1_i32_759 : BitVec 32 := 1#32
  let v1117 : BitVec 32 := Scalar.muli c4_i32_758 c1_i32_759
  let v1118 : BitVec 32 := Scalar.addi c0_i32_760 v1117
  v1118.toNat
def k0_cond94 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_216 : BitVec 32 := 5#32
  let v344 : BitVec 1 := Scalar.cmpi .ne v2 c5_i32_216
  let v345 : BitVec 32 := Scalar.extui v344
  let c0_i32_217 : BitVec 32 := 0#32
  let v346 : BitVec 1 := Scalar.cmpi .ne v345 c0_i32_217
  v346

def k0_off93 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off94 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev54 : Nat :=
  let c0_i32_760 : BitVec 32 := 0#32
  let c5_i32_758 : BitVec 32 := 5#32
  let c1_i32_759 : BitVec 32 := 1#32
  let v1117 : BitVec 32 := Scalar.muli c5_i32_758 c1_i32_759
  let v1118 : BitVec 32 := Scalar.addi c0_i32_760 v1117
  v1118.toNat
def k0_cond95 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_218 : BitVec 32 := 6#32
  let v347 : BitVec 1 := Scalar.cmpi .ne v2 c6_i32_218
  let v348 : BitVec 32 := Scalar.extui v347
  let c0_i32_219 : BitVec 32 := 0#32
  let v349 : BitVec 1 := Scalar.cmpi .ne v348 c0_i32_219
  v349

def k0_off95 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off96 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev55 : Nat :=
  let c0_i32_760 : BitVec 32 := 0#32
  let c6_i32_758 : BitVec 32 := 6#32
  let c1_i32_759 : BitVec 32 := 1#32
  let v1117 : BitVec 32 := Scalar.muli c6_i32_758 c1_i32_759
  let v1118 : BitVec 32 := Scalar.addi c0_i32_760 v1117
  v1118.toNat
def k0_cond96 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_220 : BitVec 32 := 7#32
  let v350 : BitVec 1 := Scalar.cmpi .ne v2 c7_i32_220
  let v351 : BitVec 32 := Scalar.extui v350
  let c0_i32_221 : BitVec 32 := 0#32
  let v352 : BitVec 1 := Scalar.cmpi .ne v351 c0_i32_221
  v352

def k0_off97 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off98 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev56 : Nat :=
  let c0_i32_760 : BitVec 32 := 0#32
  let c7_i32_758 : BitVec 32 := 7#32
  let c1_i32_759 : BitVec 32 := 1#32
  let v1117 : BitVec 32 := Scalar.muli c7_i32_758 c1_i32_759
  let v1118 : BitVec 32 := Scalar.addi c0_i32_760 v1117
  v1118.toNat
def k0_cond101 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_239 : BitVec 32 := 8#32
  let v377 : BitVec 1 := Scalar.cmpi .ne v2 c8_i32_239
  let v378 : BitVec 32 := Scalar.extui v377
  let c0_i32_240 : BitVec 32 := 0#32
  let v379 : BitVec 1 := Scalar.cmpi .ne v378 c0_i32_240
  v379

def k0_off99 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off100 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev57 : Nat :=
  let c0_i32_760 : BitVec 32 := 0#32
  let c8_i32_758 : BitVec 32 := 8#32
  let c1_i32_759 : BitVec 32 := 1#32
  let v1117 : BitVec 32 := Scalar.muli c8_i32_758 c1_i32_759
  let v1118 : BitVec 32 := Scalar.addi c0_i32_760 v1117
  v1118.toNat
def k0_cond102 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_241 : BitVec 32 := 9#32
  let v380 : BitVec 1 := Scalar.cmpi .ne v2 c9_i32_241
  let v381 : BitVec 32 := Scalar.extui v380
  let c0_i32_242 : BitVec 32 := 0#32
  let v382 : BitVec 1 := Scalar.cmpi .ne v381 c0_i32_242
  v382

def k0_off101 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off102 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev58 : Nat :=
  let c0_i32_760 : BitVec 32 := 0#32
  let c9_i32_758 : BitVec 32 := 9#32
  let c1_i32_759 : BitVec 32 := 1#32
  let v1117 : BitVec 32 := Scalar.muli c9_i32_758 c1_i32_759
  let v1118 : BitVec 32 := Scalar.addi c0_i32_760 v1117
  v1118.toNat
def k0_cond103 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_243 : BitVec 32 := 10#32
  let v383 : BitVec 1 := Scalar.cmpi .ne v2 c10_i32_243
  let v384 : BitVec 32 := Scalar.extui v383
  let c0_i32_244 : BitVec 32 := 0#32
  let v385 : BitVec 1 := Scalar.cmpi .ne v384 c0_i32_244
  v385

def k0_off103 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off104 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev59 : Nat :=
  let c0_i32_760 : BitVec 32 := 0#32
  let c10_i32_758 : BitVec 32 := 10#32
  let c1_i32_759 : BitVec 32 := 1#32
  let v1117 : BitVec 32 := Scalar.muli c10_i32_758 c1_i32_759
  let v1118 : BitVec 32 := Scalar.addi c0_i32_760 v1117
  v1118.toNat
def k0_cond104 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_245 : BitVec 32 := 11#32
  let v386 : BitVec 1 := Scalar.cmpi .ne v2 c11_i32_245
  let v387 : BitVec 32 := Scalar.extui v386
  let c0_i32_246 : BitVec 32 := 0#32
  let v388 : BitVec 1 := Scalar.cmpi .ne v387 c0_i32_246
  v388

def k0_off105 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off106 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev60 : Nat :=
  let c0_i32_760 : BitVec 32 := 0#32
  let c11_i32_758 : BitVec 32 := 11#32
  let c1_i32_759 : BitVec 32 := 1#32
  let v1117 : BitVec 32 := Scalar.muli c11_i32_758 c1_i32_759
  let v1118 : BitVec 32 := Scalar.addi c0_i32_760 v1117
  v1118.toNat
def k0_cond109 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_264 : BitVec 32 := 12#32
  let v413 : BitVec 1 := Scalar.cmpi .ne v2 c12_i32_264
  let v414 : BitVec 32 := Scalar.extui v413
  let c0_i32_265 : BitVec 32 := 0#32
  let v415 : BitVec 1 := Scalar.cmpi .ne v414 c0_i32_265
  v415

def k0_off107 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off108 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev61 : Nat :=
  let c0_i32_760 : BitVec 32 := 0#32
  let c12_i32_758 : BitVec 32 := 12#32
  let c1_i32_759 : BitVec 32 := 1#32
  let v1117 : BitVec 32 := Scalar.muli c12_i32_758 c1_i32_759
  let v1118 : BitVec 32 := Scalar.addi c0_i32_760 v1117
  v1118.toNat
def k0_cond110 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_266 : BitVec 32 := 13#32
  let v416 : BitVec 1 := Scalar.cmpi .ne v2 c13_i32_266
  let v417 : BitVec 32 := Scalar.extui v416
  let c0_i32_267 : BitVec 32 := 0#32
  let v418 : BitVec 1 := Scalar.cmpi .ne v417 c0_i32_267
  v418

def k0_off109 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off110 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev62 : Nat :=
  let c0_i32_760 : BitVec 32 := 0#32
  let c13_i32_758 : BitVec 32 := 13#32
  let c1_i32_759 : BitVec 32 := 1#32
  let v1117 : BitVec 32 := Scalar.muli c13_i32_758 c1_i32_759
  let v1118 : BitVec 32 := Scalar.addi c0_i32_760 v1117
  v1118.toNat
def k0_cond111 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_268 : BitVec 32 := 14#32
  let v419 : BitVec 1 := Scalar.cmpi .ne v2 c14_i32_268
  let v420 : BitVec 32 := Scalar.extui v419
  let c0_i32_269 : BitVec 32 := 0#32
  let v421 : BitVec 1 := Scalar.cmpi .ne v420 c0_i32_269
  v421

def k0_off111 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off112 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev63 : Nat :=
  let c0_i32_760 : BitVec 32 := 0#32
  let c14_i32_758 : BitVec 32 := 14#32
  let c1_i32_759 : BitVec 32 := 1#32
  let v1117 : BitVec 32 := Scalar.muli c14_i32_758 c1_i32_759
  let v1118 : BitVec 32 := Scalar.addi c0_i32_760 v1117
  v1118.toNat
def k0_cond112 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_270 : BitVec 32 := 15#32
  let v422 : BitVec 1 := Scalar.cmpi .ne v2 c15_i32_270
  let v423 : BitVec 32 := Scalar.extui v422
  let c0_i32_271 : BitVec 32 := 0#32
  let v424 : BitVec 1 := Scalar.cmpi .ne v423 c0_i32_271
  v424

def k0_off113 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off114 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev64 : Nat :=
  let c0_i32_760 : BitVec 32 := 0#32
  let c15_i32_758 : BitVec 32 := 15#32
  let c1_i32_759 : BitVec 32 := 1#32
  let v1117 : BitVec 32 := Scalar.muli c15_i32_758 c1_i32_759
  let v1118 : BitVec 32 := Scalar.addi c0_i32_760 v1117
  v1118.toNat
def k0_cond129 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_315 : BitVec 32 := 0#32
  let v490 : BitVec 1 := Scalar.cmpi .ne v2 c0_i32_315
  let v491 : BitVec 32 := Scalar.extui v490
  let c0_i32_316 : BitVec 32 := 0#32
  let v492 : BitVec 1 := Scalar.cmpi .ne v491 c0_i32_316
  v492

def k0_off115 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_762 : BitVec 32 := 0#32
  let c0_i32_763 : BitVec 32 := 0#32
  ![v2.toNat, 0, 0]
def k0_cond130 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_317 : BitVec 32 := 1#32
  let v493 : BitVec 1 := Scalar.cmpi .ne v2 c1_i32_317
  let v494 : BitVec 32 := Scalar.extui v493
  let c0_i32_318 : BitVec 32 := 0#32
  let v495 : BitVec 1 := Scalar.cmpi .ne v494 c0_i32_318
  v495

def k0_off116 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_762 : BitVec 32 := 0#32
  let c0_i32_763 : BitVec 32 := 0#32
  ![v2.toNat, 0, 0]
def k0_cond131 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_319 : BitVec 32 := 2#32
  let v496 : BitVec 1 := Scalar.cmpi .ne v2 c2_i32_319
  let v497 : BitVec 32 := Scalar.extui v496
  let c0_i32_320 : BitVec 32 := 0#32
  let v498 : BitVec 1 := Scalar.cmpi .ne v497 c0_i32_320
  v498

def k0_off117 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond132 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_321 : BitVec 32 := 3#32
  let v499 : BitVec 1 := Scalar.cmpi .ne v2 c3_i32_321
  let v500 : BitVec 32 := Scalar.extui v499
  let c0_i32_322 : BitVec 32 := 0#32
  let v501 : BitVec 1 := Scalar.cmpi .ne v500 c0_i32_322
  v501

def k0_off118 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond133 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v502 : BitVec 1 := Scalar.cmpi .ne v2 c4_i32_323
  let v503 : BitVec 32 := Scalar.extui v502
  let c0_i32_324 : BitVec 32 := 0#32
  let v504 : BitVec 1 := Scalar.cmpi .ne v503 c0_i32_324
  v504

def k0_off119 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond134 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_325 : BitVec 32 := 5#32
  let v505 : BitVec 1 := Scalar.cmpi .ne v2 c5_i32_325
  let v506 : BitVec 32 := Scalar.extui v505
  let c0_i32_326 : BitVec 32 := 0#32
  let v507 : BitVec 1 := Scalar.cmpi .ne v506 c0_i32_326
  v507

def k0_off120 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond135 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_327 : BitVec 32 := 6#32
  let v508 : BitVec 1 := Scalar.cmpi .ne v2 c6_i32_327
  let v509 : BitVec 32 := Scalar.extui v508
  let c0_i32_328 : BitVec 32 := 0#32
  let v510 : BitVec 1 := Scalar.cmpi .ne v509 c0_i32_328
  v510

def k0_off121 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond136 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_329 : BitVec 32 := 7#32
  let v511 : BitVec 1 := Scalar.cmpi .ne v2 c7_i32_329
  let v512 : BitVec 32 := Scalar.extui v511
  let c0_i32_330 : BitVec 32 := 0#32
  let v513 : BitVec 1 := Scalar.cmpi .ne v512 c0_i32_330
  v513

def k0_off122 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond137 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_331 : BitVec 32 := 8#32
  let v514 : BitVec 1 := Scalar.cmpi .ne v2 c8_i32_331
  let v515 : BitVec 32 := Scalar.extui v514
  let c0_i32_332 : BitVec 32 := 0#32
  let v516 : BitVec 1 := Scalar.cmpi .ne v515 c0_i32_332
  v516

def k0_off123 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond138 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_333 : BitVec 32 := 9#32
  let v517 : BitVec 1 := Scalar.cmpi .ne v2 c9_i32_333
  let v518 : BitVec 32 := Scalar.extui v517
  let c0_i32_334 : BitVec 32 := 0#32
  let v519 : BitVec 1 := Scalar.cmpi .ne v518 c0_i32_334
  v519

def k0_off124 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond139 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_335 : BitVec 32 := 10#32
  let v520 : BitVec 1 := Scalar.cmpi .ne v2 c10_i32_335
  let v521 : BitVec 32 := Scalar.extui v520
  let c0_i32_336 : BitVec 32 := 0#32
  let v522 : BitVec 1 := Scalar.cmpi .ne v521 c0_i32_336
  v522

def k0_off125 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond140 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_337 : BitVec 32 := 11#32
  let v523 : BitVec 1 := Scalar.cmpi .ne v2 c11_i32_337
  let v524 : BitVec 32 := Scalar.extui v523
  let c0_i32_338 : BitVec 32 := 0#32
  let v525 : BitVec 1 := Scalar.cmpi .ne v524 c0_i32_338
  v525

def k0_off126 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond141 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_339 : BitVec 32 := 12#32
  let v526 : BitVec 1 := Scalar.cmpi .ne v2 c12_i32_339
  let v527 : BitVec 32 := Scalar.extui v526
  let c0_i32_340 : BitVec 32 := 0#32
  let v528 : BitVec 1 := Scalar.cmpi .ne v527 c0_i32_340
  v528

def k0_off127 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond142 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_341 : BitVec 32 := 13#32
  let v529 : BitVec 1 := Scalar.cmpi .ne v2 c13_i32_341
  let v530 : BitVec 32 := Scalar.extui v529
  let c0_i32_342 : BitVec 32 := 0#32
  let v531 : BitVec 1 := Scalar.cmpi .ne v530 c0_i32_342
  v531

def k0_off128 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond143 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_343 : BitVec 32 := 14#32
  let v532 : BitVec 1 := Scalar.cmpi .ne v2 c14_i32_343
  let v533 : BitVec 32 := Scalar.extui v532
  let c0_i32_344 : BitVec 32 := 0#32
  let v534 : BitVec 1 := Scalar.cmpi .ne v533 c0_i32_344
  v534

def k0_off129 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond144 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_345 : BitVec 32 := 15#32
  let v535 : BitVec 1 := Scalar.cmpi .ne v2 c15_i32_345
  let v536 : BitVec 32 := Scalar.extui v535
  let c0_i32_346 : BitVec 32 := 0#32
  let v537 : BitVec 1 := Scalar.cmpi .ne v536 c0_i32_346
  v537

def k0_off130 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond145 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_347 : BitVec 32 := 0#32
  let v538 : BitVec 1 := Scalar.cmpi .ne v2 c0_i32_347
  let v539 : BitVec 32 := Scalar.extui v538
  let c0_i32_348 : BitVec 32 := 0#32
  let v540 : BitVec 1 := Scalar.cmpi .ne v539 c0_i32_348
  v540

def k0_off131 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond146 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_349 : BitVec 32 := 1#32
  let v541 : BitVec 1 := Scalar.cmpi .ne v2 c1_i32_349
  let v542 : BitVec 32 := Scalar.extui v541
  let c0_i32_350 : BitVec 32 := 0#32
  let v543 : BitVec 1 := Scalar.cmpi .ne v542 c0_i32_350
  v543

def k0_off132 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond147 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_351 : BitVec 32 := 2#32
  let v544 : BitVec 1 := Scalar.cmpi .ne v2 c2_i32_351
  let v545 : BitVec 32 := Scalar.extui v544
  let c0_i32_352 : BitVec 32 := 0#32
  let v546 : BitVec 1 := Scalar.cmpi .ne v545 c0_i32_352
  v546

def k0_off133 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond148 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_353 : BitVec 32 := 3#32
  let v547 : BitVec 1 := Scalar.cmpi .ne v2 c3_i32_353
  let v548 : BitVec 32 := Scalar.extui v547
  let c0_i32_354 : BitVec 32 := 0#32
  let v549 : BitVec 1 := Scalar.cmpi .ne v548 c0_i32_354
  v549

def k0_off134 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond149 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_355 : BitVec 32 := 4#32
  let v550 : BitVec 1 := Scalar.cmpi .ne v2 c4_i32_355
  let v551 : BitVec 32 := Scalar.extui v550
  let c0_i32_356 : BitVec 32 := 0#32
  let v552 : BitVec 1 := Scalar.cmpi .ne v551 c0_i32_356
  v552

def k0_off135 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond150 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_357 : BitVec 32 := 5#32
  let v553 : BitVec 1 := Scalar.cmpi .ne v2 c5_i32_357
  let v554 : BitVec 32 := Scalar.extui v553
  let c0_i32_358 : BitVec 32 := 0#32
  let v555 : BitVec 1 := Scalar.cmpi .ne v554 c0_i32_358
  v555

def k0_off136 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond151 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_359 : BitVec 32 := 6#32
  let v556 : BitVec 1 := Scalar.cmpi .ne v2 c6_i32_359
  let v557 : BitVec 32 := Scalar.extui v556
  let c0_i32_360 : BitVec 32 := 0#32
  let v558 : BitVec 1 := Scalar.cmpi .ne v557 c0_i32_360
  v558

def k0_off137 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond152 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_361 : BitVec 32 := 7#32
  let v559 : BitVec 1 := Scalar.cmpi .ne v2 c7_i32_361
  let v560 : BitVec 32 := Scalar.extui v559
  let c0_i32_362 : BitVec 32 := 0#32
  let v561 : BitVec 1 := Scalar.cmpi .ne v560 c0_i32_362
  v561

def k0_off138 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond153 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_363 : BitVec 32 := 8#32
  let v562 : BitVec 1 := Scalar.cmpi .ne v2 c8_i32_363
  let v563 : BitVec 32 := Scalar.extui v562
  let c0_i32_364 : BitVec 32 := 0#32
  let v564 : BitVec 1 := Scalar.cmpi .ne v563 c0_i32_364
  v564

def k0_off139 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond154 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_365 : BitVec 32 := 9#32
  let v565 : BitVec 1 := Scalar.cmpi .ne v2 c9_i32_365
  let v566 : BitVec 32 := Scalar.extui v565
  let c0_i32_366 : BitVec 32 := 0#32
  let v567 : BitVec 1 := Scalar.cmpi .ne v566 c0_i32_366
  v567

def k0_off140 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond155 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_367 : BitVec 32 := 10#32
  let v568 : BitVec 1 := Scalar.cmpi .ne v2 c10_i32_367
  let v569 : BitVec 32 := Scalar.extui v568
  let c0_i32_368 : BitVec 32 := 0#32
  let v570 : BitVec 1 := Scalar.cmpi .ne v569 c0_i32_368
  v570

def k0_off141 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond156 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_369 : BitVec 32 := 11#32
  let v571 : BitVec 1 := Scalar.cmpi .ne v2 c11_i32_369
  let v572 : BitVec 32 := Scalar.extui v571
  let c0_i32_370 : BitVec 32 := 0#32
  let v573 : BitVec 1 := Scalar.cmpi .ne v572 c0_i32_370
  v573

def k0_off142 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond157 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_371 : BitVec 32 := 12#32
  let v574 : BitVec 1 := Scalar.cmpi .ne v2 c12_i32_371
  let v575 : BitVec 32 := Scalar.extui v574
  let c0_i32_372 : BitVec 32 := 0#32
  let v576 : BitVec 1 := Scalar.cmpi .ne v575 c0_i32_372
  v576

def k0_off143 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond158 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_373 : BitVec 32 := 13#32
  let v577 : BitVec 1 := Scalar.cmpi .ne v2 c13_i32_373
  let v578 : BitVec 32 := Scalar.extui v577
  let c0_i32_374 : BitVec 32 := 0#32
  let v579 : BitVec 1 := Scalar.cmpi .ne v578 c0_i32_374
  v579

def k0_off144 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond159 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_375 : BitVec 32 := 14#32
  let v580 : BitVec 1 := Scalar.cmpi .ne v2 c14_i32_375
  let v581 : BitVec 32 := Scalar.extui v580
  let c0_i32_376 : BitVec 32 := 0#32
  let v582 : BitVec 1 := Scalar.cmpi .ne v581 c0_i32_376
  v582

def k0_off145 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond160 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_377 : BitVec 32 := 15#32
  let v583 : BitVec 1 := Scalar.cmpi .ne v2 c15_i32_377
  let v584 : BitVec 32 := Scalar.extui v583
  let c0_i32_378 : BitVec 32 := 0#32
  let v585 : BitVec 1 := Scalar.cmpi .ne v584 c0_i32_378
  v585

def k0_off146 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond161 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_379 : BitVec 32 := 0#32
  let v586 : BitVec 1 := Scalar.cmpi .ne v2 c0_i32_379
  let v587 : BitVec 32 := Scalar.extui v586
  let c0_i32_380 : BitVec 32 := 0#32
  let v588 : BitVec 1 := Scalar.cmpi .ne v587 c0_i32_380
  v588

def k0_off147 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off148 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev65 : Nat :=
  let c0_i32_762 : BitVec 32 := 0#32
  let c0_i32_760 : BitVec 32 := 0#32
  let c1_i32_761 : BitVec 32 := 1#32
  let v1118 : BitVec 32 := Scalar.muli c0_i32_760 c1_i32_761
  let v1119 : BitVec 32 := Scalar.addi c0_i32_762 v1118
  v1119.toNat
def k0_cond162 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_381 : BitVec 32 := 1#32
  let v589 : BitVec 1 := Scalar.cmpi .ne v2 c1_i32_381
  let v590 : BitVec 32 := Scalar.extui v589
  let c0_i32_382 : BitVec 32 := 0#32
  let v591 : BitVec 1 := Scalar.cmpi .ne v590 c0_i32_382
  v591

def k0_off149 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off150 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev66 : Nat :=
  let c0_i32_762 : BitVec 32 := 0#32
  let c1_i32_760 : BitVec 32 := 1#32
  let c1_i32_761 : BitVec 32 := 1#32
  let v1118 : BitVec 32 := Scalar.muli c1_i32_760 c1_i32_761
  let v1119 : BitVec 32 := Scalar.addi c0_i32_762 v1118
  v1119.toNat
def k0_cond163 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_383 : BitVec 32 := 2#32
  let v592 : BitVec 1 := Scalar.cmpi .ne v2 c2_i32_383
  let v593 : BitVec 32 := Scalar.extui v592
  let c0_i32_384 : BitVec 32 := 0#32
  let v594 : BitVec 1 := Scalar.cmpi .ne v593 c0_i32_384
  v594

def k0_off151 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off152 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev67 : Nat :=
  let c0_i32_762 : BitVec 32 := 0#32
  let c2_i32_760 : BitVec 32 := 2#32
  let c1_i32_761 : BitVec 32 := 1#32
  let v1118 : BitVec 32 := Scalar.muli c2_i32_760 c1_i32_761
  let v1119 : BitVec 32 := Scalar.addi c0_i32_762 v1118
  v1119.toNat
def k0_cond164 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_385 : BitVec 32 := 3#32
  let v595 : BitVec 1 := Scalar.cmpi .ne v2 c3_i32_385
  let v596 : BitVec 32 := Scalar.extui v595
  let c0_i32_386 : BitVec 32 := 0#32
  let v597 : BitVec 1 := Scalar.cmpi .ne v596 c0_i32_386
  v597

def k0_off153 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off154 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev68 : Nat :=
  let c0_i32_762 : BitVec 32 := 0#32
  let c3_i32_760 : BitVec 32 := 3#32
  let c1_i32_761 : BitVec 32 := 1#32
  let v1118 : BitVec 32 := Scalar.muli c3_i32_760 c1_i32_761
  let v1119 : BitVec 32 := Scalar.addi c0_i32_762 v1118
  v1119.toNat
def k0_cond165 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_387 : BitVec 32 := 4#32
  let v598 : BitVec 1 := Scalar.cmpi .ne v2 c4_i32_387
  let v599 : BitVec 32 := Scalar.extui v598
  let c0_i32_388 : BitVec 32 := 0#32
  let v600 : BitVec 1 := Scalar.cmpi .ne v599 c0_i32_388
  v600

def k0_off155 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off156 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev69 : Nat :=
  let c0_i32_762 : BitVec 32 := 0#32
  let c4_i32_760 : BitVec 32 := 4#32
  let c1_i32_761 : BitVec 32 := 1#32
  let v1118 : BitVec 32 := Scalar.muli c4_i32_760 c1_i32_761
  let v1119 : BitVec 32 := Scalar.addi c0_i32_762 v1118
  v1119.toNat
def k0_cond166 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_389 : BitVec 32 := 5#32
  let v601 : BitVec 1 := Scalar.cmpi .ne v2 c5_i32_389
  let v602 : BitVec 32 := Scalar.extui v601
  let c0_i32_390 : BitVec 32 := 0#32
  let v603 : BitVec 1 := Scalar.cmpi .ne v602 c0_i32_390
  v603

def k0_off157 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off158 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev70 : Nat :=
  let c0_i32_762 : BitVec 32 := 0#32
  let c5_i32_760 : BitVec 32 := 5#32
  let c1_i32_761 : BitVec 32 := 1#32
  let v1118 : BitVec 32 := Scalar.muli c5_i32_760 c1_i32_761
  let v1119 : BitVec 32 := Scalar.addi c0_i32_762 v1118
  v1119.toNat
def k0_cond167 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_391 : BitVec 32 := 6#32
  let v604 : BitVec 1 := Scalar.cmpi .ne v2 c6_i32_391
  let v605 : BitVec 32 := Scalar.extui v604
  let c0_i32_392 : BitVec 32 := 0#32
  let v606 : BitVec 1 := Scalar.cmpi .ne v605 c0_i32_392
  v606

def k0_off159 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off160 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev71 : Nat :=
  let c0_i32_762 : BitVec 32 := 0#32
  let c6_i32_760 : BitVec 32 := 6#32
  let c1_i32_761 : BitVec 32 := 1#32
  let v1118 : BitVec 32 := Scalar.muli c6_i32_760 c1_i32_761
  let v1119 : BitVec 32 := Scalar.addi c0_i32_762 v1118
  v1119.toNat
def k0_cond168 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_393 : BitVec 32 := 7#32
  let v607 : BitVec 1 := Scalar.cmpi .ne v2 c7_i32_393
  let v608 : BitVec 32 := Scalar.extui v607
  let c0_i32_394 : BitVec 32 := 0#32
  let v609 : BitVec 1 := Scalar.cmpi .ne v608 c0_i32_394
  v609

def k0_off161 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off162 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev72 : Nat :=
  let c0_i32_762 : BitVec 32 := 0#32
  let c7_i32_760 : BitVec 32 := 7#32
  let c1_i32_761 : BitVec 32 := 1#32
  let v1118 : BitVec 32 := Scalar.muli c7_i32_760 c1_i32_761
  let v1119 : BitVec 32 := Scalar.addi c0_i32_762 v1118
  v1119.toNat
def k0_cond169 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_395 : BitVec 32 := 8#32
  let v610 : BitVec 1 := Scalar.cmpi .ne v2 c8_i32_395
  let v611 : BitVec 32 := Scalar.extui v610
  let c0_i32_396 : BitVec 32 := 0#32
  let v612 : BitVec 1 := Scalar.cmpi .ne v611 c0_i32_396
  v612

def k0_off163 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off164 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev73 : Nat :=
  let c0_i32_762 : BitVec 32 := 0#32
  let c8_i32_760 : BitVec 32 := 8#32
  let c1_i32_761 : BitVec 32 := 1#32
  let v1118 : BitVec 32 := Scalar.muli c8_i32_760 c1_i32_761
  let v1119 : BitVec 32 := Scalar.addi c0_i32_762 v1118
  v1119.toNat
def k0_cond170 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_397 : BitVec 32 := 9#32
  let v613 : BitVec 1 := Scalar.cmpi .ne v2 c9_i32_397
  let v614 : BitVec 32 := Scalar.extui v613
  let c0_i32_398 : BitVec 32 := 0#32
  let v615 : BitVec 1 := Scalar.cmpi .ne v614 c0_i32_398
  v615

def k0_off165 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off166 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev74 : Nat :=
  let c0_i32_762 : BitVec 32 := 0#32
  let c9_i32_760 : BitVec 32 := 9#32
  let c1_i32_761 : BitVec 32 := 1#32
  let v1118 : BitVec 32 := Scalar.muli c9_i32_760 c1_i32_761
  let v1119 : BitVec 32 := Scalar.addi c0_i32_762 v1118
  v1119.toNat
def k0_cond171 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_399 : BitVec 32 := 10#32
  let v616 : BitVec 1 := Scalar.cmpi .ne v2 c10_i32_399
  let v617 : BitVec 32 := Scalar.extui v616
  let c0_i32_400 : BitVec 32 := 0#32
  let v618 : BitVec 1 := Scalar.cmpi .ne v617 c0_i32_400
  v618

def k0_off167 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off168 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev75 : Nat :=
  let c0_i32_762 : BitVec 32 := 0#32
  let c10_i32_760 : BitVec 32 := 10#32
  let c1_i32_761 : BitVec 32 := 1#32
  let v1118 : BitVec 32 := Scalar.muli c10_i32_760 c1_i32_761
  let v1119 : BitVec 32 := Scalar.addi c0_i32_762 v1118
  v1119.toNat
def k0_cond172 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_401 : BitVec 32 := 11#32
  let v619 : BitVec 1 := Scalar.cmpi .ne v2 c11_i32_401
  let v620 : BitVec 32 := Scalar.extui v619
  let c0_i32_402 : BitVec 32 := 0#32
  let v621 : BitVec 1 := Scalar.cmpi .ne v620 c0_i32_402
  v621

def k0_off169 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off170 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev76 : Nat :=
  let c0_i32_762 : BitVec 32 := 0#32
  let c11_i32_760 : BitVec 32 := 11#32
  let c1_i32_761 : BitVec 32 := 1#32
  let v1118 : BitVec 32 := Scalar.muli c11_i32_760 c1_i32_761
  let v1119 : BitVec 32 := Scalar.addi c0_i32_762 v1118
  v1119.toNat
def k0_cond173 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_403 : BitVec 32 := 12#32
  let v622 : BitVec 1 := Scalar.cmpi .ne v2 c12_i32_403
  let v623 : BitVec 32 := Scalar.extui v622
  let c0_i32_404 : BitVec 32 := 0#32
  let v624 : BitVec 1 := Scalar.cmpi .ne v623 c0_i32_404
  v624

def k0_off171 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off172 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev77 : Nat :=
  let c0_i32_762 : BitVec 32 := 0#32
  let c12_i32_760 : BitVec 32 := 12#32
  let c1_i32_761 : BitVec 32 := 1#32
  let v1118 : BitVec 32 := Scalar.muli c12_i32_760 c1_i32_761
  let v1119 : BitVec 32 := Scalar.addi c0_i32_762 v1118
  v1119.toNat
def k0_cond174 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_405 : BitVec 32 := 13#32
  let v625 : BitVec 1 := Scalar.cmpi .ne v2 c13_i32_405
  let v626 : BitVec 32 := Scalar.extui v625
  let c0_i32_406 : BitVec 32 := 0#32
  let v627 : BitVec 1 := Scalar.cmpi .ne v626 c0_i32_406
  v627

def k0_off173 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off174 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev78 : Nat :=
  let c0_i32_762 : BitVec 32 := 0#32
  let c13_i32_760 : BitVec 32 := 13#32
  let c1_i32_761 : BitVec 32 := 1#32
  let v1118 : BitVec 32 := Scalar.muli c13_i32_760 c1_i32_761
  let v1119 : BitVec 32 := Scalar.addi c0_i32_762 v1118
  v1119.toNat
def k0_cond175 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_407 : BitVec 32 := 14#32
  let v628 : BitVec 1 := Scalar.cmpi .ne v2 c14_i32_407
  let v629 : BitVec 32 := Scalar.extui v628
  let c0_i32_408 : BitVec 32 := 0#32
  let v630 : BitVec 1 := Scalar.cmpi .ne v629 c0_i32_408
  v630

def k0_off175 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off176 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev79 : Nat :=
  let c0_i32_762 : BitVec 32 := 0#32
  let c14_i32_760 : BitVec 32 := 14#32
  let c1_i32_761 : BitVec 32 := 1#32
  let v1118 : BitVec 32 := Scalar.muli c14_i32_760 c1_i32_761
  let v1119 : BitVec 32 := Scalar.addi c0_i32_762 v1118
  v1119.toNat
def k0_cond176 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_409 : BitVec 32 := 15#32
  let v631 : BitVec 1 := Scalar.cmpi .ne v2 c15_i32_409
  let v632 : BitVec 32 := Scalar.extui v631
  let c0_i32_410 : BitVec 32 := 0#32
  let v633 : BitVec 1 := Scalar.cmpi .ne v632 c0_i32_410
  v633

def k0_off177 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off178 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev80 : Nat :=
  let c0_i32_762 : BitVec 32 := 0#32
  let c15_i32_760 : BitVec 32 := 15#32
  let c1_i32_761 : BitVec 32 := 1#32
  let v1118 : BitVec 32 := Scalar.muli c15_i32_760 c1_i32_761
  let v1119 : BitVec 32 := Scalar.addi c0_i32_762 v1118
  v1119.toNat
def k0_cond181 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_434 : BitVec 32 := 0#32
  let v665 : BitVec 1 := Scalar.cmpi .ne v2 c0_i32_434
  let v666 : BitVec 32 := Scalar.extui v665
  let c0_i32_435 : BitVec 32 := 0#32
  let v667 : BitVec 1 := Scalar.cmpi .ne v666 c0_i32_435
  v667

def k0_off179 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off180 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev81 : Nat :=
  let c0_i32_760 : BitVec 32 := 0#32
  let c0_i32_758 : BitVec 32 := 0#32
  let c1_i32_759 : BitVec 32 := 1#32
  let v1117 : BitVec 32 := Scalar.muli c0_i32_758 c1_i32_759
  let v1118 : BitVec 32 := Scalar.addi c0_i32_760 v1117
  v1118.toNat
def k0_cond182 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_436 : BitVec 32 := 1#32
  let v668 : BitVec 1 := Scalar.cmpi .ne v2 c1_i32_436
  let v669 : BitVec 32 := Scalar.extui v668
  let c0_i32_437 : BitVec 32 := 0#32
  let v670 : BitVec 1 := Scalar.cmpi .ne v669 c0_i32_437
  v670

def k0_off181 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off182 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev82 : Nat :=
  let c0_i32_760 : BitVec 32 := 0#32
  let c1_i32_758 : BitVec 32 := 1#32
  let c1_i32_759 : BitVec 32 := 1#32
  let v1117 : BitVec 32 := Scalar.muli c1_i32_758 c1_i32_759
  let v1118 : BitVec 32 := Scalar.addi c0_i32_760 v1117
  v1118.toNat
def k0_cond183 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_438 : BitVec 32 := 2#32
  let v671 : BitVec 1 := Scalar.cmpi .ne v2 c2_i32_438
  let v672 : BitVec 32 := Scalar.extui v671
  let c0_i32_439 : BitVec 32 := 0#32
  let v673 : BitVec 1 := Scalar.cmpi .ne v672 c0_i32_439
  v673

def k0_off183 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off184 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev83 : Nat :=
  let c0_i32_760 : BitVec 32 := 0#32
  let c2_i32_758 : BitVec 32 := 2#32
  let c1_i32_759 : BitVec 32 := 1#32
  let v1117 : BitVec 32 := Scalar.muli c2_i32_758 c1_i32_759
  let v1118 : BitVec 32 := Scalar.addi c0_i32_760 v1117
  v1118.toNat
def k0_cond184 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_440 : BitVec 32 := 3#32
  let v674 : BitVec 1 := Scalar.cmpi .ne v2 c3_i32_440
  let v675 : BitVec 32 := Scalar.extui v674
  let c0_i32_441 : BitVec 32 := 0#32
  let v676 : BitVec 1 := Scalar.cmpi .ne v675 c0_i32_441
  v676

def k0_off185 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off186 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev84 : Nat :=
  let c0_i32_760 : BitVec 32 := 0#32
  let c3_i32_758 : BitVec 32 := 3#32
  let c1_i32_759 : BitVec 32 := 1#32
  let v1117 : BitVec 32 := Scalar.muli c3_i32_758 c1_i32_759
  let v1118 : BitVec 32 := Scalar.addi c0_i32_760 v1117
  v1118.toNat
def k0_cond189 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_460 : BitVec 32 := 4#32
  let v701 : BitVec 1 := Scalar.cmpi .ne v2 c4_i32_460
  let v702 : BitVec 32 := Scalar.extui v701
  let c0_i32_461 : BitVec 32 := 0#32
  let v703 : BitVec 1 := Scalar.cmpi .ne v702 c0_i32_461
  v703

def k0_off187 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off188 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev85 : Nat :=
  let c0_i32_760 : BitVec 32 := 0#32
  let c4_i32_758 : BitVec 32 := 4#32
  let c1_i32_759 : BitVec 32 := 1#32
  let v1117 : BitVec 32 := Scalar.muli c4_i32_758 c1_i32_759
  let v1118 : BitVec 32 := Scalar.addi c0_i32_760 v1117
  v1118.toNat
def k0_cond190 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_462 : BitVec 32 := 5#32
  let v704 : BitVec 1 := Scalar.cmpi .ne v2 c5_i32_462
  let v705 : BitVec 32 := Scalar.extui v704
  let c0_i32_463 : BitVec 32 := 0#32
  let v706 : BitVec 1 := Scalar.cmpi .ne v705 c0_i32_463
  v706

def k0_off189 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off190 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev86 : Nat :=
  let c0_i32_760 : BitVec 32 := 0#32
  let c5_i32_758 : BitVec 32 := 5#32
  let c1_i32_759 : BitVec 32 := 1#32
  let v1117 : BitVec 32 := Scalar.muli c5_i32_758 c1_i32_759
  let v1118 : BitVec 32 := Scalar.addi c0_i32_760 v1117
  v1118.toNat
def k0_cond191 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_464 : BitVec 32 := 6#32
  let v707 : BitVec 1 := Scalar.cmpi .ne v2 c6_i32_464
  let v708 : BitVec 32 := Scalar.extui v707
  let c0_i32_465 : BitVec 32 := 0#32
  let v709 : BitVec 1 := Scalar.cmpi .ne v708 c0_i32_465
  v709

def k0_off191 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off192 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev87 : Nat :=
  let c0_i32_760 : BitVec 32 := 0#32
  let c6_i32_758 : BitVec 32 := 6#32
  let c1_i32_759 : BitVec 32 := 1#32
  let v1117 : BitVec 32 := Scalar.muli c6_i32_758 c1_i32_759
  let v1118 : BitVec 32 := Scalar.addi c0_i32_760 v1117
  v1118.toNat
def k0_cond192 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_466 : BitVec 32 := 7#32
  let v710 : BitVec 1 := Scalar.cmpi .ne v2 c7_i32_466
  let v711 : BitVec 32 := Scalar.extui v710
  let c0_i32_467 : BitVec 32 := 0#32
  let v712 : BitVec 1 := Scalar.cmpi .ne v711 c0_i32_467
  v712

def k0_off193 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off194 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev88 : Nat :=
  let c0_i32_760 : BitVec 32 := 0#32
  let c7_i32_758 : BitVec 32 := 7#32
  let c1_i32_759 : BitVec 32 := 1#32
  let v1117 : BitVec 32 := Scalar.muli c7_i32_758 c1_i32_759
  let v1118 : BitVec 32 := Scalar.addi c0_i32_760 v1117
  v1118.toNat
def k0_cond197 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_486 : BitVec 32 := 8#32
  let v737 : BitVec 1 := Scalar.cmpi .ne v2 c8_i32_486
  let v738 : BitVec 32 := Scalar.extui v737
  let c0_i32_487 : BitVec 32 := 0#32
  let v739 : BitVec 1 := Scalar.cmpi .ne v738 c0_i32_487
  v739

def k0_off195 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off196 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev89 : Nat :=
  let c0_i32_760 : BitVec 32 := 0#32
  let c8_i32_758 : BitVec 32 := 8#32
  let c1_i32_759 : BitVec 32 := 1#32
  let v1117 : BitVec 32 := Scalar.muli c8_i32_758 c1_i32_759
  let v1118 : BitVec 32 := Scalar.addi c0_i32_760 v1117
  v1118.toNat
def k0_cond198 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_488 : BitVec 32 := 9#32
  let v740 : BitVec 1 := Scalar.cmpi .ne v2 c9_i32_488
  let v741 : BitVec 32 := Scalar.extui v740
  let c0_i32_489 : BitVec 32 := 0#32
  let v742 : BitVec 1 := Scalar.cmpi .ne v741 c0_i32_489
  v742

def k0_off197 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off198 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev90 : Nat :=
  let c0_i32_760 : BitVec 32 := 0#32
  let c9_i32_758 : BitVec 32 := 9#32
  let c1_i32_759 : BitVec 32 := 1#32
  let v1117 : BitVec 32 := Scalar.muli c9_i32_758 c1_i32_759
  let v1118 : BitVec 32 := Scalar.addi c0_i32_760 v1117
  v1118.toNat
def k0_cond199 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_490 : BitVec 32 := 10#32
  let v743 : BitVec 1 := Scalar.cmpi .ne v2 c10_i32_490
  let v744 : BitVec 32 := Scalar.extui v743
  let c0_i32_491 : BitVec 32 := 0#32
  let v745 : BitVec 1 := Scalar.cmpi .ne v744 c0_i32_491
  v745

def k0_off199 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off200 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev91 : Nat :=
  let c0_i32_760 : BitVec 32 := 0#32
  let c10_i32_758 : BitVec 32 := 10#32
  let c1_i32_759 : BitVec 32 := 1#32
  let v1117 : BitVec 32 := Scalar.muli c10_i32_758 c1_i32_759
  let v1118 : BitVec 32 := Scalar.addi c0_i32_760 v1117
  v1118.toNat
def k0_cond200 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_492 : BitVec 32 := 11#32
  let v746 : BitVec 1 := Scalar.cmpi .ne v2 c11_i32_492
  let v747 : BitVec 32 := Scalar.extui v746
  let c0_i32_493 : BitVec 32 := 0#32
  let v748 : BitVec 1 := Scalar.cmpi .ne v747 c0_i32_493
  v748

def k0_off201 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off202 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev92 : Nat :=
  let c0_i32_760 : BitVec 32 := 0#32
  let c11_i32_758 : BitVec 32 := 11#32
  let c1_i32_759 : BitVec 32 := 1#32
  let v1117 : BitVec 32 := Scalar.muli c11_i32_758 c1_i32_759
  let v1118 : BitVec 32 := Scalar.addi c0_i32_760 v1117
  v1118.toNat
def k0_cond205 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_512 : BitVec 32 := 12#32
  let v773 : BitVec 1 := Scalar.cmpi .ne v2 c12_i32_512
  let v774 : BitVec 32 := Scalar.extui v773
  let c0_i32_513 : BitVec 32 := 0#32
  let v775 : BitVec 1 := Scalar.cmpi .ne v774 c0_i32_513
  v775

def k0_off203 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off204 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev93 : Nat :=
  let c0_i32_760 : BitVec 32 := 0#32
  let c12_i32_758 : BitVec 32 := 12#32
  let c1_i32_759 : BitVec 32 := 1#32
  let v1117 : BitVec 32 := Scalar.muli c12_i32_758 c1_i32_759
  let v1118 : BitVec 32 := Scalar.addi c0_i32_760 v1117
  v1118.toNat
def k0_cond206 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_514 : BitVec 32 := 13#32
  let v776 : BitVec 1 := Scalar.cmpi .ne v2 c13_i32_514
  let v777 : BitVec 32 := Scalar.extui v776
  let c0_i32_515 : BitVec 32 := 0#32
  let v778 : BitVec 1 := Scalar.cmpi .ne v777 c0_i32_515
  v778

def k0_off205 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off206 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev94 : Nat :=
  let c0_i32_760 : BitVec 32 := 0#32
  let c13_i32_758 : BitVec 32 := 13#32
  let c1_i32_759 : BitVec 32 := 1#32
  let v1117 : BitVec 32 := Scalar.muli c13_i32_758 c1_i32_759
  let v1118 : BitVec 32 := Scalar.addi c0_i32_760 v1117
  v1118.toNat
def k0_cond207 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_516 : BitVec 32 := 14#32
  let v779 : BitVec 1 := Scalar.cmpi .ne v2 c14_i32_516
  let v780 : BitVec 32 := Scalar.extui v779
  let c0_i32_517 : BitVec 32 := 0#32
  let v781 : BitVec 1 := Scalar.cmpi .ne v780 c0_i32_517
  v781

def k0_off207 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off208 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev95 : Nat :=
  let c0_i32_760 : BitVec 32 := 0#32
  let c14_i32_758 : BitVec 32 := 14#32
  let c1_i32_759 : BitVec 32 := 1#32
  let v1117 : BitVec 32 := Scalar.muli c14_i32_758 c1_i32_759
  let v1118 : BitVec 32 := Scalar.addi c0_i32_760 v1117
  v1118.toNat
def k0_cond208 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_518 : BitVec 32 := 15#32
  let v782 : BitVec 1 := Scalar.cmpi .ne v2 c15_i32_518
  let v783 : BitVec 32 := Scalar.extui v782
  let c0_i32_519 : BitVec 32 := 0#32
  let v784 : BitVec 1 := Scalar.cmpi .ne v783 c0_i32_519
  v784

def k0_off209 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off210 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_dev96 : Nat :=
  let c0_i32_760 : BitVec 32 := 0#32
  let c15_i32_758 : BitVec 32 := 15#32
  let c1_i32_759 : BitVec 32 := 1#32
  let v1117 : BitVec 32 := Scalar.muli c15_i32_758 c1_i32_759
  let v1118 : BitVec 32 := Scalar.addi c0_i32_760 v1117
  v1118.toNat
def k0_cond225 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_564 : BitVec 32 := 0#32
  let v850 : BitVec 1 := Scalar.cmpi .ne v2 c0_i32_564
  let v851 : BitVec 32 := Scalar.extui v850
  let c0_i32_565 : BitVec 32 := 0#32
  let v852 : BitVec 1 := Scalar.cmpi .ne v851 c0_i32_565
  v852

def k0_off211 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_762 : BitVec 32 := 0#32
  let c0_i32_763 : BitVec 32 := 0#32
  ![v2.toNat, 0, 0]
def k0_cond226 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_566 : BitVec 32 := 1#32
  let v853 : BitVec 1 := Scalar.cmpi .ne v2 c1_i32_566
  let v854 : BitVec 32 := Scalar.extui v853
  let c0_i32_567 : BitVec 32 := 0#32
  let v855 : BitVec 1 := Scalar.cmpi .ne v854 c0_i32_567
  v855

def k0_off212 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_762 : BitVec 32 := 0#32
  let c0_i32_763 : BitVec 32 := 0#32
  ![v2.toNat, 0, 0]
def k0_cond227 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_568 : BitVec 32 := 2#32
  let v856 : BitVec 1 := Scalar.cmpi .ne v2 c2_i32_568
  let v857 : BitVec 32 := Scalar.extui v856
  let c0_i32_569 : BitVec 32 := 0#32
  let v858 : BitVec 1 := Scalar.cmpi .ne v857 c0_i32_569
  v858

def k0_off213 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond228 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_570 : BitVec 32 := 3#32
  let v859 : BitVec 1 := Scalar.cmpi .ne v2 c3_i32_570
  let v860 : BitVec 32 := Scalar.extui v859
  let c0_i32_571 : BitVec 32 := 0#32
  let v861 : BitVec 1 := Scalar.cmpi .ne v860 c0_i32_571
  v861

def k0_off214 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond229 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_572 : BitVec 32 := 4#32
  let v862 : BitVec 1 := Scalar.cmpi .ne v2 c4_i32_572
  let v863 : BitVec 32 := Scalar.extui v862
  let c0_i32_573 : BitVec 32 := 0#32
  let v864 : BitVec 1 := Scalar.cmpi .ne v863 c0_i32_573
  v864

def k0_off215 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond230 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_574 : BitVec 32 := 5#32
  let v865 : BitVec 1 := Scalar.cmpi .ne v2 c5_i32_574
  let v866 : BitVec 32 := Scalar.extui v865
  let c0_i32_575 : BitVec 32 := 0#32
  let v867 : BitVec 1 := Scalar.cmpi .ne v866 c0_i32_575
  v867

def k0_off216 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond231 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_576 : BitVec 32 := 6#32
  let v868 : BitVec 1 := Scalar.cmpi .ne v2 c6_i32_576
  let v869 : BitVec 32 := Scalar.extui v868
  let c0_i32_577 : BitVec 32 := 0#32
  let v870 : BitVec 1 := Scalar.cmpi .ne v869 c0_i32_577
  v870

def k0_off217 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond232 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_578 : BitVec 32 := 7#32
  let v871 : BitVec 1 := Scalar.cmpi .ne v2 c7_i32_578
  let v872 : BitVec 32 := Scalar.extui v871
  let c0_i32_579 : BitVec 32 := 0#32
  let v873 : BitVec 1 := Scalar.cmpi .ne v872 c0_i32_579
  v873

def k0_off218 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond233 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_580 : BitVec 32 := 8#32
  let v874 : BitVec 1 := Scalar.cmpi .ne v2 c8_i32_580
  let v875 : BitVec 32 := Scalar.extui v874
  let c0_i32_581 : BitVec 32 := 0#32
  let v876 : BitVec 1 := Scalar.cmpi .ne v875 c0_i32_581
  v876

def k0_off219 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond234 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_582 : BitVec 32 := 9#32
  let v877 : BitVec 1 := Scalar.cmpi .ne v2 c9_i32_582
  let v878 : BitVec 32 := Scalar.extui v877
  let c0_i32_583 : BitVec 32 := 0#32
  let v879 : BitVec 1 := Scalar.cmpi .ne v878 c0_i32_583
  v879

def k0_off220 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond235 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_584 : BitVec 32 := 10#32
  let v880 : BitVec 1 := Scalar.cmpi .ne v2 c10_i32_584
  let v881 : BitVec 32 := Scalar.extui v880
  let c0_i32_585 : BitVec 32 := 0#32
  let v882 : BitVec 1 := Scalar.cmpi .ne v881 c0_i32_585
  v882

def k0_off221 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond236 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_586 : BitVec 32 := 11#32
  let v883 : BitVec 1 := Scalar.cmpi .ne v2 c11_i32_586
  let v884 : BitVec 32 := Scalar.extui v883
  let c0_i32_587 : BitVec 32 := 0#32
  let v885 : BitVec 1 := Scalar.cmpi .ne v884 c0_i32_587
  v885

def k0_off222 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond237 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_588 : BitVec 32 := 12#32
  let v886 : BitVec 1 := Scalar.cmpi .ne v2 c12_i32_588
  let v887 : BitVec 32 := Scalar.extui v886
  let c0_i32_589 : BitVec 32 := 0#32
  let v888 : BitVec 1 := Scalar.cmpi .ne v887 c0_i32_589
  v888

def k0_off223 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond238 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_590 : BitVec 32 := 13#32
  let v889 : BitVec 1 := Scalar.cmpi .ne v2 c13_i32_590
  let v890 : BitVec 32 := Scalar.extui v889
  let c0_i32_591 : BitVec 32 := 0#32
  let v891 : BitVec 1 := Scalar.cmpi .ne v890 c0_i32_591
  v891

def k0_off224 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond239 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_592 : BitVec 32 := 14#32
  let v892 : BitVec 1 := Scalar.cmpi .ne v2 c14_i32_592
  let v893 : BitVec 32 := Scalar.extui v892
  let c0_i32_593 : BitVec 32 := 0#32
  let v894 : BitVec 1 := Scalar.cmpi .ne v893 c0_i32_593
  v894

def k0_off225 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond240 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_594 : BitVec 32 := 15#32
  let v895 : BitVec 1 := Scalar.cmpi .ne v2 c15_i32_594
  let v896 : BitVec 32 := Scalar.extui v895
  let c0_i32_595 : BitVec 32 := 0#32
  let v897 : BitVec 1 := Scalar.cmpi .ne v896 c0_i32_595
  v897

def k0_off226 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_761 : BitVec 32 := 0#32
  let c0_i32_762 : BitVec 32 := 0#32
  ![v2.toNat, 0, 0]
def k0_cond241 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_596 : BitVec 32 := 0#32
  let v898 : BitVec 1 := Scalar.cmpi .ne v2 c0_i32_596
  let v899 : BitVec 32 := Scalar.extui v898
  let c0_i32_597 : BitVec 32 := 0#32
  let v900 : BitVec 1 := Scalar.cmpi .ne v899 c0_i32_597
  v900

def k0_off227 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond242 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_598 : BitVec 32 := 1#32
  let v901 : BitVec 1 := Scalar.cmpi .ne v2 c1_i32_598
  let v902 : BitVec 32 := Scalar.extui v901
  let c0_i32_599 : BitVec 32 := 0#32
  let v903 : BitVec 1 := Scalar.cmpi .ne v902 c0_i32_599
  v903

def k0_off228 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond243 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_600 : BitVec 32 := 2#32
  let v904 : BitVec 1 := Scalar.cmpi .ne v2 c2_i32_600
  let v905 : BitVec 32 := Scalar.extui v904
  let c0_i32_601 : BitVec 32 := 0#32
  let v906 : BitVec 1 := Scalar.cmpi .ne v905 c0_i32_601
  v906

def k0_off229 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond244 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_602 : BitVec 32 := 3#32
  let v907 : BitVec 1 := Scalar.cmpi .ne v2 c3_i32_602
  let v908 : BitVec 32 := Scalar.extui v907
  let c0_i32_603 : BitVec 32 := 0#32
  let v909 : BitVec 1 := Scalar.cmpi .ne v908 c0_i32_603
  v909

def k0_off230 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond245 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_604 : BitVec 32 := 4#32
  let v910 : BitVec 1 := Scalar.cmpi .ne v2 c4_i32_604
  let v911 : BitVec 32 := Scalar.extui v910
  let c0_i32_605 : BitVec 32 := 0#32
  let v912 : BitVec 1 := Scalar.cmpi .ne v911 c0_i32_605
  v912

def k0_off231 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond246 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_606 : BitVec 32 := 5#32
  let v913 : BitVec 1 := Scalar.cmpi .ne v2 c5_i32_606
  let v914 : BitVec 32 := Scalar.extui v913
  let c0_i32_607 : BitVec 32 := 0#32
  let v915 : BitVec 1 := Scalar.cmpi .ne v914 c0_i32_607
  v915

def k0_off232 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond247 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_608 : BitVec 32 := 6#32
  let v916 : BitVec 1 := Scalar.cmpi .ne v2 c6_i32_608
  let v917 : BitVec 32 := Scalar.extui v916
  let c0_i32_609 : BitVec 32 := 0#32
  let v918 : BitVec 1 := Scalar.cmpi .ne v917 c0_i32_609
  v918

def k0_off233 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond248 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_610 : BitVec 32 := 7#32
  let v919 : BitVec 1 := Scalar.cmpi .ne v2 c7_i32_610
  let v920 : BitVec 32 := Scalar.extui v919
  let c0_i32_611 : BitVec 32 := 0#32
  let v921 : BitVec 1 := Scalar.cmpi .ne v920 c0_i32_611
  v921

def k0_off234 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond249 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_612 : BitVec 32 := 8#32
  let v922 : BitVec 1 := Scalar.cmpi .ne v2 c8_i32_612
  let v923 : BitVec 32 := Scalar.extui v922
  let c0_i32_613 : BitVec 32 := 0#32
  let v924 : BitVec 1 := Scalar.cmpi .ne v923 c0_i32_613
  v924

def k0_off235 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond250 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_614 : BitVec 32 := 9#32
  let v925 : BitVec 1 := Scalar.cmpi .ne v2 c9_i32_614
  let v926 : BitVec 32 := Scalar.extui v925
  let c0_i32_615 : BitVec 32 := 0#32
  let v927 : BitVec 1 := Scalar.cmpi .ne v926 c0_i32_615
  v927

def k0_off236 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond251 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_616 : BitVec 32 := 10#32
  let v928 : BitVec 1 := Scalar.cmpi .ne v2 c10_i32_616
  let v929 : BitVec 32 := Scalar.extui v928
  let c0_i32_617 : BitVec 32 := 0#32
  let v930 : BitVec 1 := Scalar.cmpi .ne v929 c0_i32_617
  v930

def k0_off237 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond252 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_618 : BitVec 32 := 11#32
  let v931 : BitVec 1 := Scalar.cmpi .ne v2 c11_i32_618
  let v932 : BitVec 32 := Scalar.extui v931
  let c0_i32_619 : BitVec 32 := 0#32
  let v933 : BitVec 1 := Scalar.cmpi .ne v932 c0_i32_619
  v933

def k0_off238 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond253 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_620 : BitVec 32 := 12#32
  let v934 : BitVec 1 := Scalar.cmpi .ne v2 c12_i32_620
  let v935 : BitVec 32 := Scalar.extui v934
  let c0_i32_621 : BitVec 32 := 0#32
  let v936 : BitVec 1 := Scalar.cmpi .ne v935 c0_i32_621
  v936

def k0_off239 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond254 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_622 : BitVec 32 := 13#32
  let v937 : BitVec 1 := Scalar.cmpi .ne v2 c13_i32_622
  let v938 : BitVec 32 := Scalar.extui v937
  let c0_i32_623 : BitVec 32 := 0#32
  let v939 : BitVec 1 := Scalar.cmpi .ne v938 c0_i32_623
  v939

def k0_off240 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond255 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_624 : BitVec 32 := 14#32
  let v940 : BitVec 1 := Scalar.cmpi .ne v2 c14_i32_624
  let v941 : BitVec 32 := Scalar.extui v940
  let c0_i32_625 : BitVec 32 := 0#32
  let v942 : BitVec 1 := Scalar.cmpi .ne v941 c0_i32_625
  v942

def k0_off241 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond256 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_626 : BitVec 32 := 15#32
  let v943 : BitVec 1 := Scalar.cmpi .ne v2 c15_i32_626
  let v944 : BitVec 32 := Scalar.extui v943
  let c0_i32_627 : BitVec 32 := 0#32
  let v945 : BitVec 1 := Scalar.cmpi .ne v944 c0_i32_627
  v945

def k0_off242 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond257 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_628 : BitVec 32 := 0#32
  let v946 : BitVec 1 := Scalar.cmpi .ne v2 c0_i32_628
  let v947 : BitVec 32 := Scalar.extui v946
  let c0_i32_629 : BitVec 32 := 0#32
  let v948 : BitVec 1 := Scalar.cmpi .ne v947 c0_i32_629
  v948

def k0_off243 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off244 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev97 : Nat :=
  let c0_i32_762 : BitVec 32 := 0#32
  let c0_i32_760 : BitVec 32 := 0#32
  let c1_i32_761 : BitVec 32 := 1#32
  let v1118 : BitVec 32 := Scalar.muli c0_i32_760 c1_i32_761
  let v1119 : BitVec 32 := Scalar.addi c0_i32_762 v1118
  v1119.toNat
def k0_cond258 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_630 : BitVec 32 := 1#32
  let v949 : BitVec 1 := Scalar.cmpi .ne v2 c1_i32_630
  let v950 : BitVec 32 := Scalar.extui v949
  let c0_i32_631 : BitVec 32 := 0#32
  let v951 : BitVec 1 := Scalar.cmpi .ne v950 c0_i32_631
  v951

def k0_off245 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off246 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev98 : Nat :=
  let c0_i32_762 : BitVec 32 := 0#32
  let c1_i32_760 : BitVec 32 := 1#32
  let c1_i32_761 : BitVec 32 := 1#32
  let v1118 : BitVec 32 := Scalar.muli c1_i32_760 c1_i32_761
  let v1119 : BitVec 32 := Scalar.addi c0_i32_762 v1118
  v1119.toNat
def k0_cond259 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_632 : BitVec 32 := 2#32
  let v952 : BitVec 1 := Scalar.cmpi .ne v2 c2_i32_632
  let v953 : BitVec 32 := Scalar.extui v952
  let c0_i32_633 : BitVec 32 := 0#32
  let v954 : BitVec 1 := Scalar.cmpi .ne v953 c0_i32_633
  v954

def k0_off247 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off248 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev99 : Nat :=
  let c0_i32_762 : BitVec 32 := 0#32
  let c2_i32_760 : BitVec 32 := 2#32
  let c1_i32_761 : BitVec 32 := 1#32
  let v1118 : BitVec 32 := Scalar.muli c2_i32_760 c1_i32_761
  let v1119 : BitVec 32 := Scalar.addi c0_i32_762 v1118
  v1119.toNat
def k0_cond260 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_634 : BitVec 32 := 3#32
  let v955 : BitVec 1 := Scalar.cmpi .ne v2 c3_i32_634
  let v956 : BitVec 32 := Scalar.extui v955
  let c0_i32_635 : BitVec 32 := 0#32
  let v957 : BitVec 1 := Scalar.cmpi .ne v956 c0_i32_635
  v957

def k0_off249 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off250 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev100 : Nat :=
  let c0_i32_762 : BitVec 32 := 0#32
  let c3_i32_760 : BitVec 32 := 3#32
  let c1_i32_761 : BitVec 32 := 1#32
  let v1118 : BitVec 32 := Scalar.muli c3_i32_760 c1_i32_761
  let v1119 : BitVec 32 := Scalar.addi c0_i32_762 v1118
  v1119.toNat
def k0_cond261 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_636 : BitVec 32 := 4#32
  let v958 : BitVec 1 := Scalar.cmpi .ne v2 c4_i32_636
  let v959 : BitVec 32 := Scalar.extui v958
  let c0_i32_637 : BitVec 32 := 0#32
  let v960 : BitVec 1 := Scalar.cmpi .ne v959 c0_i32_637
  v960

def k0_off251 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off252 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev101 : Nat :=
  let c0_i32_762 : BitVec 32 := 0#32
  let c4_i32_760 : BitVec 32 := 4#32
  let c1_i32_761 : BitVec 32 := 1#32
  let v1118 : BitVec 32 := Scalar.muli c4_i32_760 c1_i32_761
  let v1119 : BitVec 32 := Scalar.addi c0_i32_762 v1118
  v1119.toNat
def k0_cond262 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_638 : BitVec 32 := 5#32
  let v961 : BitVec 1 := Scalar.cmpi .ne v2 c5_i32_638
  let v962 : BitVec 32 := Scalar.extui v961
  let c0_i32_639 : BitVec 32 := 0#32
  let v963 : BitVec 1 := Scalar.cmpi .ne v962 c0_i32_639
  v963

def k0_off253 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off254 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev102 : Nat :=
  let c0_i32_762 : BitVec 32 := 0#32
  let c5_i32_760 : BitVec 32 := 5#32
  let c1_i32_761 : BitVec 32 := 1#32
  let v1118 : BitVec 32 := Scalar.muli c5_i32_760 c1_i32_761
  let v1119 : BitVec 32 := Scalar.addi c0_i32_762 v1118
  v1119.toNat
def k0_cond263 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_640 : BitVec 32 := 6#32
  let v964 : BitVec 1 := Scalar.cmpi .ne v2 c6_i32_640
  let v965 : BitVec 32 := Scalar.extui v964
  let c0_i32_641 : BitVec 32 := 0#32
  let v966 : BitVec 1 := Scalar.cmpi .ne v965 c0_i32_641
  v966

def k0_off255 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off256 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev103 : Nat :=
  let c0_i32_762 : BitVec 32 := 0#32
  let c6_i32_760 : BitVec 32 := 6#32
  let c1_i32_761 : BitVec 32 := 1#32
  let v1118 : BitVec 32 := Scalar.muli c6_i32_760 c1_i32_761
  let v1119 : BitVec 32 := Scalar.addi c0_i32_762 v1118
  v1119.toNat
def k0_cond264 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_642 : BitVec 32 := 7#32
  let v967 : BitVec 1 := Scalar.cmpi .ne v2 c7_i32_642
  let v968 : BitVec 32 := Scalar.extui v967
  let c0_i32_643 : BitVec 32 := 0#32
  let v969 : BitVec 1 := Scalar.cmpi .ne v968 c0_i32_643
  v969

def k0_off257 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off258 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev104 : Nat :=
  let c0_i32_762 : BitVec 32 := 0#32
  let c7_i32_760 : BitVec 32 := 7#32
  let c1_i32_761 : BitVec 32 := 1#32
  let v1118 : BitVec 32 := Scalar.muli c7_i32_760 c1_i32_761
  let v1119 : BitVec 32 := Scalar.addi c0_i32_762 v1118
  v1119.toNat
def k0_cond265 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_644 : BitVec 32 := 8#32
  let v970 : BitVec 1 := Scalar.cmpi .ne v2 c8_i32_644
  let v971 : BitVec 32 := Scalar.extui v970
  let c0_i32_645 : BitVec 32 := 0#32
  let v972 : BitVec 1 := Scalar.cmpi .ne v971 c0_i32_645
  v972

def k0_off259 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off260 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev105 : Nat :=
  let c0_i32_762 : BitVec 32 := 0#32
  let c8_i32_760 : BitVec 32 := 8#32
  let c1_i32_761 : BitVec 32 := 1#32
  let v1118 : BitVec 32 := Scalar.muli c8_i32_760 c1_i32_761
  let v1119 : BitVec 32 := Scalar.addi c0_i32_762 v1118
  v1119.toNat
def k0_cond266 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_646 : BitVec 32 := 9#32
  let v973 : BitVec 1 := Scalar.cmpi .ne v2 c9_i32_646
  let v974 : BitVec 32 := Scalar.extui v973
  let c0_i32_647 : BitVec 32 := 0#32
  let v975 : BitVec 1 := Scalar.cmpi .ne v974 c0_i32_647
  v975

def k0_off261 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off262 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev106 : Nat :=
  let c0_i32_762 : BitVec 32 := 0#32
  let c9_i32_760 : BitVec 32 := 9#32
  let c1_i32_761 : BitVec 32 := 1#32
  let v1118 : BitVec 32 := Scalar.muli c9_i32_760 c1_i32_761
  let v1119 : BitVec 32 := Scalar.addi c0_i32_762 v1118
  v1119.toNat
def k0_cond267 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_648 : BitVec 32 := 10#32
  let v976 : BitVec 1 := Scalar.cmpi .ne v2 c10_i32_648
  let v977 : BitVec 32 := Scalar.extui v976
  let c0_i32_649 : BitVec 32 := 0#32
  let v978 : BitVec 1 := Scalar.cmpi .ne v977 c0_i32_649
  v978

def k0_off263 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off264 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev107 : Nat :=
  let c0_i32_762 : BitVec 32 := 0#32
  let c10_i32_760 : BitVec 32 := 10#32
  let c1_i32_761 : BitVec 32 := 1#32
  let v1118 : BitVec 32 := Scalar.muli c10_i32_760 c1_i32_761
  let v1119 : BitVec 32 := Scalar.addi c0_i32_762 v1118
  v1119.toNat
def k0_cond268 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_650 : BitVec 32 := 11#32
  let v979 : BitVec 1 := Scalar.cmpi .ne v2 c11_i32_650
  let v980 : BitVec 32 := Scalar.extui v979
  let c0_i32_651 : BitVec 32 := 0#32
  let v981 : BitVec 1 := Scalar.cmpi .ne v980 c0_i32_651
  v981

def k0_off265 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off266 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev108 : Nat :=
  let c0_i32_762 : BitVec 32 := 0#32
  let c11_i32_760 : BitVec 32 := 11#32
  let c1_i32_761 : BitVec 32 := 1#32
  let v1118 : BitVec 32 := Scalar.muli c11_i32_760 c1_i32_761
  let v1119 : BitVec 32 := Scalar.addi c0_i32_762 v1118
  v1119.toNat
def k0_cond269 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_652 : BitVec 32 := 12#32
  let v982 : BitVec 1 := Scalar.cmpi .ne v2 c12_i32_652
  let v983 : BitVec 32 := Scalar.extui v982
  let c0_i32_653 : BitVec 32 := 0#32
  let v984 : BitVec 1 := Scalar.cmpi .ne v983 c0_i32_653
  v984

def k0_off267 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off268 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev109 : Nat :=
  let c0_i32_762 : BitVec 32 := 0#32
  let c12_i32_760 : BitVec 32 := 12#32
  let c1_i32_761 : BitVec 32 := 1#32
  let v1118 : BitVec 32 := Scalar.muli c12_i32_760 c1_i32_761
  let v1119 : BitVec 32 := Scalar.addi c0_i32_762 v1118
  v1119.toNat
def k0_cond270 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_654 : BitVec 32 := 13#32
  let v985 : BitVec 1 := Scalar.cmpi .ne v2 c13_i32_654
  let v986 : BitVec 32 := Scalar.extui v985
  let c0_i32_655 : BitVec 32 := 0#32
  let v987 : BitVec 1 := Scalar.cmpi .ne v986 c0_i32_655
  v987

def k0_off269 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off270 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev110 : Nat :=
  let c0_i32_762 : BitVec 32 := 0#32
  let c13_i32_760 : BitVec 32 := 13#32
  let c1_i32_761 : BitVec 32 := 1#32
  let v1118 : BitVec 32 := Scalar.muli c13_i32_760 c1_i32_761
  let v1119 : BitVec 32 := Scalar.addi c0_i32_762 v1118
  v1119.toNat
def k0_cond271 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_656 : BitVec 32 := 14#32
  let v988 : BitVec 1 := Scalar.cmpi .ne v2 c14_i32_656
  let v989 : BitVec 32 := Scalar.extui v988
  let c0_i32_657 : BitVec 32 := 0#32
  let v990 : BitVec 1 := Scalar.cmpi .ne v989 c0_i32_657
  v990

def k0_off271 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off272 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev111 : Nat :=
  let c0_i32_762 : BitVec 32 := 0#32
  let c14_i32_760 : BitVec 32 := 14#32
  let c1_i32_761 : BitVec 32 := 1#32
  let v1118 : BitVec 32 := Scalar.muli c14_i32_760 c1_i32_761
  let v1119 : BitVec 32 := Scalar.addi c0_i32_762 v1118
  v1119.toNat
def k0_cond272 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_658 : BitVec 32 := 15#32
  let v991 : BitVec 1 := Scalar.cmpi .ne v2 c15_i32_658
  let v992 : BitVec 32 := Scalar.extui v991
  let c0_i32_659 : BitVec 32 := 0#32
  let v993 : BitVec 1 := Scalar.cmpi .ne v992 c0_i32_659
  v993

def k0_off273 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off274 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_763 : BitVec 32 := 0#32
  ![v1117.toNat, 0]
def k0_dev112 : Nat :=
  let c0_i32_762 : BitVec 32 := 0#32
  let c15_i32_760 : BitVec 32 := 15#32
  let c1_i32_761 : BitVec 32 := 1#32
  let v1118 : BitVec 32 := Scalar.muli c15_i32_760 c1_i32_761
  let v1119 : BitVec 32 := Scalar.addi c0_i32_762 v1118
  v1119.toNat
def k0_cond289 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_725 : BitVec 32 := 0#32
  let v1069 : BitVec 1 := Scalar.cmpi .ne v2 c0_i32_725
  let v1070 : BitVec 32 := Scalar.extui v1069
  let c0_i32_726 : BitVec 32 := 0#32
  let v1071 : BitVec 1 := Scalar.cmpi .ne v1070 c0_i32_726
  v1071

def k0_off275 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond290 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_727 : BitVec 32 := 1#32
  let v1072 : BitVec 1 := Scalar.cmpi .ne v2 c1_i32_727
  let v1073 : BitVec 32 := Scalar.extui v1072
  let c0_i32_728 : BitVec 32 := 0#32
  let v1074 : BitVec 1 := Scalar.cmpi .ne v1073 c0_i32_728
  v1074

def k0_off276 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond291 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_729 : BitVec 32 := 2#32
  let v1075 : BitVec 1 := Scalar.cmpi .ne v2 c2_i32_729
  let v1076 : BitVec 32 := Scalar.extui v1075
  let c0_i32_730 : BitVec 32 := 0#32
  let v1077 : BitVec 1 := Scalar.cmpi .ne v1076 c0_i32_730
  v1077

def k0_off277 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond292 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_731 : BitVec 32 := 3#32
  let v1078 : BitVec 1 := Scalar.cmpi .ne v2 c3_i32_731
  let v1079 : BitVec 32 := Scalar.extui v1078
  let c0_i32_732 : BitVec 32 := 0#32
  let v1080 : BitVec 1 := Scalar.cmpi .ne v1079 c0_i32_732
  v1080

def k0_off278 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond293 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_733 : BitVec 32 := 4#32
  let v1081 : BitVec 1 := Scalar.cmpi .ne v2 c4_i32_733
  let v1082 : BitVec 32 := Scalar.extui v1081
  let c0_i32_734 : BitVec 32 := 0#32
  let v1083 : BitVec 1 := Scalar.cmpi .ne v1082 c0_i32_734
  v1083

def k0_off279 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond294 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_735 : BitVec 32 := 5#32
  let v1084 : BitVec 1 := Scalar.cmpi .ne v2 c5_i32_735
  let v1085 : BitVec 32 := Scalar.extui v1084
  let c0_i32_736 : BitVec 32 := 0#32
  let v1086 : BitVec 1 := Scalar.cmpi .ne v1085 c0_i32_736
  v1086

def k0_off280 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond295 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_737 : BitVec 32 := 6#32
  let v1087 : BitVec 1 := Scalar.cmpi .ne v2 c6_i32_737
  let v1088 : BitVec 32 := Scalar.extui v1087
  let c0_i32_738 : BitVec 32 := 0#32
  let v1089 : BitVec 1 := Scalar.cmpi .ne v1088 c0_i32_738
  v1089

def k0_off281 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond296 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_739 : BitVec 32 := 7#32
  let v1090 : BitVec 1 := Scalar.cmpi .ne v2 c7_i32_739
  let v1091 : BitVec 32 := Scalar.extui v1090
  let c0_i32_740 : BitVec 32 := 0#32
  let v1092 : BitVec 1 := Scalar.cmpi .ne v1091 c0_i32_740
  v1092

def k0_off282 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond297 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_741 : BitVec 32 := 8#32
  let v1093 : BitVec 1 := Scalar.cmpi .ne v2 c8_i32_741
  let v1094 : BitVec 32 := Scalar.extui v1093
  let c0_i32_742 : BitVec 32 := 0#32
  let v1095 : BitVec 1 := Scalar.cmpi .ne v1094 c0_i32_742
  v1095

def k0_off283 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond298 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_743 : BitVec 32 := 9#32
  let v1096 : BitVec 1 := Scalar.cmpi .ne v2 c9_i32_743
  let v1097 : BitVec 32 := Scalar.extui v1096
  let c0_i32_744 : BitVec 32 := 0#32
  let v1098 : BitVec 1 := Scalar.cmpi .ne v1097 c0_i32_744
  v1098

def k0_off284 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond299 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_745 : BitVec 32 := 10#32
  let v1099 : BitVec 1 := Scalar.cmpi .ne v2 c10_i32_745
  let v1100 : BitVec 32 := Scalar.extui v1099
  let c0_i32_746 : BitVec 32 := 0#32
  let v1101 : BitVec 1 := Scalar.cmpi .ne v1100 c0_i32_746
  v1101

def k0_off285 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond300 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_747 : BitVec 32 := 11#32
  let v1102 : BitVec 1 := Scalar.cmpi .ne v2 c11_i32_747
  let v1103 : BitVec 32 := Scalar.extui v1102
  let c0_i32_748 : BitVec 32 := 0#32
  let v1104 : BitVec 1 := Scalar.cmpi .ne v1103 c0_i32_748
  v1104

def k0_off286 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond301 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_749 : BitVec 32 := 12#32
  let v1105 : BitVec 1 := Scalar.cmpi .ne v2 c12_i32_749
  let v1106 : BitVec 32 := Scalar.extui v1105
  let c0_i32_750 : BitVec 32 := 0#32
  let v1107 : BitVec 1 := Scalar.cmpi .ne v1106 c0_i32_750
  v1107

def k0_off287 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond302 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_751 : BitVec 32 := 13#32
  let v1108 : BitVec 1 := Scalar.cmpi .ne v2 c13_i32_751
  let v1109 : BitVec 32 := Scalar.extui v1108
  let c0_i32_752 : BitVec 32 := 0#32
  let v1110 : BitVec 1 := Scalar.cmpi .ne v1109 c0_i32_752
  v1110

def k0_off288 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond303 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_753 : BitVec 32 := 14#32
  let v1111 : BitVec 1 := Scalar.cmpi .ne v2 c14_i32_753
  let v1112 : BitVec 32 := Scalar.extui v1111
  let c0_i32_754 : BitVec 32 := 0#32
  let v1113 : BitVec 1 := Scalar.cmpi .ne v1112 c0_i32_754
  v1113

def k0_off289 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
def k0_cond304 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_755 : BitVec 32 := 15#32
  let v1114 : BitVec 1 := Scalar.cmpi .ne v2 c15_i32_755
  let v1115 : BitVec 32 := Scalar.extui v1114
  let c0_i32_756 : BitVec 32 := 0#32
  let v1116 : BitVec 1 := Scalar.cmpi .ne v1115 c0_i32_756
  v1116

def k0_off290 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_757 : BitVec 32 := 32#32
  let v1117 : BitVec 32 := Scalar.muli v2 c32_i32_757
  let c0_i32_764 : BitVec 32 := 0#32
  ![v1117.toNat, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S512x4096 : Shape := ⟨2, ![512, 4096]⟩
abbrev S4096x512 : Shape := ⟨2, ![4096, 512]⟩
abbrev S512x512 : Shape := ⟨2, ![512, 512]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S512x4096, .bf16⟩
  | .hbm, ⟨5, _⟩ => ⟨S512x4096, .bf16⟩
  | .hbm, ⟨6, _⟩ => ⟨S512x4096, .bf16⟩
  | .hbm, ⟨7, _⟩ => ⟨S512x512, .f32⟩
  | .hbm, ⟨8, _⟩ => ⟨S512x512, .bf16⟩
  | .hbm, ⟨9, _⟩ => ⟨S_, .bf16⟩
  | .hbm, ⟨10, _⟩ => ⟨S512x512, .bf16⟩
  | .hbm, ⟨11, _⟩ => ⟨S512x512, .bf16⟩
  | .hbm, ⟨12, _⟩ => ⟨S512x4096, .f32⟩
  | .hbm, ⟨13, _⟩ => ⟨S512x4096, .bf16⟩
  | .hbm, ⟨14, _⟩ => ⟨S512x512, .f32⟩
  | .hbm, ⟨15, _⟩ => ⟨S512x512, .bf16⟩
  | .hbm, ⟨16, _⟩ => ⟨S_, .bf16⟩
  | .hbm, ⟨17, _⟩ => ⟨S512x512, .bf16⟩
  | .hbm, ⟨18, _⟩ => ⟨S512x512, .bf16⟩
  | .hbm, ⟨19, _⟩ => ⟨S512x4096, .f32⟩
  | .hbm, ⟨20, _⟩ => ⟨S512x4096, .bf16⟩
  | .hbm, ⟨21, _⟩ => ⟨S512x512, .f32⟩
  | .hbm, ⟨22, _⟩ => ⟨S512x512, .bf16⟩
  | .hbm, ⟨23, _⟩ => ⟨S_, .bf16⟩
  | .hbm, ⟨24, _⟩ => ⟨S512x512, .bf16⟩
  | .hbm, ⟨25, _⟩ => ⟨S512x512, .bf16⟩
  | .hbm, ⟨26, _⟩ => ⟨S512x4096, .f32⟩
  | .hbm, ⟨27, _⟩ => ⟨S512x4096, .bf16⟩
  | .hbm, ⟨28, _⟩ => ⟨S512x4096, .f32⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.KernelIdeal.Proto.lean ====
/-
# The exchange protocol of the kernel

Sixteen devices run the same body. Every device `c` owns a barrier cell and four families of transfer cells, each
indexed by a peer `k`: `sa` (its copy of partial-sum rows to `k` has left), `ra` (rows from `k` have landed), `sb` (its
finished rows have left for `k`), `rb` (finished rows of `k` have landed). Three rounds, one per layer.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueIdx
public import Idealize.ShloMosaic.Lib.Transfers

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

abbrev UB : Type := URounds (GSem nD τ sig) (Dev nD)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The buffers and their pieces -/

abbrev pM : Memref sig .tc .vmem S512x512 .bf16 := Memref.whole cc0_scratch0
abbrev rsM : Memref sig .tc .vmem S16x32x512 .bf16 := Memref.whole cc0_scratch1
abbrev agM : Memref sig .tc .vmem S512x512 .bf16 := Memref.whole cc0_scratch2
abbrev rM : Memref sig .tc .vmem S2x32x512 .bf16 := Memref.whole cc0_scratch3
abbrev actM : Memref sig .tc .vmem S512x256 .bf16 := Memref.whole cc0_scratch4

/-- The 32 rows of `k` lie within 512. -/
theorem rows_inb (k : Dev nD) : ∀ a, (![32 * k.val, 0] : Fin 2 → ℕ) a + S32x512.size a ≤ S512x512.size a := by
  revert k; decide
/-- Slot `k` lies within the receive buffer. -/
theorem slot_inb (k : Dev nD) : ∀ a, (![k.val, 0, 0] : Fin 3 → ℕ) a + S1x32x512.size a ≤ S16x32x512.size a := by
  revert k; decide
/-- Half `s` lies within the send buffer. -/
theorem rslot_inb (s : Fin 2) : ∀ a, (![s.val, 0, 0] : Fin 3 → ℕ) a + S1x32x512.size a ≤ S2x32x512.size a := by
  revert s; decide

/-- Rows `32k … 32k+31` of a 512×512 buffer, slot `k` of the receive buffer, slot `s` of the send buffer. -/
abbrev rowR (k : Dev nD) : Rect S512x512 := Rect.unit (s := S512x512) ![32 * k.val, 0] S32x512.size (rows_inb k)
abbrev slotR (k : Dev nD) : Rect S16x32x512 := Rect.unit (s := S16x32x512) ![k.val, 0, 0] S1x32x512.size (slot_inb k)
abbrev rslotR (s : Fin 2) : Rect S2x32x512 := Rect.unit (s := S2x32x512) ![s.val, 0, 0] S1x32x512.size (rslot_inb s)

abbrev pRow (k : Dev nD) : Memref sig .tc .vmem S32x512 .bf16 := pM.slice (rowR k) (fun _ => rfl)
abbrev agRow (k : Dev nD) : Memref sig .tc .vmem S32x512 .bf16 := agM.slice (rowR k) (fun _ => rfl)
abbrev rsSlot (k : Dev nD) : Memref sig .tc .vmem S32x512 .bf16 :=
  (rsM.slice (slotR k) (fun _ => rfl)).squeeze S32x512 squeezes_S1x32x512_S32x512
abbrev rSlot (s : Fin 2) : Memref sig .tc .vmem S32x512 .bf16 :=
  (rM.slice (rslotR s) (fun _ => rfl)).squeeze S32x512 squeezes_S1x32x512_S32x512

/-- The contents types of the four exchanged buffers. -/
abbrev Mat (F : FTy → Type) : Type := S512x512.Idx → Elt F .bf16
abbrev Slots (F : FTy → Type) : Type := S16x32x512.Idx → Elt F .bf16
abbrev Pair (F : FTy → Type) : Type := S2x32x512.Idx → Elt F .bf16

def prow (d k : Dev nD) (f : Mat F) : sProp 𝕄 :=
  (pRow k).view.loc (d : Thread nD τ) ↦[(pRow k).view.set]{fullShare} f
def agrow (d k : Dev nD) (f : Mat F) : sProp 𝕄 :=
  (agRow k).view.loc (d : Thread nD τ) ↦[(agRow k).view.set]{fullShare} f
def slot (d k : Dev nD) (f : Slots F) : sProp 𝕄 :=
  (rsSlot k).view.loc (d : Thread nD τ) ↦[(rsSlot k).view.set]{fullShare} f
def rsl (q : PosShare TreeShare) (d : Dev nD) (s : Fin 2) (f : Pair F) : sProp 𝕄 :=
  (rSlot s).view.loc (d : Thread nD τ) ↦[(rSlot s).view.set]{q} f

instance prow_storable (d k : Dev nD) (f) : BI.Storable (upEmb : UEmb _ 𝕄) (prow (F := F) d k f) := by unfold prow; infer_instance
instance agrow_storable (d k : Dev nD) (f) : BI.Storable (upEmb : UEmb _ 𝕄) (agrow (F := F) d k f) := by unfold agrow; infer_instance
instance slot_storable (d k : Dev nD) (f) : BI.Storable (upEmb : UEmb _ 𝕄) (slot (F := F) d k f) := by unfold slot; infer_instance
instance rsl_storable (q) (d : Dev nD) (s) (f) : BI.Storable (upEmb : UEmb _ 𝕄) (rsl (F := F) q d s f) := by unfold rsl; infer_instance

/-- What the rounds carry: `P r c` is device `c`'s partial-sum matrix of round `r`, `H r` the finished matrix of round `r`,
    the same on every device once gathered. -/
structure Data (F : FTy → Type) where
  P : ℕ → Dev nD → Mat F
  H : ℕ → Mat F

variable (D : Data F)

/-- A row of device `c`'s 32 is below 512. -/
theorem row_lt (c : Dev nD) (a : Fin 32) : 32 * c.val + a.val < 512 := by
  have : c.val < 16 := c.isLt
  omega

/-- The receive buffer of device `c` in round `r`: slot `j` holds rows `c` of `j`'s partial sums. -/
def RS (r : ℕ) (c : Dev nD) : Slots F := fun i => D.P r (i 0) (ix2 ⟨32 * c.val + (i 1).val, row_lt c (i 1)⟩ (i 2))
/-- The send buffer of device `c`: rows `c` of the finished matrix, in either slot. -/
def HB (r : ℕ) (c : Dev nD) : Pair F := fun i => D.H r (ix2 ⟨32 * c.val + (i 1).val, row_lt c (i 1)⟩ (i 2))

/-! ## The cells -/

abbrev barS : Sem sig := (SemArray.scalar (sig.barrier 0 rfl) : Sems sig S_).sem
/-- The transfer semaphores are declared. -/
theorem xsem_lt (a : Fin 4) (k : Dev nD) : 8 + 16 * a.val + k.val < sig.nDmaSem := by revert a k; decide
/-- The transfer semaphore of family `a` for peer `k`; families 0, 1, 2, 3 are `sa`, `ra`, `sb`, `rb`. -/
def xsem (a : Fin 4) (k : Dev nD) : DmaSem sig := ⟨8 + 16 * a.val + k.val, xsem_lt a k⟩

abbrev barCell (c : Dev nD) : GSem nD τ sig := ((c : Thread nD τ), .reg barS)
abbrev xCell (a : Fin 4) (k c : Dev nD) : GSem nD τ sig := ((c : Thread nD τ), .dma (xsem a k))

/-- The cells of one device: its barrier and its transfer cells. -/
abbrev CI : Type := Option (Fin 4 × Dev nD)
def csem : CI → SemLoc sig
  | none => .reg barS
  | some (a, k) => .dma (xsem a k)
abbrev kcell (ck : Dev nD × CI) : GSem nD τ sig := ((ck.1 : Thread nD τ), csem ck.2)

def dec : SemLoc sig → Option (Fin 4 × Dev nD)
  | .reg _ => none
  | .dma q => if 8 ≤ q.val then some (⟨(q.val - 8) / 16 % 4, Nat.mod_lt _ (by decide)⟩, ⟨(q.val - 8) % 16, Nat.mod_lt _ (by decide)⟩) else none

/-- `dec` reads the family and peer of a transfer semaphore; -/
theorem dec_xsem (a : Fin 4) (k : Dev nD) : dec (.dma (xsem a k)) = some (a, k) := by revert a k; decide
/-- and none of the barrier. -/
theorem dec_bar : dec (.reg barS) = none := rfl
/-- Transfer semaphores of different families or peers differ. -/
theorem xsem_inj {a a' : Fin 4} {k k' : Dev nD} (h : xsem a k = xsem a' k') : a = a' ∧ k = k' := by
  have := dec_xsem a k
  rw [h, dec_xsem a' k'] at this
  exact ⟨(congrArg Prod.fst (Option.some.inj this)).symm, (congrArg Prod.snd (Option.some.inj this)).symm⟩

/-- The credit of one 32×512 block. -/
abbrev N : ℕ := (pRow 0).view.dmaCredit
/-- A block's credit is not zero. -/
theorem N_pos : 0 < N := View.dmaCredit_pos _ (by decide)

/-! ## The schedule -/

/-- The slot of the send buffer round `r` uses. -/
def par (r : ℕ) : Fin 2 := ⟨r % 2, Nat.mod_lt _ (by decide)⟩

/-- The signal of `d` to `c` lends `c` slot `c` of `d`'s receive buffer. -/
def barPay (c d : Dev nD) : sProp 𝕄 := iprop(∃ f, slot d c f)
def saPay (r : ℕ) (c k : Dev nD) : sProp 𝕄 := iprop(∃ f, prow c k f)
def raPay (r : ℕ) (c k : Dev nD) : sProp 𝕄 := iprop(slot c k (RS D r c) ∗ (∃ f, agrow k c f) ∗ reached ER (xCell 3 c k) r)
def sbPay (r : ℕ) (c k : Dev nD) : sProp 𝕄 := rsl (Transfers.shareTokN fullShare k.val) c (par r) (HB D r c)
def rbMore (r : ℕ) (c k : Dev nD) : sProp 𝕄 := if r < 2 then iprop((∃ f, slot k c f) ∗ reached ER (xCell 1 c k) (r + 1)) else iprop(emp)
def rbPay (r : ℕ) (c k : Dev nD) : sProp 𝕄 := iprop(agrow c k (D.H r) ∗ rbMore r c k)

abbrev IsX (g : GSem nD τ sig) : Prop := ∃ a k, dec g.2 = some (a, k) ∧ k ≠ g.1.1

/-- A barrier cell has one round with a unit from every other device; a transfer cell of a peer three rounds of one
    block each; a transfer cell of the device itself none. -/
def sched : Rounds.Schedule (GSem nD τ sig) (Dev nD) 𝕄 where
  duties g r :=
    if g.2 = .reg barS then (if r = 0 then Finset.univ.erase g.1.1 else ∅)
    else match dec g.2 with
      | none => ∅
      | some (_, k) => if k ≠ g.1.1 ∧ r < 3 then {0} else ∅
  unitless _ := False
  amount g _ _ := if g.2 = .reg barS then 1 else N
  payload g r d := match dec g.2 with
    | none => barPay g.1.1 d
    | some (⟨0, _⟩, k) => saPay r g.1.1 k
    | some (⟨1, _⟩, k) => raPay D r g.1.1 k
    | some (⟨2, _⟩, k) => sbPay D r g.1.1 k
    | some (⟨_ + 3, _⟩, k) => rbPay D r g.1.1 k
  amount_pos g _ _ _ := by
    by_cases h : g.2 = .reg barS
    · rw [if_pos h]; exact Nat.one_pos
    · rw [if_neg h]; exact N_pos

instance sched_payload_storable (g : GSem nD τ sig) (r : ℕ) (d : Dev nD) :
    BI.Storable (upEmb : UEmb _ 𝕄) ((sched (F := F) D).payload g r d) := by
  dsimp only [sched]
  unfold barPay saPay raPay sbPay rbPay rbMore
  (repeat' split) <;> infer_instance

/-- A transfer semaphore is not the barrier. -/
theorem x_ne_bar (a : Fin 4) (k : Dev nD) : (SemLoc.dma (xsem a k) : SemLoc sig) ≠ .reg barS := fun h => by cases h

section Sched
variable (c k : Dev nD) (a : Fin 4) (r : ℕ)

/-- In round 0 all other devices pay the barrier; -/
theorem duties_bar : (sched (F := F) D).duties (barCell c) 0 = Finset.univ.erase c := by
  dsimp only [sched]; rw [if_pos rfl, if_pos rfl]
/-- nobody later. -/
theorem duties_bar_later (h : 1 ≤ r) : (sched (F := F) D).duties (barCell c) r = ∅ := by
  dsimp only [sched]; rw [if_pos rfl, if_neg (by omega)]
/-- A transfer cell of a peer is paid once in each of three rounds; -/
theorem duties_x (h : k ≠ c) (hr : r < 3) : (sched (F := F) D).duties (xCell a k c) r = {0} := by
  dsimp only [sched]; rw [if_neg (x_ne_bar a k), dec_xsem]; exact if_pos ⟨h, hr⟩
/-- that of the device itself never; -/
theorem duties_x_self : (sched (F := F) D).duties (xCell a c c) r = ∅ := by
  dsimp only [sched]; rw [if_neg (x_ne_bar a c), dec_xsem]; exact if_neg fun h => h.1 rfl
/-- and none after three rounds. -/
theorem duties_x_later (hr : 3 ≤ r) : (sched (F := F) D).duties (xCell a k c) r = ∅ := by
  dsimp only [sched]; rw [if_neg (x_ne_bar a k), dec_xsem]; exact if_neg fun h => by omega
/-- A barrier payment is one unit, -/
theorem amount_bar (d : Dev nD) : (sched (F := F) D).amount (barCell c) r d = 1 := by dsimp only [sched]; exact if_pos rfl
/-- a transfer payment one block. -/
theorem amount_x (d : Dev nD) : (sched (F := F) D).amount (xCell a k c) r d = N := by dsimp only [sched]; exact if_neg (x_ne_bar a k)
/-- The barrier's round is 15 units, -/
theorem expect_bar : (sched (F := F) D).expect (barCell c) 0 = 15 := by
  unfold Schedule.expect Schedule.amountOf
  rw [duties_bar, Finset.sum_congr rfl fun d _ => amount_bar D c 0 d, Finset.sum_const, Finset.card_erase_of_mem (Finset.mem_univ _)]
  rfl
/-- a transfer cell's round one block. -/
theorem expect_x (h : k ≠ c) (hr : r < 3) : (sched (F := F) D).expect (xCell a k c) r = N := by
  unfold Schedule.expect Schedule.amountOf; rw [duties_x D c k a r h hr, Finset.sum_singleton, amount_x]
/-- What a barrier unit carries; -/
theorem payload_bar (d : Dev nD) : (sched (F := F) D).payload (barCell c) r d = barPay c d := by dsimp only [sched]; rw [dec_bar]
/-- what a departure of partial sums carries; -/
theorem payload_sa (d : Dev nD) : (sched (F := F) D).payload (xCell 0 k c) r d = saPay r c k := by dsimp only [sched]; rw [dec_xsem]
/-- what an arrival of partial sums carries; -/
theorem payload_ra (d : Dev nD) : (sched (F := F) D).payload (xCell 1 k c) r d = raPay D r c k := by dsimp only [sched]; rw [dec_xsem]
/-- what a departure of finished rows carries; -/
theorem payload_sb (d : Dev nD) : (sched (F := F) D).payload (xCell 2 k c) r d = sbPay D r c k := by dsimp only [sched]; rw [dec_xsem]
/-- what an arrival of finished rows carries. -/
theorem payload_rb (d : Dev nD) : (sched (F := F) D).payload (xCell 3 k c) r d = rbPay D r c k := by dsimp only [sched]; rw [dec_xsem]

/-- The whole of a transfer cell's round is its one payload. -/
theorem rest_x (h : k ≠ c) (hr : r < 3) :
    bigSep ((sched (F := F) D).duties (xCell a k c) r \ ∅) (fun d => (sched (F := F) D).payload (xCell a k c) r d)
      = (sched (F := F) D).payload (xCell a k c) r 0 := by
  rw [Finset.sdiff_empty, duties_x D c k a r h hr, bigSep_singleton]
/-- The whole of the barrier's round is every other device's loan. -/
theorem rest_bar :
    bigSep ((sched (F := F) D).duties (barCell c) 0 \ ∅) (fun d => (sched (F := F) D).payload (barCell c) 0 d)
      = bigSep (Finset.univ.erase c) fun d => (barPay c d : sProp 𝕄) := by
  rw [Finset.sdiff_empty, duties_bar]; exact bigSep_congr fun d _ => payload_bar D c 0 d

end Sched

/-! ## What a device owes, in the order it pays -/

/-- Payment `i` goes to peer `i % 16`; payments `0 … 15` are the barrier units, then come, alternately, sixteen copies
    of partial sums and sixteen copies of finished rows. -/
def peer (i : ℕ) : Dev nD := ⟨i % 16, Nat.mod_lt _ (by decide)⟩
def payCell (c : Dev nD) (i : ℕ) : GSem nD τ sig :=
  if i / 16 = 0 then barCell (peer i) else xCell (if i / 16 % 2 = 1 then 1 else 3) c (peer i)
def payIx (i : ℕ) : ℕ := (i / 16 - 1) / 2
def payAmt (i : ℕ) : ℕ := if i / 16 = 0 then 1 else N
def pay (c : Dev nD) (i : ℕ) : CellTallies nD τ sig ℕ := if peer i = c then 0 else tallyAt (payCell c i) (payIx i) (payAmt i)
/-- What device `c` still owes before payment `t`. -/
def rem (c : Dev nD) (t : ℕ) : CellTallies nD τ sig ℕ := ∑ i ∈ Finset.Ico t 112, pay c i

/-- Payment `t` is the first of those still owed. -/
theorem rem_step (c : Dev nD) {t : ℕ} (h : t < 112) : rem c t = rem c (t + 1) + pay c t := by
  unfold rem; rw [Finset.sum_eq_sum_Ico_succ_bot h, add_comm]
/-- After 112 payments nothing is owed. -/
theorem rem_end (c : Dev nD) : rem c 112 = 0 := by unfold rem; rw [Finset.Ico_self, Finset.sum_empty]

def L (g : GSem nD τ sig) : Finset ℕ := if g.1.2 = .tc then Finset.range 3 else ∅
/-- Levels: staging and send cells 0, barrier 1, then the arrivals in the order of the rounds. -/
def lv (g : GSem nD τ sig) (ι : ℕ) : ℕ :=
  if g.2 = .reg barS then 1 else match dec g.2 with
    | some (⟨1, _⟩, _) => 2 * ι + 2
    | some (⟨3, _⟩, _) => 2 * ι + 3
    | _ => 0

/-- Only the main cores have levels, -/
theorem L_of_ne (g : GSem nD τ sig) (h : g.1.2 ≠ .tc) : L g = ∅ := if_neg h
/-- three for each of their cells. -/
theorem L_tc (c : Dev nD) (sm : SemLoc sig) : L ((c : Thread nD τ), sm) = Finset.range 3 := if_pos rfl

/-- The barrier's level; -/
theorem lv_bar (c : Dev nD) (ι : ℕ) : lv (barCell c) ι = 1 := if_pos rfl
/-- that of a transfer cell; -/
theorem lv_x (a : Fin 4) (k c : Dev nD) (ι : ℕ) :
    lv (xCell a k c) ι = if a = 1 then 2 * ι + 2 else if a = 3 then 2 * ι + 3 else 0 := by
  unfold lv; rw [if_neg (x_ne_bar a k), dec_xsem]; fin_cases a <;> rfl

/-- that of payment `i`. -/
theorem lv_pay (c : Dev nD) (i : ℕ) : lv (payCell c i) (payIx i) = i / 16 + 1 := by
  unfold payCell payIx
  by_cases h : i / 16 = 0
  · rw [if_pos h, lv_bar, h]
  · rw [if_neg h, lv_x]
    by_cases h2 : i / 16 % 2 = 1
    · rw [if_pos h2, if_pos rfl]; omega
    · rw [if_neg h2, if_neg (by decide), if_pos rfl]; omega

/-- Payments go to main cores' cells. -/
theorem payCell_tc (c : Dev nD) (i : ℕ) : L (payCell c i) = Finset.range 3 := by
  unfold payCell; split <;> rfl

/-- Whatever is still owed before payment `t` is one of the later payments. -/
theorem rem_pos {c : Dev nD} {t : ℕ} {g : GSem nD τ sig} {u : ℕ} (h : 0 < rem c t g u) :
    ∃ i, t ≤ i ∧ i < 112 ∧ g = payCell c i ∧ u = payIx i := by
  unfold rem at h
  rw [Finset.sum_apply, Finsupp.finsetSum_apply] at h
  obtain ⟨i, hi, hp⟩ := Finset.exists_ne_zero_of_sum_ne_zero (Nat.pos_iff_ne_zero.mp h)
  rw [Finset.mem_Ico] at hi
  refine ⟨i, hi.1, hi.2, ?_⟩
  unfold pay at hp
  split at hp
  · exact absurd rfl hp
  · rw [tallyAt_apply] at hp
    by_contra hn
    exact hp (if_neg hn)

/-- A device may wait below everything it still owes. -/
theorem mayWait (c : Dev nD) (sm : SemLoc sig) {ι t : ℕ} (hι : ι < 3) (hl : lv ((c : Thread nD τ), sm) ι < t / 16 + 1) :
    (levAts L lv : sProp 𝕄) ⊢ MayWait (c : Thread nD τ) sm ι (rem c t) :=
  MayOwe.of_cut (L := L) (lev := lv) (lv ((c : Thread nD τ), sm) ι)
    (fun p hp => by rw [Finset.mem_singleton.mp hp, L_tc]; exact Finset.mem_range.mpr hι)
    (fun g u hg => by
      obtain ⟨i, h1, h2, rfl, rfl⟩ := rem_pos hg
      rw [payCell_tc]; unfold payIx; exact Finset.mem_range.mpr (by omega))
    (fun p hp => by rw [Finset.mem_singleton.mp hp])
    (fun g u hg => by
      obtain ⟨i, h1, h2, rfl, rfl⟩ := rem_pos hg
      rw [lv_pay]
      have : t / 16 ≤ i / 16 := Nat.div_le_div_right h1
      omega)

end Cert.KernelIdeal.Mlp

end
-- ==== Proof.KernelIdeal.States.lean ====
/-
# What a device holds, peer by peer, at each stage of a round
-/
module

public import proofs.«01_k».proof.Proof.KernelIdeal.Proto

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

abbrev 𝒱₀ : Variants := Variants.none

variable (D : Data F) (K : Dev nD × CI → ℕ)

/-! ## The shared records -/

/-- Every cell's invariant, round 0 of every cell reached, the level facts. -/
def records : sProp 𝕄 :=
  iprop((bigSep Finset.univ fun ck : Dev nD × CI => cellInv ER (sched D) (K ck) (kcell ck))
    ∗ (bigSep Finset.univ fun ck : Dev nD × CI => reached ER (kcell ck) 0) ∗ levAts L lv)

instance records_persistent : BI.Persistent (records D K) := by unfold records; infer_instance

/-- The invariant of any one cell. -/
theorem rec_inv (ck : Dev nD × CI) : records D K ⊢ cellInv ER (sched D) (K ck) (kcell ck) := by
  unfold records
  exact sep_elim_left.trans (bigSep_elim (Φ := fun ck : Dev nD × CI => (cellInv ER (sched D) (K ck) (kcell ck) : sProp 𝕄)) (Finset.mem_univ ck))
/-- Any one cell has reached round 0. -/
theorem rec_reached (ck : Dev nD × CI) : records D K ⊢ reached ER (kcell ck) 0 := by
  unfold records
  exact sep_elim_right.trans (sep_elim_left.trans (bigSep_elim (Φ := fun ck : Dev nD × CI => (reached ER (kcell ck) 0 : sProp 𝕄)) (Finset.mem_univ ck)))
/-! ## Pieces -/

section Pieces
variable (r : ℕ) (c k : Dev nD)

/-- The position in a cell, with the mark that its round is reached. -/
def ps (a : Fin 4) : sProp 𝕄 := iprop(atPos ER (xCell a k c) r ∅ 0 ∗ reached ER (xCell a k c) r)
def tokA : sProp 𝕄 := iprop(dutyTok ER (xCell 0 k c) r (0 : Dev nD) ∗ dutyTok ER (xCell 1 c k) r (0 : Dev nD))
def tokB : sProp 𝕄 := iprop(dutyTok ER (xCell 2 k c) r (0 : Dev nD) ∗ dutyTok ER (xCell 3 c k) r (0 : Dev nD))
def cr (a : Fin 4) : sProp 𝕄 := cred (tallyAt (xCell a k c) r N)
/-- What one round of the exchange with `k` uses up. -/
def round : sProp 𝕄 := iprop(tokA (F := F) r c k ∗ cr (F := F) r c k 1 ∗ tokB (F := F) r c k ∗ cr (F := F) r c k 3)
def fut : sProp 𝕄 := if r = 0 then iprop(round (F := F) 1 c k ∗ round (F := F) 2 c k) else if r = 1 then round (F := F) 2 c k else iprop(emp)
/-- The finished rows' departure cell while round `r` collects sums: the previous round's departure is not yet waited for. -/
def sbp : sProp 𝕄 := if r = 0 then ps (F := F) 0 c k 2 else iprop(ps (F := F) (r - 1) c k 2 ∗ cr (F := F) (r - 1) c k 2)
/-- The share of the previous round's finished rows. -/
def oldShare : sProp 𝕄 := if r = 0 then iprop(emp) else sbPay D (r - 1) c k
def slotE : sProp 𝕄 := iprop(∃ f, slot (F := F) c k f)
def prowE : sProp 𝕄 := iprop(∃ f, prow (F := F) c k f)
def agrowE : sProp 𝕄 := iprop(∃ f, agrow (F := F) c k f)
/-- After the last round the receive slot stays. -/
def keep : sProp 𝕄 := if r < 2 then iprop(emp) else slotE (F := F) c k

/-- Ready to send partial sums to `k`. -/
def E0 : sProp 𝕄 := iprop(slotE (F := F) k c ∗ reached ER (xCell 1 c k) r ∗ prow c k (D.P r c) ∗ agrowE (F := F) c k
  ∗ ps (F := F) r c k 0 ∗ ps (F := F) r c k 1 ∗ ps (F := F) r c k 3 ∗ sbp (F := F) r c k ∗ round (F := F) r c k ∗ fut (F := F) r c k)
/-- Partial sums sent. -/
def E1 : sProp 𝕄 := iprop(cr (F := F) r c k 0 ∗ ps (F := F) r c k 0 ∗ ps (F := F) r c k 1 ∗ ps (F := F) r c k 3 ∗ sbp (F := F) r c k
  ∗ cr (F := F) r c k 1 ∗ tokB (F := F) r c k ∗ cr (F := F) r c k 3 ∗ fut (F := F) r c k)
/-- Partial sums of `k` here. -/
def E2 : sProp 𝕄 := iprop(cr (F := F) r c k 0 ∗ ps (F := F) r c k 0 ∗ ps (F := F) (r + 1) c k 1 ∗ ps (F := F) r c k 3 ∗ sbp (F := F) r c k
  ∗ slot c k (RS D r c) ∗ agrowE (F := F) k c ∗ reached ER (xCell 3 c k) r ∗ tokB (F := F) r c k ∗ cr (F := F) r c k 3 ∗ fut (F := F) r c k)
/-- The own partial sums are free again. -/
def E3 : sProp 𝕄 := iprop(prowE (F := F) c k ∗ ps (F := F) (r + 1) c k 0 ∗ ps (F := F) (r + 1) c k 1 ∗ ps (F := F) r c k 3 ∗ sbp (F := F) r c k
  ∗ slot c k (RS D r c) ∗ agrowE (F := F) k c ∗ reached ER (xCell 3 c k) r ∗ tokB (F := F) r c k ∗ cr (F := F) r c k 3 ∗ fut (F := F) r c k)
/-- The previous round's finished rows are free again. -/
def E4 : sProp 𝕄 := iprop(prowE (F := F) c k ∗ ps (F := F) (r + 1) c k 0 ∗ ps (F := F) (r + 1) c k 1 ∗ ps (F := F) r c k 3 ∗ ps (F := F) r c k 2 ∗ oldShare D r c k
  ∗ slot c k (RS D r c) ∗ agrowE (F := F) k c ∗ reached ER (xCell 3 c k) r ∗ tokB (F := F) r c k ∗ cr (F := F) r c k 3 ∗ fut (F := F) r c k)
/-- Ready to send the finished rows to `k`. -/
def E5 : sProp 𝕄 := iprop(prowE (F := F) c k ∗ ps (F := F) (r + 1) c k 0 ∗ ps (F := F) (r + 1) c k 1 ∗ ps (F := F) r c k 3 ∗ ps (F := F) r c k 2 ∗ sbPay D r c k
  ∗ slotE (F := F) c k ∗ agrowE (F := F) k c ∗ reached ER (xCell 3 c k) r ∗ tokB (F := F) r c k ∗ cr (F := F) r c k 3 ∗ fut (F := F) r c k)
/-- Finished rows sent. -/
def E6 : sProp 𝕄 := iprop(prowE (F := F) c k ∗ ps (F := F) (r + 1) c k 0 ∗ ps (F := F) (r + 1) c k 1 ∗ ps (F := F) r c k 3 ∗ ps (F := F) r c k 2 ∗ cr (F := F) r c k 2
  ∗ keep (F := F) r c k ∗ cr (F := F) r c k 3 ∗ fut (F := F) r c k)
/-- Finished rows of `k` here. -/
def E7 : sProp 𝕄 := iprop(prowE (F := F) c k ∗ ps (F := F) (r + 1) c k 0 ∗ ps (F := F) (r + 1) c k 1 ∗ ps (F := F) (r + 1) c k 3 ∗ ps (F := F) r c k 2 ∗ cr (F := F) r c k 2
  ∗ keep (F := F) r c k ∗ agrow c k (D.H r) ∗ rbMore (F := F) r c k ∗ fut (F := F) r c k)
/-- After the last wait. -/
def E8 : sProp 𝕄 := iprop(prowE (F := F) c k ∗ ps (F := F) (r + 1) c k 0 ∗ ps (F := F) (r + 1) c k 1 ∗ ps (F := F) (r + 1) c k 3 ∗ ps (F := F) (r + 1) c k 2 ∗ sbPay D r c k
  ∗ keep (F := F) r c k ∗ agrow c k (D.H r) ∗ rbMore (F := F) r c k ∗ fut (F := F) r c k)

/-- Before the entry handshake, between the signals and the wait, after the wait. -/
def EI : sProp 𝕄 := iprop(dutyTok ER (barCell k) 0 c ∗ slotE (F := F) c k ∗ prowE (F := F) c k ∗ agrowE (F := F) c k
  ∗ ps (F := F) 0 c k 0 ∗ ps (F := F) 0 c k 1 ∗ ps (F := F) 0 c k 3 ∗ ps (F := F) 0 c k 2 ∗ round (F := F) 0 c k ∗ fut (F := F) 0 c k)
def EJ : sProp 𝕄 := iprop(prowE (F := F) c k ∗ agrowE (F := F) c k
  ∗ ps (F := F) 0 c k 0 ∗ ps (F := F) 0 c k 1 ∗ ps (F := F) 0 c k 3 ∗ ps (F := F) 0 c k 2 ∗ round (F := F) 0 c k ∗ fut (F := F) 0 c k)

end Pieces

section Own
variable (r : ℕ) (c : Dev nD)

/-- The device's own pieces: before the handshake is over, -/
def ownI : sProp 𝕄 := iprop(prowE (F := F) c c ∗ slotE (F := F) c c ∗ agrowE (F := F) c c)
/-- while partial sums are sent, -/
def own0 : sProp 𝕄 := iprop(prow c c (D.P r c) ∗ slotE (F := F) c c ∗ agrowE (F := F) c c ∗ oldShare D r c c)
/-- once its own rows are in its receive buffer, -/
def own1 : sProp 𝕄 := iprop(prow c c (D.P r c) ∗ slot c c (RS D r c) ∗ agrowE (F := F) c c ∗ oldShare D r c c)
/-- once the partial sums are no longer needed, -/
def own3 : sProp 𝕄 := iprop(prowE (F := F) c c ∗ slot c c (RS D r c) ∗ agrowE (F := F) c c ∗ oldShare D r c c)
/-- while finished rows are sent, -/
def own5 : sProp 𝕄 := iprop(prowE (F := F) c c ∗ slotE (F := F) c c ∗ agrowE (F := F) c c ∗ sbPay D r c c)
/-- once its own finished rows are in the gathered matrix. -/
def own6 : sProp 𝕄 := iprop(prowE (F := F) c c ∗ slotE (F := F) c c ∗ agrow c c (D.H r) ∗ sbPay D r c c)

end Own

/-- `X` for the peers, `O` for the device itself. -/
def mix (c : Dev nD) (O : sProp 𝕄) (X : Dev nD → sProp 𝕄) (k : Dev nD) : sProp 𝕄 := if k = c then O else X k

/-- `mix` at the device itself, -/
theorem mix_self (c : Dev nD) (O : sProp 𝕄) (X : Dev nD → sProp 𝕄) : mix c O X c = O := if_pos rfl
/-- and at a peer. -/
theorem mix_ne {c k : Dev nD} (O : sProp 𝕄) (X : Dev nD → sProp 𝕄) (h : k ≠ c) : mix c O X k = X k := if_neg h

section Stages
variable (r : ℕ) (c : Dev nD)
def sI : Dev nD → sProp 𝕄 := mix c (ownI c) (EI c)
def sJ : Dev nD → sProp 𝕄 := mix c (ownI c) (EJ c)
def s0 : Dev nD → sProp 𝕄 := mix c (own0 D r c) (E0 D r c)
def s1 : Dev nD → sProp 𝕄 := mix c (own0 D r c) (E1 r c)
def s1' : Dev nD → sProp 𝕄 := mix c (own1 D r c) (E1 r c)
def s2 : Dev nD → sProp 𝕄 := mix c (own1 D r c) (E2 D r c)
/-- The own pieces once the sums are formed: the partial sums are not needed any more. -/
def s2' : Dev nD → sProp 𝕄 := mix c (own3 D r c) (E2 D r c)
def s3 : Dev nD → sProp 𝕄 := mix c (own3 D r c) (E3 D r c)
def s4 : Dev nD → sProp 𝕄 := mix c (own3 D r c) (E4 D r c)
def s5 : Dev nD → sProp 𝕄 := mix c (own5 D r c) (E5 D r c)
def s6 : Dev nD → sProp 𝕄 := mix c (own5 D r c) (E6 r c)
def s6' : Dev nD → sProp 𝕄 := mix c (own6 D r c) (E6 r c)
def s7 : Dev nD → sProp 𝕄 := mix c (own6 D r c) (E7 D r c)
def s8 : Dev nD → sProp 𝕄 := mix c (own6 D r c) (E8 D r c)
end Stages

/-- All the peers' pieces. -/
def M (f : Dev nD → sProp 𝕄) : sProp 𝕄 := bigSep Finset.univ f
/-- `Y` for the peers below `n`, `X` for the rest: the stage `X → Y` done for the first `n` peers. -/
def pr (n : ℕ) (X Y : Dev nD → sProp 𝕄) (k : Dev nD) : sProp 𝕄 := if k.val < n then Y k else X k

/-- No peer advanced; -/
theorem pr_zero (X Y : Dev nD → sProp 𝕄) : pr 0 X Y = X := by funext k; unfold pr; rw [if_neg (Nat.not_lt_zero _)]
/-- all advanced; -/
theorem pr_all (X Y : Dev nD → sProp 𝕄) : pr 16 X Y = Y := by funext k; unfold pr; rw [if_pos (show k.val < 16 from k.isLt)]
/-- peer `k` when it is next; -/
theorem pr_at (k : Dev nD) (X Y : Dev nD → sProp 𝕄) : pr k.val X Y k = X k := by unfold pr; rw [if_neg (Nat.lt_irrefl _)]
/-- peer `k` just advanced; -/
theorem pr_succ_at (k : Dev nD) (X Y : Dev nD → sProp 𝕄) : pr (k.val + 1) X Y k = Y k := by unfold pr; rw [if_pos (Nat.lt_succ_self _)]
/-- advancing `k` leaves the others; -/
theorem pr_other {k j : Dev nD} (X Y : Dev nD → sProp 𝕄) (h : j ≠ k) : pr (k.val + 1) X Y j = pr k.val X Y j := by
  have : j.val ≠ k.val := fun e => h (Fin.ext e)
  unfold pr
  by_cases h1 : j.val < k.val
  · rw [if_pos h1, if_pos (by omega)]
  · rw [if_neg h1, if_neg (by omega)]
/-- a peer not yet reached; -/
theorem pr_ge {n : ℕ} {k : Dev nD} (X Y : Dev nD → sProp 𝕄) (h : n ≤ k.val) : pr n X Y k = X k := by unfold pr; rw [if_neg (by omega)]
/-- a peer passed. -/
theorem pr_lt {n : ℕ} {k : Dev nD} (X Y : Dev nD → sProp 𝕄) (h : k.val < n) : pr n X Y k = Y k := by unfold pr; rw [if_pos h]

/-- Change what is held of one peer. -/
theorem M_upd {f f' : Dev nD → sProp 𝕄} (k : Dev nD) (h : ∀ j, j ≠ k → f' j = f j) :
    (M f : sProp 𝕄) ⊢ iprop(f k ∗ (f' k -∗ M f')) := by
  unfold M
  rw [bigSep_univ_at f k, bigSep_univ_at f' k, bigSep_congr (s := Finset.univ.erase k) (Φ := f') (Ψ := f) fun j hj => h j (Finset.ne_of_mem_erase hj)]
  iintro ⟨H, HR⟩
  isplitl [H]; · iexact H
  iintro H
  isplitl [H]; · iexact H
  iexact HR

/-- Change what is held of every peer. -/
theorem M_mono {f g : Dev nD → sProp 𝕄} (h : ∀ k, f k ⊢ g k) : (M f : sProp 𝕄) ⊢ M g := bigSep_mono fun k _ => h k
/-- Two pieces of every peer, apart or together. -/
theorem M_sep (f g : Dev nD → sProp 𝕄) : (M (fun k => iprop(f k ∗ g k)) : sProp 𝕄) = iprop(M f ∗ M g) := bigSep_sep' _ _ _

/-- What the device owes before payment `t`, whatever waits it has recorded. -/
def ow (c : Dev nD) (t : ℕ) : sProp 𝕄 := iprop(∃ W, owes (c : Thread nD τ) (rem c t) W)

/-- A device running a program to a postcondition. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Conditional statements -/

/-- The device's position on the mesh as the program computes it. -/
abbrev pos (c : Dev nD) : BitVec 32 := Scalar.remsi (Scalar.divsi (Dev.word c) 1#32) 16#32

abbrev isNot (c : Dev nD) (n : ℕ) : Prop := Scalar.cmpi .ne (Scalar.extui (Scalar.cmpi .ne (pos c) (BitVec.ofNat 32 n))) 0#32 = 1#1

/-- The printed test says that the device is not `k`. -/
theorem isNot_iff (c k : Dev nD) : isNot c k.val ↔ c ≠ k := by revert c k; decide +kernel

end Cert.KernelIdeal.Mlp

end
-- ==== Proof.KernelIdeal.Steps.lean ====
/-
# One statement of the body at a time
-/
module

public import proofs.«01_k».proof.Proof.KernelIdeal.States
public import Idealize.ShloMosaic.Lib.ValueLayout

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (D : Data F) (K : Dev nD × CI → ℕ)

/-! ## Where a copy lands -/

/-- Where an entry of slot `c` lies; -/
theorem rsSlot_emb (c : Dev nD) (a : Fin 32) (b : Fin 512) : (rsSlot c).view.emb (ix2 a b) = ix3 (c : Fin 16) a b := by
  rw [show (rsSlot c).view.emb (ix2 a b) = (slotR c).emb (Shape.reshapeEquiv (show S32x512.numel = S1x32x512.numel by decide) (ix2 a b)) from rfl, reshapeEquiv_ix2_1ab]
  funext d; apply Fin.ext
  match d with
  | ⟨0, _⟩ => rfl
  | ⟨1, _⟩ => show 0 + 1 * a.val = a.val; omega
  | ⟨2, _⟩ => show 0 + 1 * b.val = b.val; omega
/-- of half `s`; -/
theorem rSlot_emb (s : Fin 2) (a : Fin 32) (b : Fin 512) : (rSlot s).view.emb (ix2 a b) = ix3 s a b := by
  rw [show (rSlot s).view.emb (ix2 a b) = (rslotR s).emb (Shape.reshapeEquiv (show S32x512.numel = S1x32x512.numel by decide) (ix2 a b)) from rfl, reshapeEquiv_ix2_1ab]
  funext d; apply Fin.ext
  match d with
  | ⟨0, _⟩ => rfl
  | ⟨1, _⟩ => show 0 + 1 * a.val = a.val; omega
  | ⟨2, _⟩ => show 0 + 1 * b.val = b.val; omega
/-- of the rows of `k`; -/
theorem rowR_emb (k : Dev nD) (a : Fin 32) (b : Fin 512) : (rowR k).emb (ix2 a b) = ix2 ⟨32 * k.val + a.val, row_lt k a⟩ b := by
  funext d; apply Fin.ext
  match d with
  | ⟨0, _⟩ => show 32 * k.val + 1 * a.val = 32 * k.val + a.val; omega
  | ⟨1, _⟩ => show 0 + 1 * b.val = b.val; omega
/-- of these rows of the partial sums; -/
theorem pRow_emb (k : Dev nD) (a : Fin 32) (b : Fin 512) : (pRow k).view.emb (ix2 a b) = ix2 ⟨32 * k.val + a.val, row_lt k a⟩ b := rowR_emb k a b
/-- and of the gathered matrix. -/
theorem agRow_emb (k : Dev nD) (a : Fin 32) (b : Fin 512) : (agRow k).view.emb (ix2 a b) = ix2 ⟨32 * k.val + a.val, row_lt k a⟩ b := rowR_emb k a b

/-- Contents of a set, an element of the set at a time, through a view. -/
theorem eq_on_view {sp : Space} {e : EltTy} (v : View sig .tc sp S32x512 e) {β : Type} {f g : v.ref.ty.shape.Idx → β}
    (h : ∀ (a : Fin 32) (b : Fin 512), f (v.emb (ix2 a b)) = g (v.emb (ix2 a b))) : ∀ i ∈ v.set, f i = g i := fun i hi => by
  obtain ⟨x, -, rfl⟩ := Finset.mem_map.mp hi
  have e : x = ix2 (x 0) (x 1) := eq_ix2 x
  rw [e]; exact h _ _

/-- Device `k`'s rows of the partial sums of `c`, landed in slot `c` of `k`. -/
theorem land_rs (r : ℕ) (c k : Dev nD) (fd : Slots F) :
    ∀ i ∈ (rsSlot c).view.set, (rsSlot c).view.write (Elt F) fd ((pRow k).view.read (Elt F) (D.P r c)) Finset.univ i = RS D r k i :=
  eq_on_view _ fun a b => by
    rw [View.write_emb_of_mem _ _ (Finset.mem_univ _), rsSlot_emb]
    show D.P r c ((pRow k).view.emb (ix2 a b)) = _
    rw [pRow_emb]; rfl
/-- The finished rows of `c`, landed in rows `c` of a gathered matrix. -/
theorem land_ag (r : ℕ) (c : Dev nD) (s : Fin 2) (fd : Mat F) :
    ∀ i ∈ (agRow c).view.set, (agRow c).view.write (Elt F) fd ((rSlot s).view.read (Elt F) (HB D r c)) Finset.univ i = D.H r i :=
  eq_on_view _ fun a b => by
    rw [View.write_emb_of_mem _ _ (Finset.mem_univ _), agRow_emb]
    show HB D r c ((rSlot s).view.emb (ix2 a b)) = _
    rw [rSlot_emb]; rfl

/-! ## A conditional statement about one peer -/

/-- A stage advanced by peer `k`: what is held of `k` goes from `X` to `Y`, of the others nothing changes. -/
def Adv (f f' : Dev nD → sProp 𝕄) (k : Dev nD) (X Y : sProp 𝕄) : Prop := f k = X ∧ f' k = Y ∧ ∀ j, j ≠ k → f' j = f j

/-- The next peer advances, of one stage; -/
theorem adv (n : ℕ) (hn : n < 16) (X Y : Dev nD → sProp 𝕄) :
    Adv (pr n X Y) (pr (n + 1) X Y) (⟨n, hn⟩ : Dev nD) (X ⟨n, hn⟩) (Y ⟨n, hn⟩) :=
  ⟨pr_at (⟨n, hn⟩ : Dev nD) X Y, pr_succ_at (⟨n, hn⟩ : Dev nD) X Y, fun j hj => pr_other (k := (⟨n, hn⟩ : Dev nD)) X Y hj⟩

/-- Three stages under way at once: `Z` below `a`, `Y` below `b`, `X` above. -/
def pr3 (a b : ℕ) (X Y Z : Dev nD → sProp 𝕄) : Dev nD → sProp 𝕄 := pr a (pr b X Y) Z

/-- of the later of two stages under way; -/
theorem adv_mid (a n : ℕ) (hn : n < 16) (ha : a ≤ n) (X Y Z : Dev nD → sProp 𝕄) :
    Adv (pr3 a n X Y Z) (pr3 a (n + 1) X Y Z) (⟨n, hn⟩ : Dev nD) (X ⟨n, hn⟩) (Y ⟨n, hn⟩) := by
  refine ⟨?_, ?_, fun j hj => ?_⟩
  · exact (pr_ge (k := (⟨n, hn⟩ : Dev nD)) _ _ ha).trans (pr_at (⟨n, hn⟩ : Dev nD) X Y)
  · exact (pr_ge (k := (⟨n, hn⟩ : Dev nD)) _ _ ha).trans (pr_succ_at (⟨n, hn⟩ : Dev nD) X Y)
  · unfold pr3
    by_cases h : j.val < a
    · rw [pr_lt _ _ h, pr_lt _ _ h]
    · rw [pr_ge _ _ (Nat.le_of_not_lt h), pr_ge _ _ (Nat.le_of_not_lt h)]
      exact pr_other (k := (⟨n, hn⟩ : Dev nD)) X Y hj
/-- of the stage before it. -/
theorem adv_low (n b : ℕ) (hn : n < 16) (hb : n < b) (X Y Z : Dev nD → sProp 𝕄) :
    Adv (pr3 n b X Y Z) (pr3 (n + 1) b X Y Z) (⟨n, hn⟩ : Dev nD) (Y ⟨n, hn⟩) (Z ⟨n, hn⟩) := by
  refine ⟨?_, ?_, fun j hj => ?_⟩
  · exact (pr_at (⟨n, hn⟩ : Dev nD) _ _).trans (pr_lt (k := (⟨n, hn⟩ : Dev nD)) _ _ hb)
  · exact pr_succ_at (⟨n, hn⟩ : Dev nD) _ _
  · exact pr_other (k := (⟨n, hn⟩ : Dev nD)) _ _ hj

/-- A device owes itself nothing: its own turn is skipped. -/
theorem ow_skip (c : Dev nD) {t : ℕ} (ht : t < 112) (h : peer t = c) : (ow c t : sProp 𝕄) ⊢ ow c (t + 1) := by
  unfold ow
  rw [rem_step c ht, show pay c t = 0 from if_pos h, add_zero]

/-- The statement for peer `k`, skipped on `k` itself. -/
theorem peer_stmt {f f' : Dev nD → sProp 𝕄} {c k : Dev nD} {X Y : Dev nD → sProp 𝕄} {O : sProp 𝕄}
    (hA : Adv f f' k (mix c O X k) (mix c O Y k)) {n : ℕ} (hn : n = k.val) {t t' : ℕ} (ho : k = c → (ow c t : sProp 𝕄) ⊢ ow c t')
    {α : Type} {Q : α → sProp 𝕄} {q : Prog (TpuEff nD τ sig (Elt F) Λ₀ .tc) α} {p : isNot c n → Prog (TpuEff nD τ sig (Elt F) Λ₀ .tc) α}
    (hop : k ≠ c → ∀ h, records D K ⊢ iprop(X k -∗ ow c t -∗ (Y k -∗ ow c t' -∗ wpc c q Q) -∗ wpc c (p h) Q)) :
    records D K ⊢ iprop(M f -∗ ow c t -∗ (M f' -∗ ow c t' -∗ wpc c q Q) -∗ wpc c (if h : isNot c n then p h else q) Q) := by
  subst hn
  obtain ⟨h1, h2, h3⟩ := hA
  iintro #HR HM HO Hk
  by_cases hk : k = c
  · rw [dif_neg (fun h => (isNot_iff c k).mp h hk.symm)]
    have e : f' = f := funext fun j => by
      by_cases hj : j = k
      · subst hj; subst hk; rw [h1, h2, mix_self, mix_self]
      · exact h3 j hj
    subst e
    iapply Hk $$ HM
    iapply (ho hk) $$ HO
  · rw [dif_pos ((isNot_iff c k).mpr fun h => hk h.symm)]
    have e1 := h1.trans (mix_ne O X hk)
    have e2 := h2.trans (mix_ne O Y hk)
    ihave ⟨Hx, HM⟩ := (M_upd k h3) $$ HM
    ihave Hx := (Entails.of_eq e1) $$ Hx
    iapply (hop hk _) $$ HR Hx HO
    iintro Hy HO
    iapply Hk $$ [HM Hy] HO
    iapply HM
    iapply (Entails.of_eq e2.symm) $$ Hy

/-! ## The semaphores as the program names them -/

/-- A semaphore index is within its array. -/
theorem one_inb (n : ℕ) (hn : n < 16) : ∀ a, (![n] : Fin 1 → ℕ) a + S1.size a ≤ S16.size a := fun a => by
  fin_cases a; show n + 1 ≤ 16; omega

abbrev semOf (A : DmaSems sig S16) (o : Fin 1 → ℕ) (i : ∀ a, o a + S1.size a ≤ S16.size a) : DmaSem sig :=
  ((A.slice (Rect.unit (s := S16) o S1.size i)).squeeze S_ squeezes_S1_S_).sem

/-- The four arrays' semaphores, by family: `sa`, -/
theorem sem_sa (k : Dev nD) (i) : semOf cc0_scratch5 ![k.val] i = xsem 0 k := by revert k; decide +kernel
/-- `ra`, -/
theorem sem_ra (k : Dev nD) (i) : semOf cc0_scratch6 ![k.val] i = xsem 1 k := by revert k; decide +kernel
/-- `sb`, -/
theorem sem_sb (k : Dev nD) (i) : semOf cc0_scratch7 ![k.val] i = xsem 2 k := by revert k; decide +kernel
/-- `rb`. -/
theorem sem_rb (k : Dev nD) (i) : semOf cc0_scratch8 ![k.val] i = xsem 3 k := by revert k; decide +kernel

/-! ## What a payment is -/

/-- A barrier payment's peer, -/
theorem peer_bar (k : Dev nD) : peer k.val = k := Fin.ext (Nat.mod_eq_of_lt k.isLt)
/-- and a transfer's. -/
theorem peer_x (n : ℕ) (k : Dev nD) : peer (16 * n + k.val) = k := Fin.ext (by
  have : k.val < 16 := k.isLt
  show (16 * n + k.val) % 16 = k.val; omega)

/-- The barrier payment to `k`; -/
theorem pay_bar {c k : Dev nD} (h : k ≠ c) : pay c k.val = tallyAt (barCell k) 0 1 := by
  have : k.val < 16 := k.isLt
  unfold pay payCell payIx payAmt
  rw [peer_bar, if_neg h, if_pos (by omega), if_pos (by omega), show k.val / 16 = 0 by omega]
/-- the payment by a copy of partial sums; -/
theorem pay_rs {c k : Dev nD} (r : ℕ) (h : k ≠ c) : pay c (16 * (2 * r + 1) + k.val) = tallyAt (xCell 1 c k) r N := by
  have : k.val < 16 := k.isLt
  have e : (16 * (2 * r + 1) + k.val) / 16 = 2 * r + 1 := by omega
  unfold pay payCell payIx payAmt
  rw [peer_x, if_neg h, e, if_neg (show ¬ 2 * r + 1 = 0 by omega), if_neg (show ¬ 2 * r + 1 = 0 by omega), if_pos (show (2 * r + 1) % 2 = 1 by omega), show (2 * r + 1 - 1) / 2 = r by omega]
/-- the payment by a copy of finished rows. -/
theorem pay_ag {c k : Dev nD} (r : ℕ) (h : k ≠ c) : pay c (16 * (2 * r + 2) + k.val) = tallyAt (xCell 3 c k) r N := by
  have : k.val < 16 := k.isLt
  have e : (16 * (2 * r + 2) + k.val) / 16 = 2 * r + 2 := by omega
  unfold pay payCell payIx payAmt
  rw [peer_x, if_neg h, e, if_neg (show ¬ 2 * r + 2 = 0 by omega), if_neg (show ¬ 2 * r + 2 = 0 by omega), if_neg (show ¬ (2 * r + 2) % 2 = 1 by omega), show (2 * r + 2 - 1) / 2 = r by omega]

/-! ## The operations -/

/-- The signal to a peer, which lends it a slot. -/
theorem op_sig {c k : Dev nD} (hk : k ≠ c) {dv : ℕ} {hv : dv < nD} (e : dv = k.val) {α : Type} {Q : α → sProp 𝕄}
    {q : PUnit.{1} → Prog (TpuEff nD τ sig (Elt F) Λ₀ .tc) α} :
    records D K ⊢ iprop(EI c k -∗ ow c k.val -∗ (EJ c k -∗ ow c (k.val + 1) -∗ wpc c (q ⟨⟩) Q)
      -∗ wpc c (do semSignalWord (⟨dv, hv⟩ : Dev nD) barS 1#32; q ⟨⟩) Q) := by
  subst e
  have ht : k.val < 112 := Nat.lt_trans (show k.val < 16 from k.isLt) (by decide)
  simp only [semSignalWord, Prog.bind_op, Prog.bind_ret]
  unfold EI EJ slotE ow
  iintro #HR ⟨Ht, ⟨%f, Hs⟩, Hrest⟩ ⟨%W, HO⟩ Hk
  iapply (Rounds.wp_signal 𝒱₀ ER (sched D) (c : Thread nD τ) none (dst := (k : Thread nD τ)) (κ := K (k, none))
      (d := c) (by rw [duties_bar]; exact Finset.mem_erase.mpr ⟨fun h => hk h.symm, Finset.mem_univ _⟩)
      ((amount_bar D k 0 c).trans (by decide)) 0 (O₀ := rem c k.val) (rem c (k.val + 1)) (by rw [rem_step c ht, pay_bar hk]; rfl)) $$ [HO Ht Hs]
  · isplitr; · iapply (rec_inv D K (k, none)); iexact HR
    isplitl [HO]; · iexact HO
    isplitl [Ht]; · iexact Ht
    isplitl [Hs]; · rw [payload_bar]; unfold barPay; iexists f; iexact Hs
    iapply (rec_reached D K (k, none)); iexact HR
  iintro HO
  iapply Hk $$ Hrest
  iexists W; iexact HO

/-- A slot, a block of partial sums -/
theorem credit_slot (c : Dev nD) : (rsSlot c).view.dmaCredit = N := rfl
/-- and one of the gathered matrix -/
theorem credit_pRow (c : Dev nD) : (pRow c).view.dmaCredit = N := rfl
/-- have the same credit. -/
theorem credit_agRow (c : Dev nD) : (agRow c).view.dmaCredit = N := rfl

/-- Copying partial sums to `k`: what it takes and leaves; -/
theorem send_rs (r : ℕ) (hr : r < 3) {c k : Dev nD} (hk : k ≠ c)
    {hsc : (rsSlot c : Memref sig (Dev.tc k : Thread nD τ).2.kind .vmem S32x512 .bf16).view.ref.isScScratch = false}
    {hsrc : (pRow k).view.WordExact} {hdst : (rsSlot c).view.WordExact}
    {hsem : DmaTarget.Typed .vmem (.dma (xsem 1 c)) (.remote (Dev.tc k : Thread nD τ) (rsSlot c) (.dma (xsem 0 k)) hsc)} {α : Type} {Q : α → sProp 𝕄}
    {q : PUnit.{1} → Prog (TpuEff nD τ sig (Elt F) Λ₀ .tc) α} (f : Slots F) (W : Waits sig ℕ) :
    iprop(cellInv ER (sched D) (K (c, some (0, k))) (xCell 0 k c) ∗ cellInv ER (sched D) (K (k, some (1, c))) (xCell 1 c k)
        ∗ prow c k (D.P r c) ∗ (slot k c f ∗ (∃ f, agrow c k f) ∗ reached ER (xCell 3 k c) r)
        ∗ owes (c : Thread nD τ) (rem c (16 * (2 * r + 1) + k.val)) W
        ∗ dutyTok ER (xCell 0 k c) r (0 : Dev nD) ∗ reached ER (xCell 0 k c) r ∗ dutyTok ER (xCell 1 c k) r (0 : Dev nD) ∗ reached ER (xCell 1 c k) r)
      ⊢ iprop(((cred (tallyAt (xCell 0 k c) r N) ∗ owes (c : Thread nD τ) (rem c (16 * (2 * r + 1) + k.val + 1)) W) -∗ wpc c (q ⟨⟩) Q)
        -∗ wpc c (.op (.enqueueDma (pRow k) (.remote (Dev.tc k : Thread nD τ) (rsSlot c) (.dma (xsem 0 k)) hsc) (.dma (xsem 1 c)) hsrc hdst hsem) q) Q) := by
  have ht : 16 * (2 * r + 1) + k.val < 112 := by have : k.val < 16 := k.isLt; omega
  unfold prow slot
  have h1 : (slot k c ((rsSlot c).view.write (Elt F) f ((pRow k).view.read (Elt F) (D.P r c)) Finset.univ) : sProp 𝕄) ⊢ slot k c (RS D r k) := by
    unfold slot; exact Entails.of_eq (pointsTo_congr (land_rs D r c k f))
  have h2 : iprop(slot k c ((rsSlot c).view.write (Elt F) f ((pRow k).view.read (Elt F) (D.P r c)) Finset.univ) ∗ (∃ f, agrow (F := F) c k f) ∗ reached ER (xCell 3 k c) r)
      ⊢ (sched D).payload (xCell 1 c k) r 0 := by
    rw [payload_ra]; unfold raPay
    iintro ⟨H, H2, H3⟩
    isplitl [H]; · iapply h1; iexact H
    isplitl [H2]; · iexact H2
    iexact H3
  unfold slot at h2
  have h3 : (prow c k (D.P r c) : sProp 𝕄) ⊢ (sched D).payload (xCell 0 k c) r 0 := by
    rw [payload_sa]; unfold saPay; iintro H; iexists _; iexact H
  unfold prow at h3
  have h4 : rem c (16 * (2 * r + 1) + k.val) = rem c (16 * (2 * r + 1) + k.val + 1) + tallyAt (xCell 1 c k) r N := by rw [rem_step c ht, pay_rs r hk]
  have h5 : (0 : Dev nD) ∈ (sched (F := F) D).duties (xCell 0 k c) r := by rw [duties_x D c k 0 r hk hr]; exact Finset.mem_singleton_self _
  have h6 : (0 : Dev nD) ∈ (sched (F := F) D).duties (xCell 1 c k) r := by rw [duties_x D k c 1 r (fun h => hk h.symm) hr]; exact Finset.mem_singleton_self _
  exact Rounds.wp_send_pointsTo_with 𝒱₀ ER (sched D) (c : Thread nD τ) none (κ₁ := K (c, some (0, k))) (κ₂ := K (k, some (1, c)))
    (c' := (k : Thread nD τ)) (src := pRow k) (dst := rsSlot c) (sS := .dma (xsem 0 k)) (sem := .dma (xsem 1 c)) (hsc := hsc) (hsrc := hsrc) (hdst := hdst) (hsem := hsem) (k := q) (q := fullShare) (Q := Q) (Es := Set.univ) (r₁ := r) (r₂ := r) (d₁ := 0) (d₂ := 0) (fs := D.P r c) (fd := f) (F := iprop((∃ f, agrow c k f) ∗ reached ER (xCell 3 k c) r))
    h5 h6 r r N (by exact credit_slot c) (amount_x D c k 0 r 0) (amount_x D k c 1 r 0) _ h4 (W := W) h3 h2

/-- the same of finished rows; -/
theorem send_ag (r : ℕ) (hr : r < 3) {c k : Dev nD} (hk : k ≠ c)
    {hsc : (agRow c : Memref sig (Dev.tc k : Thread nD τ).2.kind .vmem S32x512 .bf16).view.ref.isScScratch = false}
    {hsrc : (rSlot (par r)).view.WordExact} {hdst : (agRow c).view.WordExact}
    {hsem : DmaTarget.Typed .vmem (.dma (xsem 3 c)) (.remote (Dev.tc k : Thread nD τ) (agRow c) (.dma (xsem 2 k)) hsc)} {α : Type} {Q : α → sProp 𝕄}
    {q : PUnit.{1} → Prog (TpuEff nD τ sig (Elt F) Λ₀ .tc) α} (f : Mat F) (W : Waits sig ℕ) :
    iprop(cellInv ER (sched D) (K (c, some (2, k))) (xCell 2 k c) ∗ cellInv ER (sched D) (K (k, some (3, c))) (xCell 3 c k)
        ∗ rsl (Transfers.shareTokN fullShare k.val) c (par r) (HB D r c) ∗ (agrow k c f ∗ rbMore r k c)
        ∗ owes (c : Thread nD τ) (rem c (16 * (2 * r + 2) + k.val)) W
        ∗ dutyTok ER (xCell 2 k c) r (0 : Dev nD) ∗ reached ER (xCell 2 k c) r ∗ dutyTok ER (xCell 3 c k) r (0 : Dev nD) ∗ reached ER (xCell 3 c k) r)
      ⊢ iprop(((cred (tallyAt (xCell 2 k c) r N) ∗ owes (c : Thread nD τ) (rem c (16 * (2 * r + 2) + k.val + 1)) W) -∗ wpc c (q ⟨⟩) Q)
        -∗ wpc c (.op (.enqueueDma (rSlot (par r)) (.remote (Dev.tc k : Thread nD τ) (agRow c) (.dma (xsem 2 k)) hsc) (.dma (xsem 3 c)) hsrc hdst hsem) q) Q) := by
  have ht : 16 * (2 * r + 2) + k.val < 112 := by have : k.val < 16 := k.isLt; omega
  unfold rsl agrow
  have h1 : (agrow k c ((agRow c).view.write (Elt F) f ((rSlot (par r)).view.read (Elt F) (HB D r c)) Finset.univ) : sProp 𝕄) ⊢ agrow k c (D.H r) := by
    unfold agrow; exact Entails.of_eq (pointsTo_congr (land_ag D r c (par r) f))
  have h2 : iprop(agrow k c ((agRow c).view.write (Elt F) f ((rSlot (par r)).view.read (Elt F) (HB D r c)) Finset.univ) ∗ rbMore (F := F) r k c)
      ⊢ (sched D).payload (xCell 3 c k) r 0 := by
    rw [payload_rb]; unfold rbPay
    iintro ⟨H, H2⟩
    isplitl [H]; · iapply h1; iexact H
    iexact H2
  unfold agrow at h2
  have h3 : (rsl (Transfers.shareTokN fullShare k.val) c (par r) (HB D r c) : sProp 𝕄) ⊢ (sched D).payload (xCell 2 k c) r 0 := by
    rw [payload_sb]; unfold sbPay; exact BI.Entails.refl _
  unfold rsl at h3
  have h4 : rem c (16 * (2 * r + 2) + k.val) = rem c (16 * (2 * r + 2) + k.val + 1) + tallyAt (xCell 3 c k) r N := by rw [rem_step c ht, pay_ag r hk]
  have h5 : (0 : Dev nD) ∈ (sched (F := F) D).duties (xCell 2 k c) r := by rw [duties_x D c k 2 r hk hr]; exact Finset.mem_singleton_self _
  have h6 : (0 : Dev nD) ∈ (sched (F := F) D).duties (xCell 3 c k) r := by rw [duties_x D k c 3 r (fun h => hk h.symm) hr]; exact Finset.mem_singleton_self _
  exact Rounds.wp_send_pointsTo_with 𝒱₀ ER (sched D) (c : Thread nD τ) none (κ₁ := K (c, some (2, k))) (κ₂ := K (k, some (3, c)))
    (c' := (k : Thread nD τ)) (src := rSlot (par r)) (dst := agRow c) (sS := .dma (xsem 2 k)) (sem := .dma (xsem 3 c)) (hsc := hsc) (hsrc := hsrc) (hdst := hdst) (hsem := hsem) (k := q)
    (q := Transfers.shareTokN fullShare k.val) (Q := Q) (Es := Set.univ)
    (r₁ := r) (r₂ := r) (d₁ := 0) (d₂ := 0) (fs := HB D r c) (fd := f) (F := rbMore r k c)
    h5 h6 r r N (by exact credit_agRow c) (amount_x D c k 2 r 0) (amount_x D k c 3 r 0) _ h4 (W := W) h3 h2

/-! ## What each operation does to the pieces of one peer -/

/-- the first as a statement of the program, -/
theorem op_rs (r : ℕ) (hr : r < 3) {c k : Dev nD} (hk : k ≠ c) {sS sR : DmaSem sig} (hS : sS = xsem 0 k) (hR : sR = xsem 1 c)
    {dv : ℕ} {hv : dv < nD} (e : dv = k.val) {hsc : (rsSlot c : Memref sig (Dev.tc (⟨dv, hv⟩ : Dev nD) : Thread nD τ).2.kind .vmem S32x512 .bf16).view.ref.isScScratch = false}
    {hsrc : (pRow k).view.WordExact} {hdst : (rsSlot c).view.WordExact}
    {hsem : DmaTarget.Typed .vmem (.dma sR) (.remote (Dev.tc (⟨dv, hv⟩ : Dev nD) : Thread nD τ) (rsSlot c) (.dma sS) hsc)} {α : Type} {Q : α → sProp 𝕄}
    {q : PUnit.{1} → Prog (TpuEff nD τ sig (Elt F) Λ₀ .tc) α} :
    records D K ⊢ iprop(E0 D r c k -∗ ow c (16 * (2 * r + 1) + k.val) -∗ (E1 r c k -∗ ow c (16 * (2 * r + 1) + k.val + 1) -∗ wpc c (q ⟨⟩) Q)
      -∗ wpc c (do Prog.lift (.enqueueDma (pRow k) (.remote (Dev.tc (⟨dv, hv⟩ : Dev nD) : Thread nD τ) (rsSlot c) (.dma sS) hsc) (.dma sR) hsrc hdst hsem); q ⟨⟩) Q) := by
  subst e hS hR
  have ht : 16 * (2 * r + 1) + k.val < 112 := by have : k.val < 16 := k.isLt; omega
  simp only [Prog.lift, Prog.bind_op, Prog.bind_ret]
  unfold E0 E1 slotE agrowE round tokA ow ps cr
  iintro #HR ⟨⟨%f, Hs⟩, #Hr1, Hp, ⟨%g, Hg⟩, ⟨Ha0, #Hr0⟩, H1, ⟨Ha3, #Hr3⟩, Hsb, ⟨⟨Ht0, Ht1⟩, Hc1, Htb, Hc3⟩, Hf⟩ ⟨%W, HO⟩ Hk
  iapply (send_rs D K r hr hk f W) $$ [Hs Hp Hg HO Ht0 Ht1]
  · isplitr; · iapply (rec_inv D K (c, some (0, k))); iexact HR
    isplitr; · iapply (rec_inv D K (k, some (1, c))); iexact HR
    isplitl [Hp]; · iexact Hp
    isplitl [Hs Hg]
    · isplitl [Hs]; · iexact Hs
      isplitl [Hg]; · iexists g; iexact Hg
      iexact Hr3
    isplitl [HO]; · iexact HO
    isplitl [Ht0]; · iexact Ht0
    isplitr; · iexact Hr0
    isplitl [Ht1]; · iexact Ht1
    iexact Hr1
  iintro ⟨Hcs, HO⟩
  iapply Hk $$ [Hcs Ha0 H1 Ha3 Hsb Hc1 Htb Hc3 Hf]
  · isplitl [Hcs]; · iexact Hcs
    isplitl [Ha0]; · isplitl [Ha0]; · iexact Ha0
                     iexact Hr0
    isplitl [H1]; · iexact H1
    isplitl [Ha3]; · isplitl [Ha3]; · iexact Ha3
                     iexact Hr3
    isplitl [Hsb]; · iexact Hsb
    isplitl [Hc1]; · iexact Hc1
    isplitl [Htb]; · iexact Htb
    isplitl [Hc3]; · iexact Hc3
    iexact Hf
  iexists W; iexact HO

/-- What the next round uses up, apart. -/
theorem fut_next (r : ℕ) (hr : r < 2) (c k : Dev nD) : (fut (F := F) r c k : sProp 𝕄) ⊢ iprop(round (F := F) (r + 1) c k ∗ fut (F := F) (r + 1) c k) := by
  unfold fut
  match r, hr with
  | 0, _ => exact BI.Entails.refl _
  | 1, _ =>
    rw [if_neg (by decide), if_pos rfl, if_neg (by decide), if_neg (by decide)]
    iintro H
    isplitl [H]; · iexact H
    iempintro

/-- What goes with the finished rows: the receive slot for the next round, or nothing after the last. -/
theorem lend (r : ℕ) (c k : Dev nD) :
    iprop(slotE (F := F) c k ∗ reached ER (xCell 1 k c) (r + 1)) ⊢ iprop(rbMore (F := F) r k c ∗ keep (F := F) r c k) := by
  unfold rbMore keep slotE
  by_cases h : r < 2
  · rw [if_pos h, if_pos h]
    iintro H
    isplitl [H]; · iexact H
    iempintro
  · rw [if_neg h, if_neg h]
    iintro ⟨H, -⟩
    isplitr; · iempintro
    iexact H

/-- and the second. -/
theorem op_ag (r : ℕ) (hr : r < 3) {c k : Dev nD} (hk : k ≠ c) {sS sR : DmaSem sig} (hS : sS = xsem 2 k) (hR : sR = xsem 3 c)
    {dv : ℕ} {hv : dv < nD} (e : dv = k.val) {hsc : (agRow c : Memref sig (Dev.tc (⟨dv, hv⟩ : Dev nD) : Thread nD τ).2.kind .vmem S32x512 .bf16).view.ref.isScScratch = false}
    {hsrc : (rSlot (par r)).view.WordExact} {hdst : (agRow c).view.WordExact}
    {hsem : DmaTarget.Typed .vmem (.dma sR) (.remote (Dev.tc (⟨dv, hv⟩ : Dev nD) : Thread nD τ) (agRow c) (.dma sS) hsc)} {α : Type} {Q : α → sProp 𝕄}
    {q : PUnit.{1} → Prog (TpuEff nD τ sig (Elt F) Λ₀ .tc) α} :
    records D K ⊢ iprop(E5 D r c k -∗ ow c (16 * (2 * r + 2) + k.val) -∗ (E6 r c k -∗ ow c (16 * (2 * r + 2) + k.val + 1) -∗ wpc c (q ⟨⟩) Q)
      -∗ wpc c (do Prog.lift (.enqueueDma (rSlot (par r)) (.remote (Dev.tc (⟨dv, hv⟩ : Dev nD) : Thread nD τ) (agRow c) (.dma sS) hsc) (.dma sR) hsrc hdst hsem); q ⟨⟩) Q) := by
  subst e hS hR
  simp only [Prog.lift, Prog.bind_op, Prog.bind_ret]
  unfold E5 E6 agrowE tokB ow sbPay ps cr
  iintro #HR ⟨Hp, H0, ⟨Ha1, #Hr1⟩, H3, ⟨Ha2, #Hr2⟩, Hsb, Hs, ⟨%f, Hg⟩, #Hr3, ⟨Ht2, Ht3⟩, Hc3, Hf⟩ ⟨%W, HO⟩ Hk
  ihave ⟨Hm, Hkeep⟩ := (lend r c k) $$ [Hs]
  · isplitl [Hs]; · iexact Hs
    iexact Hr1
  iapply (send_ag D K r hr hk f W) $$ [Hsb Hg Hm HO Ht2 Ht3]
  · isplitr; · iapply (rec_inv D K (c, some (2, k))); iexact HR
    isplitr; · iapply (rec_inv D K (k, some (3, c))); iexact HR
    isplitl [Hsb]; · iexact Hsb
    isplitl [Hg Hm]
    · isplitl [Hg]; · iexact Hg
      iexact Hm
    isplitl [HO]; · iexact HO
    isplitl [Ht2]; · iexact Ht2
    isplitr; · iexact Hr2
    isplitl [Ht3]; · iexact Ht3
    iexact Hr3
  iintro ⟨Hcs, HO⟩
  iapply Hk $$ [Hp H0 Ha1 H3 Ha2 Hcs Hkeep Hc3 Hf]
  · isplitl [Hp]; · iexact Hp
    isplitl [H0]; · iexact H0
    isplitl [Ha1]; · isplitl [Ha1]; · iexact Ha1
                     iexact Hr1
    isplitl [H3]; · iexact H3
    isplitl [Ha2]; · isplitl [Ha2]; · iexact Ha2
                     iexact Hr2
    isplitl [Hcs]; · iexact Hcs
    isplitl [Hkeep]; · iexact Hkeep
    isplitl [Hc3]; · iexact Hc3
    iexact Hf
  iexists W; iexact HO

/-- A wait for one block on a transfer cell. -/
theorem op_wait (a : Fin 4) (r : ℕ) (hr : r < 3) {c k : Dev nD} (hk : k ≠ c) {sS : DmaSem sig} (hS : sS = xsem a k) {t : ℕ}
    (hl : lv (xCell a k c) r < t / 16 + 1)
    {sp sp' : Space} {s s' : Shape} {e e' : EltTy} {src : Memref sig .tc sp' s' e'} {dst : Memref sig .tc sp s e} (hN : dst.view.dmaCredit = N)
    {hsrc : src.view.WordExact} {hdst : dst.view.WordExact} {α : Type} {Q : α → sProp 𝕄}
    {q : PUnit.{1} → Prog (TpuEff nD τ sig (Elt F) Λ₀ .tc) α} :
    records D K ⊢ iprop(ps r c k a -∗ cr r c k a -∗ ow c t -∗ (ps (r + 1) c k a -∗ (sched D).payload (xCell a k c) r 0 -∗ ow c t -∗ wpc c (q ⟨⟩) Q)
      -∗ wpc c (do Prog.lift (.waitDma2 sS src dst hsrc hdst); q ⟨⟩) Q) := by
  subst hS
  simp only [Prog.lift, Prog.bind_op, Prog.bind_ret]
  unfold ps cr ow
  iintro #HR ⟨Ha, -⟩ Hc ⟨%W, HO⟩ Hk
  iapply (Rounds.wp_wait_rest_token 𝒱₀ ER (sched D) (c : Thread nD τ) none (κ := K (c, some (a, k))) (sm := .dma (xsem a k)) (k' := N)
      (w := .waitDma2 (xsem a k) src dst hsrc hdst) (hN ▸ wpE_waitDma2_eq 𝒱₀ (c : Thread nD τ) none Set.univ) (Set.mem_univ _) r (O := rem c t) (W := W) (R := r) (m := 0) (T := ∅)
      (by rw [Nat.zero_add, expect_x D c k a r hk hr])) $$ [Ha Hc HO]
  · isplitr; · iapply (rec_inv D K (c, some (a, k))); iexact HR
    isplitl [Hc]; · iexact Hc
    isplitl [HO]; · iexact HO
    isplitr
    · iapply (mayWait c (.dma (xsem a k)) hr hl)
      unfold records; icases HR with ⟨-, -, H⟩; iexact H
    iexact Ha
  iintro ⟨HO, Ha, #Hr, Hpay⟩
  ihave Hp := (Entails.of_eq (rest_x D c k a r hk hr)) $$ Hpay
  iapply Hk $$ [Ha] [Hp]
  · isplitl [Ha]; · iexact Ha
    iexact Hr
  · iexact Hp
  iexists _; iexact HO

end Cert.KernelIdeal.Mlp

end
-- ==== Proof.KernelIdeal.Stmts.lean ====
/-
# The conditional statements of the body
-/
module

public import proofs.«01_k».proof.Proof.KernelIdeal.Steps

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (D : Data F) (K : Dev nD × CI → ℕ)

/-! ## The waits, on the pieces of one peer -/

section Waits
variable {sS : DmaSem sig} {t : ℕ} {sp sp' : Space} {s s' : Shape} {e e' : EltTy} {src : Memref sig .tc sp' s' e'} {dst : Memref sig .tc sp s e}
  {hsrc : src.view.WordExact} {hdst : dst.view.WordExact} {α : Type} {Q : α → sProp (MT nD τ sig ℕ (Elt F) ℕ UU ℕ)} {q : PUnit.{1} → Prog (TpuEff nD τ sig (Elt F) Λ₀ .tc) α}

/-- Waiting for `k`'s partial sums. -/
theorem op_ra (r : ℕ) (hr : r < 3) {c k : Dev nD} (hk : k ≠ c) (hS : sS = xsem 1 k) (ht : t / 16 = 2 * r + 2) (hN : dst.view.dmaCredit = N) :
    records D K ⊢ iprop(E1 r c k -∗ ow c t -∗ (E2 D r c k -∗ ow c t -∗ wpc c (q ⟨⟩) Q)
      -∗ wpc c (do Prog.lift (.waitDma2 sS src dst hsrc hdst); q ⟨⟩) Q) := by
  unfold E1 E2
  iintro #HR ⟨H0, Hp0, Hp1, Hp3, Hsb, Hc1, Htb, Hc3, Hf⟩ HO Hk
  iapply (op_wait D K 1 r hr hk hS (t := t) (by rw [lv_x, if_pos rfl, ht]; omega) hN) $$ HR Hp1 Hc1 HO
  iintro Hp1 Hpay HO
  ihave Hp := (Entails.of_eq (payload_ra D c k r 0)) $$ Hpay
  unfold raPay agrowE
  icases Hp with ⟨Hs, Hg, Hr⟩
  iapply Hk $$ [-HO] HO
  isplitl [H0]; · iexact H0
  isplitl [Hp0]; · iexact Hp0
  isplitl [Hp1]; · iexact Hp1
  isplitl [Hp3]; · iexact Hp3
  isplitl [Hsb]; · iexact Hsb
  isplitl [Hs]; · iexact Hs
  isplitl [Hg]; · iexact Hg
  isplitl [Hr]; · iexact Hr
  isplitl [Htb]; · iexact Htb
  isplitl [Hc3]; · iexact Hc3
  iexact Hf

/-- Waiting until the partial sums for `k` have left. -/
theorem op_sa (r : ℕ) (hr : r < 3) {c k : Dev nD} (hk : k ≠ c) (hS : sS = xsem 0 k) (hN : dst.view.dmaCredit = N) :
    records D K ⊢ iprop(E2 D r c k -∗ ow c t -∗ (E3 D r c k -∗ ow c t -∗ wpc c (q ⟨⟩) Q)
      -∗ wpc c (do Prog.lift (.waitDma2 sS src dst hsrc hdst); q ⟨⟩) Q) := by
  unfold E2 E3
  iintro #HR ⟨H0, Hp0, Hrest⟩ HO Hk
  iapply (op_wait D K 0 r hr hk hS (t := t) (by rw [lv_x, if_neg (by decide), if_neg (by decide)]; omega) hN) $$ HR Hp0 H0 HO
  iintro Hp0 Hpay HO
  ihave Hp := (Entails.of_eq (payload_sa D c k r 0)) $$ Hpay
  unfold saPay prowE
  iapply Hk $$ [-HO] HO
  isplitl [Hp]; · iexact Hp
  isplitl [Hp0]; · iexact Hp0
  iexact Hrest

/-- Waiting until the earlier finished rows for `k` have left; -/
theorem op_sb (r : ℕ) (hr : r < 2) {c k : Dev nD} (hk : k ≠ c) (hS : sS = xsem 2 k) (hN : dst.view.dmaCredit = N) :
    records D K ⊢ iprop(E3 D (r + 1) c k -∗ ow c t -∗ (E4 D (r + 1) c k -∗ ow c t -∗ wpc c (q ⟨⟩) Q)
      -∗ wpc c (do Prog.lift (.waitDma2 sS src dst hsrc hdst); q ⟨⟩) Q) := by
  unfold E3 E4 sbp oldShare
  rw [if_neg (Nat.succ_ne_zero r), if_neg (Nat.succ_ne_zero r), Nat.add_sub_cancel]
  iintro #HR ⟨H1, H2, H3, H4, ⟨Hp2, Hc2⟩, Hrest⟩ HO Hk
  iapply (op_wait D K 2 r (by omega) hk hS (t := t) (by rw [lv_x, if_neg (by decide), if_neg (by decide)]; omega) hN) $$ HR Hp2 Hc2 HO
  iintro Hp2 Hpay HO
  ihave Hp := (Entails.of_eq (payload_sb D c k r 0)) $$ Hpay
  iapply Hk $$ [-HO] HO
  isplitl [H1]; · iexact H1
  isplitl [H2]; · iexact H2
  isplitl [H3]; · iexact H3
  isplitl [H4]; · iexact H4
  isplitl [Hp2]; · iexact Hp2
  isplitl [Hp]; · iexact Hp
  iexact Hrest

/-- the same of the last layer. -/
theorem op_sb_last {c k : Dev nD} (hk : k ≠ c) (hS : sS = xsem 2 k) (hN : dst.view.dmaCredit = N) :
    records D K ⊢ iprop(E7 D 2 c k -∗ ow c t -∗ (E8 D 2 c k -∗ ow c t -∗ wpc c (q ⟨⟩) Q)
      -∗ wpc c (do Prog.lift (.waitDma2 sS src dst hsrc hdst); q ⟨⟩) Q) := by
  unfold E7 E8
  iintro #HR ⟨H1, H2, H3, H4, Hp2, Hc2, Hrest⟩ HO Hk
  iapply (op_wait D K 2 2 (by decide) hk hS (t := t) (by rw [lv_x, if_neg (by decide), if_neg (by decide)]; omega) hN) $$ HR Hp2 Hc2 HO
  iintro Hp2 Hpay HO
  ihave Hp := (Entails.of_eq (payload_sb D c k 2 0)) $$ Hpay
  iapply Hk $$ [-HO] HO
  isplitl [H1]; · iexact H1
  isplitl [H2]; · iexact H2
  isplitl [H3]; · iexact H3
  isplitl [H4]; · iexact H4
  isplitl [Hp2]; · iexact Hp2
  isplitl [Hp]; · iexact Hp
  iexact Hrest

/-- Waiting for `k`'s finished rows. -/
theorem op_rb (r : ℕ) (hr : r < 3) {c k : Dev nD} (hk : k ≠ c) (hS : sS = xsem 3 k) (ht : t / 16 = 2 * r + 3) (hN : dst.view.dmaCredit = N) :
    records D K ⊢ iprop(E6 r c k -∗ ow c t -∗ (E7 D r c k -∗ ow c t -∗ wpc c (q ⟨⟩) Q)
      -∗ wpc c (do Prog.lift (.waitDma2 sS src dst hsrc hdst); q ⟨⟩) Q) := by
  unfold E6 E7
  iintro #HR ⟨H1, H2, H3, Hp3, H4, H5, H6, Hc3, Hf⟩ HO Hk
  iapply (op_wait D K 3 r hr hk hS (t := t) (by rw [lv_x, if_neg (by decide), if_pos rfl, ht]; omega) hN) $$ HR Hp3 Hc3 HO
  iintro Hp3 Hpay HO
  ihave Hp := (Entails.of_eq (payload_rb D c k r 0)) $$ Hpay
  unfold rbPay
  icases Hp with ⟨Hg, Hm⟩
  iapply Hk $$ [-HO] HO
  isplitl [H1]; · iexact H1
  isplitl [H2]; · iexact H2
  isplitl [H3]; · iexact H3
  isplitl [Hp3]; · iexact Hp3
  isplitl [H4]; · iexact H4
  isplitl [H5]; · iexact H5
  isplitl [H6]; · iexact H6
  isplitl [Hg]; · iexact Hg
  isplitl [Hm]; · iexact Hm
  iexact Hf

end Waits

/-! ## The conditional statements as the program has them -/

section Stmts
variable {f f' : Dev nD → sProp (MT nD τ sig ℕ (Elt F) ℕ UU ℕ)} {c : Dev nD} {α : Type} {Q : α → sProp (MT nD τ sig ℕ (Elt F) ℕ UU ℕ)} {q : Prog (TpuEff nD τ sig (Elt F) Λ₀ .tc) α}

/-- The signal under its test. -/
theorem sig_stmt (n : ℕ) (hn : n < 16) (hA : Adv f f' (⟨n, hn⟩ : Dev nD) (sI c ⟨n, hn⟩) (sJ c ⟨n, hn⟩)) {dv : ℕ} {hv : isNot c n → dv < nD} (e : dv = n) :
    records D K ⊢ iprop(M f -∗ ow c n -∗ (M f' -∗ ow c (n + 1) -∗ wpc c q Q)
      -∗ wpc c (if h : isNot c n then (do semSignalWord (⟨dv, hv h⟩ : Dev nD) barS 1#32; q) else q) Q) :=
  peer_stmt D K (k := (⟨n, hn⟩ : Dev nD)) (t := n) (t' := n + 1) hA rfl (fun h => ow_skip c (by omega) ((peer_bar (⟨n, hn⟩ : Dev nD)).trans h))
    fun hk h => op_sig D K hk (k := (⟨n, hn⟩ : Dev nD)) e (q := fun _ => q)

/-- The copy of partial sums under its test; -/
theorem rs_stmt_at (r : ℕ) (hr : r < 3) (n : ℕ) (hn : n < 16) (hA : Adv f f' (⟨n, hn⟩ : Dev nD) (s0 D r c ⟨n, hn⟩) (s1 D r c ⟨n, hn⟩)) {dv : ℕ} {hv : isNot c n → dv < nD} (e : dv = n)
    {o1 : Fin 1 → ℕ} {o2 : Fin 3 → ℕ} (h1 : o1 = ![c.val]) (h2 : o2 = ![c.val, 0, 0]) {i1 : (h : isNot c n) → _} {i1' : (h : isNot c n) → _} {i2 : (h : isNot c n) → _} {i3 : (h : isNot c n) → _} {hsc : (h : isNot c n) → _} {hsrc : (h : isNot c n) → _} {hdst : (h : isNot c n) → _} {hsem : (h : isNot c n) → _} :
    records D K ⊢ iprop(M f -∗ ow c (16 * (2 * r + 1) + n) -∗ (M f' -∗ ow c (16 * (2 * r + 1) + n + 1) -∗ wpc c q Q)
      -∗ wpc c (if h : isNot c n then (do
        Prog.lift (.enqueueDma (pM.slice (Rect.unit (s := S512x512) ![32 * n, 0] S32x512.size (i3 h)) (fun _ => rfl))
          (.remote (Dev.tc (⟨dv, hv h⟩ : Dev nD) : Thread nD τ) ((rsM.slice (Rect.unit (s := S16x32x512) o2 S1x32x512.size (i2 h)) (fun _ => rfl)).squeeze S32x512 squeezes_S1x32x512_S32x512)
            (.dma (semOf cc0_scratch5 ![n] (i1 h))) (hsc h)) (.dma (semOf cc0_scratch6 o1 (i1' h))) (hsrc h) (hdst h) (hsem h))
        q) else q) Q) := by
  subst h1 h2
  exact peer_stmt D K (k := (⟨n, hn⟩ : Dev nD)) (t := 16 * (2 * r + 1) + n) (t' := 16 * (2 * r + 1) + n + 1) hA rfl
    (fun h => ow_skip c (by omega) ((peer_x (2 * r + 1) (⟨n, hn⟩ : Dev nD)).trans h))
    fun hk h => op_rs D K r hr hk (k := (⟨n, hn⟩ : Dev nD)) (sem_sa ⟨n, hn⟩ _) (sem_ra c _) e (q := fun _ => q)

/-- the copy of finished rows under its test. -/
theorem ag_stmt_at (r : ℕ) (hr : r < 3) (n : ℕ) (hn : n < 16) (hA : Adv f f' (⟨n, hn⟩ : Dev nD) (s5 D r c ⟨n, hn⟩) (s6 D r c ⟨n, hn⟩)) {dv : ℕ} {hv : isNot c n → dv < nD} (e : dv = n)
    {o1 : Fin 1 → ℕ} {o2 : Fin 2 → ℕ} (h1 : o1 = ![c.val]) (h2 : o2 = ![32 * c.val, 0]) {i1 : (h : isNot c n) → _} {i1' : (h : isNot c n) → _} {i2 : (h : isNot c n) → _} {i3 : (h : isNot c n) → _} {hsc : (h : isNot c n) → _} {hsrc : (h : isNot c n) → _} {hdst : (h : isNot c n) → _} {hsem : (h : isNot c n) → _} :
    records D K ⊢ iprop(M f -∗ ow c (16 * (2 * r + 2) + n) -∗ (M f' -∗ ow c (16 * (2 * r + 2) + n + 1) -∗ wpc c q Q)
      -∗ wpc c (if h : isNot c n then (do
        Prog.lift (.enqueueDma ((rM.slice (Rect.unit (s := S2x32x512) ![r % 2, 0, 0] S1x32x512.size (i3 h)) (fun _ => rfl)).squeeze S32x512 squeezes_S1x32x512_S32x512)
          (.remote (Dev.tc (⟨dv, hv h⟩ : Dev nD) : Thread nD τ) (agM.slice (Rect.unit (s := S512x512) o2 S32x512.size (i2 h)) (fun _ => rfl))
            (.dma (semOf cc0_scratch7 ![n] (i1 h))) (hsc h)) (.dma (semOf cc0_scratch8 o1 (i1' h))) (hsrc h) (hdst h) (hsem h))
        q) else q) Q) := by
  subst h1 h2
  exact peer_stmt D K (k := (⟨n, hn⟩ : Dev nD)) (t := 16 * (2 * r + 2) + n) (t' := 16 * (2 * r + 2) + n + 1) hA rfl
    (fun h => ow_skip c (by omega) ((peer_x (2 * r + 2) (⟨n, hn⟩ : Dev nD)).trans h))
    fun hk h => op_ag D K r hr hk (k := (⟨n, hn⟩ : Dev nD)) (sem_sb ⟨n, hn⟩ _) (sem_rb c _) e (q := fun _ => q)

/-- Copies of partial sums, round `r`, to peer `n`. -/
theorem rs_stmt (r : ℕ) (hr : r < 3) (n : ℕ) (hn : n < 16) (hA : Adv f f' (⟨n, hn⟩ : Dev nD) (s0 D r c ⟨n, hn⟩) (s1 D r c ⟨n, hn⟩)) {dv : ℕ} {hv : isNot c n → dv < nD} (e : dv = n)
    {i1 : (h : isNot c n) → _} {i1' : (h : isNot c n) → _} {i2 : (h : isNot c n) → _} {i3 : (h : isNot c n) → _} {hsc : (h : isNot c n) → _} {hsrc : (h : isNot c n) → _} {hdst : (h : isNot c n) → _} {hsem : (h : isNot c n) → _} :
    records D K ⊢ iprop(M f -∗ ow c (16 * (2 * r + 1) + n) -∗ (M f' -∗ ow c (16 * (2 * r + 1) + n + 1) -∗ wpc c q Q)
      -∗ wpc c (if h : isNot c n then (do
        Prog.lift (.enqueueDma (pM.slice (Rect.unit (s := S512x512) ![32 * n, 0] S32x512.size (i3 h)) (fun _ => rfl))
          (.remote (Dev.tc (⟨dv, hv h⟩ : Dev nD) : Thread nD τ) ((rsM.slice (Rect.unit (s := S16x32x512) (k0_off2 c) S1x32x512.size (i2 h)) (fun _ => rfl)).squeeze S32x512 squeezes_S1x32x512_S32x512)
            (.dma (semOf cc0_scratch5 ![n] (i1 h))) (hsc h)) (.dma (semOf cc0_scratch6 (k0_off1 c) (i1' h))) (hsrc h) (hdst h) (hsem h))
        q) else q) Q) :=
  rs_stmt_at D K r hr n hn hA e (k0_off1_eq c) (k0_off2_eq c)

/-- Copies of finished rows, round `r`, to peer `n`. -/
theorem ag_stmt (r : ℕ) (hr : r < 3) (n : ℕ) (hn : n < 16) (hA : Adv f f' (⟨n, hn⟩ : Dev nD) (s5 D r c ⟨n, hn⟩) (s6 D r c ⟨n, hn⟩)) {dv : ℕ} {hv : isNot c n → dv < nD} (e : dv = n)
    {i1 : (h : isNot c n) → _} {i1' : (h : isNot c n) → _} {i2 : (h : isNot c n) → _} {i3 : (h : isNot c n) → _} {hsc : (h : isNot c n) → _} {hsrc : (h : isNot c n) → _} {hdst : (h : isNot c n) → _} {hsem : (h : isNot c n) → _} :
    records D K ⊢ iprop(M f -∗ ow c (16 * (2 * r + 2) + n) -∗ (M f' -∗ ow c (16 * (2 * r + 2) + n + 1) -∗ wpc c q Q)
      -∗ wpc c (if h : isNot c n then (do
        Prog.lift (.enqueueDma ((rM.slice (Rect.unit (s := S2x32x512) ![r % 2, 0, 0] S1x32x512.size (i3 h)) (fun _ => rfl)).squeeze S32x512 squeezes_S1x32x512_S32x512)
          (.remote (Dev.tc (⟨dv, hv h⟩ : Dev nD) : Thread nD τ) (agM.slice (Rect.unit (s := S512x512) (k0_off33 c) S32x512.size (i2 h)) (fun _ => rfl))
            (.dma (semOf cc0_scratch7 ![n] (i1 h))) (hsc h)) (.dma (semOf cc0_scratch8 (k0_off1 c) (i1' h))) (hsrc h) (hdst h) (hsem h))
        q) else q) Q) :=
  ag_stmt_at D K r hr n hn hA e (k0_off1_eq c) (k0_off33_eq c)

variable {sp : Space} {s : Shape} {e : EltTy}

/-- The wait for peer `n`'s partial sums. -/
theorem ra_stmt (r : ℕ) (hr : r < 3) (n : ℕ) (hn : n < 16) {t : ℕ} (ht : t / 16 = 2 * r + 2) (hA : Adv f f' (⟨n, hn⟩ : Dev nD) (s1' D r c ⟨n, hn⟩) (s2 D r c ⟨n, hn⟩)) {src : isNot c n → Memref sig .tc sp s e} {i1 : (h : isNot c n) → _} {i2 : (h : isNot c n) → _} {hsrc : (h : isNot c n) → _} {hdst : (h : isNot c n) → _} :
    records D K ⊢ iprop(M f -∗ ow c t -∗ (M f' -∗ ow c t -∗ wpc c q Q)
      -∗ wpc c (if h : isNot c n then (do
        Prog.lift (.waitDma2 (semOf cc0_scratch6 ![n] (i1 h)) (src h)
          ((rsM.slice (Rect.unit (s := S16x32x512) ![n, 0, 0] S1x32x512.size (i2 h)) (fun _ => rfl)).squeeze S32x512 squeezes_S1x32x512_S32x512) (hsrc h) (hdst h))
        q) else q) Q) :=
  peer_stmt D K (k := (⟨n, hn⟩ : Dev nD)) (t := t) (t' := t) hA rfl (fun _ => BI.Entails.refl _)
    fun hk h => op_ra D K r hr hk (k := (⟨n, hn⟩ : Dev nD)) (sem_ra ⟨n, hn⟩ _) ht (credit_slot ⟨n, hn⟩) (q := fun _ => q)

/-- The wait for the copy of partial sums to peer `n` to have left. -/
theorem sa_stmt (r : ℕ) (hr : r < 3) (n : ℕ) (hn : n < 16) {t : ℕ} (hA : Adv f f' (⟨n, hn⟩ : Dev nD) (s2' D r c ⟨n, hn⟩) (s3 D r c ⟨n, hn⟩)) {src : isNot c n → Memref sig .tc sp s e} {i1 : (h : isNot c n) → _} {i2 : (h : isNot c n) → _} {hsrc : (h : isNot c n) → _} {hdst : (h : isNot c n) → _} :
    records D K ⊢ iprop(M f -∗ ow c t -∗ (M f' -∗ ow c t -∗ wpc c q Q)
      -∗ wpc c (if h : isNot c n then (do
        Prog.lift (.waitDma2 (semOf cc0_scratch5 ![n] (i1 h)) (src h)
          (pM.slice (Rect.unit (s := S512x512) ![32 * n, 0] S32x512.size (i2 h)) (fun _ => rfl)) (hsrc h) (hdst h))
        q) else q) Q) :=
  peer_stmt D K (k := (⟨n, hn⟩ : Dev nD)) (t := t) (t' := t) hA rfl (fun _ => BI.Entails.refl _)
    fun hk h => op_sa D K r hr hk (k := (⟨n, hn⟩ : Dev nD)) (sem_sa ⟨n, hn⟩ _) (credit_pRow ⟨n, hn⟩) (q := fun _ => q)

/-- The wait for the copy of the previous round's finished rows to peer `n` to have left. -/
theorem sb_stmt (r : ℕ) (hr : r < 2) (n : ℕ) (hn : n < 16) {t : ℕ} (hA : Adv f f' (⟨n, hn⟩ : Dev nD) (s3 D (r + 1) c ⟨n, hn⟩) (s4 D (r + 1) c ⟨n, hn⟩)) {src : isNot c n → Memref sig .tc sp s e} {o : isNot c n → Fin 3 → ℕ} {i1 : (h : isNot c n) → _} {i2 : (h : isNot c n) → _} {hsrc : (h : isNot c n) → _} {hdst : (h : isNot c n) → _} :
    records D K ⊢ iprop(M f -∗ ow c t -∗ (M f' -∗ ow c t -∗ wpc c q Q)
      -∗ wpc c (if h : isNot c n then (do
        Prog.lift (.waitDma2 (semOf cc0_scratch7 ![n] (i1 h)) (src h)
          ((rM.slice (Rect.unit (s := S2x32x512) (o h) S1x32x512.size (i2 h)) (fun _ => rfl)).squeeze S32x512 squeezes_S1x32x512_S32x512) (hsrc h) (hdst h))
        q) else q) Q) :=
  peer_stmt D K (k := (⟨n, hn⟩ : Dev nD)) (t := t) (t' := t) hA rfl (fun _ => BI.Entails.refl _)
    fun hk h => op_sb D K r hr hk (k := (⟨n, hn⟩ : Dev nD)) (sem_sb ⟨n, hn⟩ _) rfl (q := fun _ => q)

/-- The last round's. -/
theorem sb_stmt_last (n : ℕ) (hn : n < 16) {t : ℕ} (hA : Adv f f' (⟨n, hn⟩ : Dev nD) (s7 D 2 c ⟨n, hn⟩) (s8 D 2 c ⟨n, hn⟩)) {src : isNot c n → Memref sig .tc sp s e} {o : isNot c n → Fin 3 → ℕ} {i1 : (h : isNot c n) → _} {i2 : (h : isNot c n) → _} {hsrc : (h : isNot c n) → _} {hdst : (h : isNot c n) → _} :
    records D K ⊢ iprop(M f -∗ ow c t -∗ (M f' -∗ ow c t -∗ wpc c q Q)
      -∗ wpc c (if h : isNot c n then (do
        Prog.lift (.waitDma2 (semOf cc0_scratch7 ![n] (i1 h)) (src h)
          ((rM.slice (Rect.unit (s := S2x32x512) (o h) S1x32x512.size (i2 h)) (fun _ => rfl)).squeeze S32x512 squeezes_S1x32x512_S32x512) (hsrc h) (hdst h))
        q) else q) Q) :=
  peer_stmt D K (k := (⟨n, hn⟩ : Dev nD)) (t := t) (t' := t) hA rfl (fun _ => BI.Entails.refl _)
    fun hk h => op_sb_last D K hk (k := (⟨n, hn⟩ : Dev nD)) (sem_sb ⟨n, hn⟩ _) rfl (q := fun _ => q)

/-- The wait for peer `n`'s finished rows. -/
theorem rb_stmt (r : ℕ) (hr : r < 3) (n : ℕ) (hn : n < 16) {t : ℕ} (ht : t / 16 = 2 * r + 3) (hA : Adv f f' (⟨n, hn⟩ : Dev nD) (s6' D r c ⟨n, hn⟩) (s7 D r c ⟨n, hn⟩)) {src : isNot c n → Memref sig .tc sp s e} {i1 : (h : isNot c n) → _} {i2 : (h : isNot c n) → _} {hsrc : (h : isNot c n) → _} {hdst : (h : isNot c n) → _} :
    records D K ⊢ iprop(M f -∗ ow c t -∗ (M f' -∗ ow c t -∗ wpc c q Q)
      -∗ wpc c (if h : isNot c n then (do
        Prog.lift (.waitDma2 (semOf cc0_scratch8 ![n] (i1 h)) (src h)
          (agM.slice (Rect.unit (s := S512x512) ![32 * n, 0] S32x512.size (i2 h)) (fun _ => rfl)) (hsrc h) (hdst h))
        q) else q) Q) :=
  peer_stmt D K (k := (⟨n, hn⟩ : Dev nD)) (t := t) (t' := t) hA rfl (fun _ => BI.Entails.refl _)
    fun hk h => op_rb D K r hr hk (k := (⟨n, hn⟩ : Dev nD)) (sem_rb ⟨n, hn⟩ _) ht (credit_agRow ⟨n, hn⟩) (q := fun _ => q)

end Stmts

end Cert.KernelIdeal.Mlp

end
-- ==== Proof.KernelIdeal.Mem.lean ====
/-
# The buffers, their pieces, loads and stores
-/
module

public import proofs.«01_k».proof.Proof.KernelIdeal.Stmts

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

attribute [local irreducible] wp

/-! ## Loads and stores at the head of a program -/

section Ops
variable {c : Dev nD} {s : Shape} {e : EltTy} {α : Type} {Q : α → sProp (MT nD τ sig ℕ (Elt F) ℕ UU ℕ)}

/-- A load through a rectangle held, at any share. -/
theorem ld (m : Memref sig .tc .vmem s e) (rc : Rect s) {S : Finset (Idx ((m.access rc).loc (c : Thread nD τ)))} (hS : (m.access rc).set ⊆ S) {q : PosShare TreeShare}
    {f : Buf (Elt F) ((m.access rc).loc (c : Thread nD τ))} {v : rc.shape.Idx → Elt F e} (hv : (m.access rc).read (Elt F) f = v)
    {hl : m.view.LoadsAt rc.toLoadRect} {k : (rc.shape.Idx → Elt F e) → Prog (TpuEff nD τ sig (Elt F) Λ₀ .tc) α} :
    ((m.access rc).loc (c : Thread nD τ) ↦[S]{q} f : sProp 𝕄) ⊢ iprop((((m.access rc).loc (c : Thread nD τ) ↦[S]{q} f) -∗ wpc c (k v) Q)
      -∗ wpc c (Prog.lift (.load m rc.toLoadRect hl) >>= k) Q) := by
  subst hv
  exact wp_load_rect 𝒱₀ (c : Thread nD τ) none Set.univ (m := m) (hl := hl) hS

/-- A store through a rectangle held; what is held after it may be stated as any contents that agree with the written
    value on the rectangle and with the old contents off it. -/
theorem st (m : Memref sig .tc .vmem s e) (rc : Rect s) {S : Finset (Idx ((m.access rc).loc (c : Thread nD τ)))} (hS : (m.access rc).set ⊆ S)
    {f g : Buf (Elt F) ((m.access rc).loc (c : Thread nD τ))} {w : rc.shape.Idx → Elt F e}
    (hin : (m.access rc).read (Elt F) g = w) (hout : ∀ i ∈ S, i ∉ (m.access rc).set → g i = f i)
    {hx : (m.access rc).Stores Finset.univ} {hm : (Finset.univ : Finset rc.shape.Idx) = Finset.univ ∨ ∀ a, rc.stride a = 1}
    {k : PUnit.{1} → Prog (TpuEff nD τ sig (Elt F) Λ₀ .tc) α} :
    ((m.access rc).loc (c : Thread nD τ) ↦[S]{fullShare} f : sProp 𝕄) ⊢ iprop((((m.access rc).loc (c : Thread nD τ) ↦[S]{fullShare} g) -∗ wpc c (k ⟨⟩) Q)
      -∗ wpc c (Prog.lift (.store m rc w Finset.univ hx hm) >>= k) Q) := by
  subst hin
  have e : ∀ i ∈ S, g i = (m.access rc).write (Elt F) f ((m.access rc).read (Elt F) g) Finset.univ i := fun i hi => by
    by_cases h : i ∈ (m.access rc).set
    · obtain ⟨x, -, rfl⟩ := Finset.mem_map.mp h
      rw [View.write_emb_of_mem _ _ (Finset.mem_univ _), View.read_apply]
      simp only [cast_cast, cast_eq]
    · rw [View.write_of_not_mem _ _ _ h]; exact hout i hi h
  rw [pointsTo_congr (f := g) e]
  exact wp_store 𝒱₀ (c : Thread nD τ) none Set.univ (m := m) (hx := hx) (hm := hm) hS

end Ops

/-! ## Which piece an element lies in -/

/-- The rows of `k`, by the row number. -/
theorem mem_row (k : Dev nD) (i : S512x512.Idx) : i ∈ (pRow k).view.set ↔ (i 0).val / 32 = k.val := by
  rw [show (pRow k).view.set = (rowR k).set from View.set_slice_whole _ _, Rect.mem_set_unit, Fin.forall_fin_two]
  have h1 : (i 1).val < 512 := (i 1).isLt
  show ((32 * k.val ≤ (i 0).val ∧ (i 0).val < 32 * k.val + 32) ∧ (0 ≤ (i 1).val ∧ (i 1).val < 0 + 512)) ↔ _
  omega
/-- The same rows of the gathered matrix. -/
theorem set_ag (k : Dev nD) : (agRow k).view.set = (pRow k).view.set :=
  (View.set_slice_whole _ _ : (agRow k).view.set = (rowR k).set).trans (View.set_slice_whole _ _ : (pRow k).view.set = (rowR k).set).symm
/-- A slot as a set of entries, -/
theorem set_slot (k : Dev nD) : (rsSlot k).view.set = (slotR k).set := by
  rw [show (rsSlot k).view.set = (rsM.slice (slotR k) (fun _ => rfl)).view.set from Memref.set_view_squeeze _ _]
  exact View.set_slice_whole _ _
/-- by the first coordinate. -/
theorem mem_slot (k : Dev nD) (i : S16x32x512.Idx) : i ∈ (rsSlot k).view.set ↔ (i 0).val = k.val := by
  rw [set_slot, Rect.mem_set_unit, Fin.forall_fin_succ, Fin.forall_fin_two]
  have h1 : (i 1).val < 32 := (i 1).isLt
  have h2 : (i 2).val < 512 := (i 2).isLt
  show ((k.val ≤ (i 0).val ∧ (i 0).val < k.val + 1) ∧ (0 ≤ (i 1).val ∧ (i 1).val < 0 + 32) ∧ (0 ≤ (i 2).val ∧ (i 2).val < 0 + 512)) ↔ _
  omega
/-- A half of the send buffer as a set of entries, -/
theorem set_rslot (s : Fin 2) : (rSlot s).view.set = (rslotR s).set := by
  rw [show (rSlot s).view.set = (rM.slice (rslotR s) (fun _ => rfl)).view.set from Memref.set_view_squeeze _ _]
  exact View.set_slice_whole _ _
/-- by the first coordinate. -/
theorem mem_rslot (s : Fin 2) (i : S2x32x512.Idx) : i ∈ (rSlot s).view.set ↔ (i 0).val = s.val := by
  rw [set_rslot, Rect.mem_set_unit, Fin.forall_fin_succ, Fin.forall_fin_two]
  have h1 : (i 1).val < 32 := (i 1).isLt
  have h2 : (i 2).val < 512 := (i 2).isLt
  show ((s.val ≤ (i 0).val ∧ (i 0).val < s.val + 1) ∧ (0 ≤ (i 1).val ∧ (i 1).val < 0 + 32) ∧ (0 ≤ (i 2).val ∧ (i 2).val < 0 + 512)) ↔ _
  omega

/-- A group's rows lie within 512, -/
theorem grp_inb (g : Fin 4) : ∀ a, (![128 * g.val, 0] : Fin 2 → ℕ) a + S128x512.size a ≤ S512x512.size a := by revert g; decide
/-- The 128 rows of group `g` of a 512×512 buffer. -/
abbrev grpR (g : Fin 4) : Rect S512x512 := Rect.unit (s := S512x512) ![128 * g.val, 0] S128x512.size (grp_inb g)
/-- by the row number. -/
theorem mem_grpR (g : Fin 4) (i : S512x512.Idx) : i ∈ (grpR g).set ↔ (i 0).val / 128 = g.val := by
  rw [Rect.mem_set_unit, Fin.forall_fin_two]
  have h1 : (i 1).val < 512 := (i 1).isLt
  show ((128 * g.val ≤ (i 0).val ∧ (i 0).val < 128 * g.val + 128) ∧ (0 ≤ (i 1).val ∧ (i 1).val < 0 + 512)) ↔ _
  omega
/-- The devices of group `g`. -/
def grp (g : Fin 4) : Finset (Dev nD) := Finset.univ.filter fun k => k.val / 4 = g.val
/-- A group's devices, by number. -/
theorem mem_grp (g : Fin 4) (k : Dev nD) : k ∈ grp g ↔ k.val / 4 = g.val := by unfold grp; rw [Finset.mem_filter]; exact ⟨fun h => h.2, fun h => ⟨Finset.mem_univ _, h⟩⟩

/-- Different devices' rows are apart, -/
theorem row_disj {k k' : Dev nD} (h : k ≠ k') : Disjoint (pRow k).view.set (pRow k').view.set :=
  Finset.disjoint_left.mpr fun i h1 h2 => h (Fin.ext (((mem_row k i).mp h1).symm.trans ((mem_row k' i).mp h2)))
/-- and their slots. -/
theorem slot_disj {k k' : Dev nD} (h : k ≠ k') : Disjoint (rsSlot k).view.set (rsSlot k').view.set :=
  Finset.disjoint_left.mpr fun i h1 h2 => h (Fin.ext (((mem_slot k i).mp h1).symm.trans ((mem_slot k' i).mp h2)))
/-- Every row is a device's, -/
theorem row_ex (i : S512x512.Idx) : ∃ k : Dev nD, (i 0).val / 32 = k.val :=
  ⟨⟨(i 0).val / 32, by have : (i 0).val < 512 := (i 0).isLt; show _ < 16; omega⟩, rfl⟩
/-- every slot too. -/
theorem slot_ex (i : S16x32x512.Idx) : ∃ k : Dev nD, (i 0).val = k.val := ⟨⟨(i 0).val, (i 0).isLt⟩, rfl⟩

/-- A region cut into pieces, one for each device of a set. -/
theorem cut {ℓ : Loc nD τ sig} {q : PosShare TreeShare} (f : Buf (Elt F) ℓ) (S : Finset (Dev nD)) (J : Dev nD → Finset (Idx ℓ)) (T : Finset (Idx ℓ))
    (hd : ∀ k k', k ≠ k' → Disjoint (J k) (J k')) (hT : ∀ i, i ∈ T ↔ ∃ k ∈ S, i ∈ J k) :
    (ℓ ↦[T]{q} f : sProp 𝕄) = bigSep S fun k => ℓ ↦[J k]{q} f := by
  rw [← pointsTo_biUnion S J fun k _ k' _ h => hd k k' h]
  exact congrArg (fun U => (ℓ ↦[U]{q} f : sProp 𝕄)) (Finset.ext fun i => (hT i).trans Finset.mem_biUnion.symm)

/-- Pieces of any contents are a region of some contents. -/
theorem some_join {ℓ : Loc nD τ sig} (S : Finset (Dev nD)) (J : Dev nD → Finset (Idx ℓ)) (T : Finset (Idx ℓ)) (f₀ : Buf (Elt F) ℓ)
    (hd : ∀ k k', k ≠ k' → Disjoint (J k) (J k')) (hT : ∀ i, i ∈ T ↔ ∃ k ∈ S, i ∈ J k) :
    bigSep S (fun k => iprop(∃ f, ℓ ↦[J k]{fullShare} f)) ⊢ (iprop(∃ g, ℓ ↦[T]{fullShare} g) : sProp 𝕄) := by
  haveI : Nonempty (Buf (Elt F) ℓ) := ⟨f₀⟩
  have e : T = S.biUnion J := Finset.ext fun i => (hT i).trans Finset.mem_biUnion.symm
  refine (bigSep_exists_pi S (fun k f => (ℓ ↦[J k]{fullShare} f : sProp 𝕄))).trans ?_
  iintro ⟨%fs, H⟩
  ihave ⟨%g, -, H⟩ := (pointsTo_biUnion_join S J fs f₀ fun k _ k' _ h => hd k k' h) $$ H
  iexists g
  iapply (Entails.of_eq (congrArg (fun U => (ℓ ↦[U]{fullShare} g : sProp 𝕄)) e.symm)) $$ H

/-! ## Whole buffers out of their pieces -/

def pAll (c : Dev nD) (f : Mat F) : sProp 𝕄 := pM.view.loc (c : Thread nD τ) ↦[Finset.univ]{fullShare} f
def agAll (c : Dev nD) (f : Mat F) : sProp 𝕄 := agM.view.loc (c : Thread nD τ) ↦[Finset.univ]{fullShare} f
def rsAll (c : Dev nD) (f : Slots F) : sProp 𝕄 := rsM.view.loc (c : Thread nD τ) ↦[Finset.univ]{fullShare} f
def rAll (c : Dev nD) (f : Pair F) : sProp 𝕄 := rM.view.loc (c : Thread nD τ) ↦[Finset.univ]{fullShare} f
def pGrp (c : Dev nD) (g : Fin 4) (f : Mat F) : sProp 𝕄 := pM.view.loc (c : Thread nD τ) ↦[(grpR g).set]{fullShare} f
def agGrp (c : Dev nD) (g : Fin 4) (f : Mat F) : sProp 𝕄 := agM.view.loc (c : Thread nD τ) ↦[(grpR g).set]{fullShare} f

/-- The matrix is all devices' rows; -/
theorem rows_univ (i : S512x512.Idx) : i ∈ (Finset.univ : Finset S512x512.Idx) ↔ ∃ k ∈ (Finset.univ : Finset (Dev nD)), i ∈ (pRow k).view.set :=
  ⟨fun _ => (row_ex i).imp fun k h => ⟨Finset.mem_univ _, (mem_row k i).mpr h⟩, fun _ => Finset.mem_univ _⟩
/-- a group's rows are its devices' rows; -/
theorem rows_grp (g : Fin 4) (i : S512x512.Idx) : i ∈ (grpR g).set ↔ ∃ k ∈ grp g, i ∈ (pRow k).view.set := by
  rw [mem_grpR]
  constructor
  · intro h
    obtain ⟨k, hk⟩ := row_ex i
    exact ⟨k, (mem_grp g k).mpr (by omega), (mem_row k i).mpr hk⟩
  · rintro ⟨k, hk, hi⟩
    have h1 := (mem_grp g k).mp hk
    have h2 := (mem_row k i).mp hi
    omega
/-- the receive buffer is all slots. -/
theorem slots_univ (i : S16x32x512.Idx) : i ∈ (Finset.univ : Finset S16x32x512.Idx) ↔ ∃ k ∈ (Finset.univ : Finset (Dev nD)), i ∈ (rsSlot k).view.set :=
  ⟨fun _ => (slot_ex i).imp fun k h => ⟨Finset.mem_univ _, (mem_slot k i).mpr h⟩, fun _ => Finset.mem_univ _⟩

/-- A block of the gathered matrix, over the same rows. -/
theorem agrow_eq (c k : Dev nD) (f : Mat F) : (agrow c k f : sProp 𝕄) = (agM.view.loc (c : Thread nD τ) ↦[(pRow k).view.set]{fullShare} f) := by
  unfold agrow; rw [set_ag]

/-- Partial sums, whole or by blocks; -/
theorem p_all (c : Dev nD) (f : Mat F) : (pAll c f : sProp 𝕄) = M (fun k => prow c k f) :=
  cut (ℓ := pM.view.loc (c : Thread nD τ)) f Finset.univ (fun k => (pRow k).view.set) Finset.univ (fun _ _ => row_disj) rows_univ
/-- a group of them; -/
theorem p_grp (c : Dev nD) (g : Fin 4) (f : Mat F) : (pGrp c g f : sProp 𝕄) = bigSep (grp g) (fun k => prow c k f) :=
  cut (ℓ := pM.view.loc (c : Thread nD τ)) f (grp g) (fun k => (pRow k).view.set) (grpR g).set (fun _ _ => row_disj) (rows_grp g)
/-- the gathered matrix; -/
theorem ag_all (c : Dev nD) (f : Mat F) : (agAll c f : sProp 𝕄) = M (fun k => agrow c k f) :=
  (cut (ℓ := agM.view.loc (c : Thread nD τ)) f Finset.univ (fun k => (pRow k).view.set) Finset.univ (fun _ _ => row_disj) rows_univ).trans
    (bigSep_congr fun k _ => (agrow_eq c k f).symm)
/-- a group of it; -/
theorem ag_grp (c : Dev nD) (g : Fin 4) (f : Mat F) : (agGrp c g f : sProp 𝕄) = bigSep (grp g) (fun k => agrow c k f) :=
  (cut (ℓ := agM.view.loc (c : Thread nD τ)) f (grp g) (fun k => (pRow k).view.set) (grpR g).set (fun _ _ => row_disj) (rows_grp g)).trans
    (bigSep_congr fun k _ => (agrow_eq c k f).symm)
/-- the receive buffer. -/
theorem rs_all (c : Dev nD) (f : Slots F) : (rsAll c f : sProp 𝕄) = M (fun k => slot c k f) :=
  cut (ℓ := rsM.view.loc (c : Thread nD τ)) f Finset.univ (fun k => (rsSlot k).view.set) Finset.univ (fun _ _ => slot_disj) slots_univ

/-- Blocks of any contents make a buffer of some contents, -/
theorem p_some (c : Dev nD) (f₀ : Mat F) : (M (prowE (F := F) c) : sProp 𝕄) ⊢ iprop(∃ f, pAll c f) :=
  some_join (ℓ := pM.view.loc (c : Thread nD τ)) Finset.univ (fun k => (pRow k).view.set) Finset.univ f₀ (fun _ _ => row_disj) rows_univ
/-- for a group, -/
theorem p_some_grp (c : Dev nD) (g : Fin 4) (f₀ : Mat F) : bigSep (grp g) (prowE (F := F) c) ⊢ (iprop(∃ f, pGrp c g f) : sProp 𝕄) :=
  some_join (ℓ := pM.view.loc (c : Thread nD τ)) (grp g) (fun k => (pRow k).view.set) (grpR g).set f₀ (fun _ _ => row_disj) (rows_grp g)
/-- and for the slots. -/
theorem rs_some (c : Dev nD) (f₀ : Slots F) : (M (slotE (F := F) c) : sProp 𝕄) ⊢ iprop(∃ f, rsAll c f) :=
  some_join (ℓ := rsM.view.loc (c : Thread nD τ)) Finset.univ (fun k => (rsSlot k).view.set) Finset.univ f₀ (fun _ _ => slot_disj) slots_univ

end Cert.KernelIdeal.Mlp

end
-- ==== Proof.KernelIdeal.Local.lean ====
/-
# The statements on the device's own buffers
-/
module

public import proofs.«01_k».proof.Proof.KernelIdeal.Mem

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

attribute [local irreducible] wp

variable (D : Data F) (K : Dev nD × CI → ℕ)

/-! ## Taking pieces out of what is held of the peers -/

/-- Split what is held of every peer. -/
theorem M_take {f A B : Dev nD → sProp 𝕄} (h : ∀ k, f k ⊢ iprop(A k ∗ B k)) : (M f : sProp 𝕄) ⊢ iprop(M A ∗ M B) :=
  (M_mono h).trans (Entails.of_eq (M_sep A B))
/-- Two pieces of every peer make one. -/
theorem M_put {f A B : Dev nD → sProp 𝕄} (h : ∀ k, iprop(A k ∗ B k) ⊢ f k) : iprop(M A ∗ M B) ⊢ (M f : sProp 𝕄) :=
  (Entails.of_eq (M_sep A B).symm).trans (M_mono h)

/-- The device's own pieces taken out, and put back in another state. -/
theorem M_own (c : Dev nD) (O O' : sProp 𝕄) (X : Dev nD → sProp 𝕄) : (M (mix c O X) : sProp 𝕄) ⊢ iprop(O ∗ (O' -∗ M (mix c O' X))) := by
  have h := M_upd (f := mix c O X) (f' := mix c O' X) c (fun j hj => (mix_ne O' X hj).trans (mix_ne O X hj).symm)
  rwa [mix_self, mix_self] at h

/-- A piece split, at the device itself and at a peer. -/
theorem mix_take (c k : Dev nD) {O A B : sProp 𝕄} {X : Dev nD → sProp 𝕄} (h1 : k = c → O ⊢ iprop(A ∗ B)) (h2 : k ≠ c → X k ⊢ iprop(A ∗ B)) : mix c O X k ⊢ iprop(A ∗ B) := by
  by_cases h : k = c
  · subst h; rw [mix_self]; exact h1 rfl
  · rw [mix_ne _ _ h]; exact h2 h

/-- Weakening every piece. -/
theorem bmono {S : Finset (Dev nD)} {f g : Dev nD → sProp 𝕄} (h : ∀ k ∈ S, f k ⊢ g k) : (bigSep S f : sProp 𝕄) ⊢ bigSep S g := bigSep_mono h
/-- Two pieces of each, apart or together. -/
theorem bsep (S : Finset (Dev nD)) (f g : Dev nD → sProp 𝕄) : (bigSep S (fun k => iprop(f k ∗ g k)) : sProp 𝕄) = iprop(bigSep S f ∗ bigSep S g) := bigSep_sep' _ _ _

/-- From each of a set of peers one piece is taken out, to be given back as another. -/
theorem swap {S : Finset (Dev nD)} {f f' A A' : Dev nD → sProp 𝕄} (h : ∀ k ∈ S, f k ⊢ iprop(A k ∗ (A' k -∗ f' k))) :
    (bigSep S f : sProp 𝕄) ⊢ iprop(bigSep S A ∗ (bigSep S A' -∗ bigSep S f')) := by
  refine (bmono h).trans ((Entails.of_eq (bsep S A fun k => iprop(A' k -∗ f' k))).trans ?_)
  iintro ⟨HA, HW⟩
  isplitl [HA]; · iexact HA
  iintro HA
  have e : ∀ k ∈ S, iprop(A' k ∗ (A' k -∗ f' k)) ⊢ f' k := fun k _ => by iintro ⟨H, Hw⟩; iapply Hw $$ H
  iapply (bmono e)
  iapply (Entails.of_eq (bsep S A' fun k => iprop(A' k -∗ f' k)).symm)
  isplitl [HA]; · iexact HA
  iexact HW

/-- Taking a part of every piece, to be given back changed; -/
theorem M_swap {f f' A A' : Dev nD → sProp 𝕄} (h : ∀ k, f k ⊢ iprop(A k ∗ (A' k -∗ f' k))) : (M f : sProp 𝕄) ⊢ iprop(M A ∗ (M A' -∗ M f')) :=
  swap fun k _ => h k

/-- of one piece, at the device itself and at a peer. -/
theorem mix_swap {c k : Dev nD} {O O' : sProp 𝕄} {X X' A A' : Dev nD → sProp 𝕄} (h1 : O ⊢ iprop(A c ∗ (A' c -∗ O')))
    (h2 : k ≠ c → X k ⊢ iprop(A k ∗ (A' k -∗ X' k))) : mix c O X k ⊢ iprop(A k ∗ (A' k -∗ mix c O' X' k)) := by
  by_cases h : k = c
  · subst h; rw [mix_self, mix_self]; exact h1
  · rw [mix_ne _ _ h, mix_ne _ _ h]; exact h2 h

/-- A part of the pieces, and the rest. -/
theorem split_sub {S T : Finset (Dev nD)} (h : T ⊆ S) (f : Dev nD → sProp 𝕄) : (bigSep S f : sProp 𝕄) = iprop(bigSep T f ∗ bigSep (S \ T) f) := BI.bigSep_sdiff_split h

/-- The same with one group only. -/
theorem M_gswap (g : Fin 4) {f f' A A' : Dev nD → sProp 𝕄} (h : ∀ k ∈ grp g, f k ⊢ iprop(A k ∗ (A' k -∗ f' k)))
    (ho : ∀ k, k ∉ grp g → f' k = f k) : (M f : sProp 𝕄) ⊢ iprop(bigSep (grp g) A ∗ (bigSep (grp g) A' -∗ M f')) := by
  unfold M
  rw [split_sub (Finset.subset_univ (grp g)) f, split_sub (Finset.subset_univ (grp g)) f',
    bigSep_congr (s := Finset.univ \ grp g) (Φ := f') (Ψ := f) fun k hk => ho k (Finset.mem_sdiff.mp hk).2]
  iintro ⟨H, HR⟩
  ihave ⟨HA, HW⟩ := (swap h) $$ H
  isplitl [HA]; · iexact HA
  iintro HA
  isplitr [HR]
  · iapply HW $$ HA
  iexact HR

/-! ## The barrier -/

/-- What the entry handshake brings of a peer: its slot for this device. -/
def EK (c k : Dev nD) : sProp 𝕄 := iprop(slotE (F := F) k c ∗ reached ER (xCell 1 c k) 0 ∗ EJ (F := F) c k)
def sK (c : Dev nD) : Dev nD → sProp 𝕄 := mix c (ownI (F := F) c) (EK (F := F) c)

def barPos (c : Dev nD) : sProp 𝕄 := iprop(atPos ER (barCell c) 0 ∅ 0 ∗ cred (tallyAt (barCell c) 0 15))
def barEnd (c : Dev nD) : sProp 𝕄 := iprop(atPos ER (barCell c) 1 ∅ 0)

/-- Every peer's arrival cell has reached round 0. -/
theorem reached_all (c : Dev nD) : records D K ⊢ bigSep (Finset.univ.erase c) (fun k => (reached ER (xCell 1 c k) 0 : sProp 𝕄)) :=
  bigSep_intro_persistent fun k _ => rec_reached D K (k, some (1, c))

/-- The loans of the barrier join what is held of the peers. -/
theorem bar_join (c : Dev nD) : iprop(bigSep (Finset.univ.erase c) (fun k => (barPay c k : sProp 𝕄))
      ∗ bigSep (Finset.univ.erase c) (fun k => (reached ER (xCell 1 c k) 0 : sProp 𝕄)) ∗ M (sJ (F := F) c)) ⊢ (M (sK (F := F) c) : sProp 𝕄) := by
  unfold M
  rw [bigSep_univ_at (sJ (F := F) c) c, bigSep_univ_at (sK (F := F) c) c]
  rw [show sK (F := F) c c = sJ (F := F) c c from by unfold sK sJ; rw [mix_self, mix_self]]
  iintro ⟨HB, HR, HO, HM⟩
  isplitl [HO]; · iexact HO
  have e : ∀ k ∈ Finset.univ.erase c, iprop((barPay c k : sProp 𝕄) ∗ reached ER (xCell 1 c k) 0 ∗ sJ (F := F) c k) ⊢ sK (F := F) c k := fun k hk => by
    have hk' := Finset.ne_of_mem_erase hk
    unfold sK sJ
    rw [mix_ne _ _ hk', mix_ne _ _ hk']
    unfold EK slotE barPay
    exact Entails.refl _
  iapply (bmono e)
  iapply (Entails.of_eq (bsep _ (fun k => (barPay c k : sProp 𝕄)) (fun k => iprop(reached ER (xCell 1 c k) 0 ∗ sJ (F := F) c k))).symm)
  isplitl [HB]; · iexact HB
  iapply (Entails.of_eq (bsep _ (fun k => (reached ER (xCell 1 c k) 0 : sProp 𝕄)) (sJ (F := F) c)).symm)
  isplitl [HR]; · iexact HR
  iexact HM

section Stm
variable {c : Dev nD} {α : Type} {Q : α → sProp (MT nD τ sig ℕ (Elt F) ℕ UU ℕ)}

/-- The wait of the entry handshake. -/
theorem bar_stmt {q : PUnit.{1} → Prog (TpuEff nD τ sig (Elt F) Λ₀ .tc) α} :
    records D K ⊢ iprop(M (sJ (F := F) c) -∗ barPos (F := F) c -∗ ow c 16 -∗ (M (sK (F := F) c) -∗ barEnd (F := F) c -∗ ow c 16 -∗ wpc c (q ⟨⟩) Q)
      -∗ wpc c (semWaitWord barS 15#32 >>= q) Q) := by
  simp only [semWaitWord, Prog.lift, Prog.bind_op, Prog.bind_ret]
  iintro #HR HM HB HO Hk
  unfold barPos ow
  icases HB with ⟨HP, HC⟩
  icases HO with ⟨%W, HO⟩
  iapply (Rounds.wp_wait_rest_token 𝒱₀ ER (sched D) (c : Thread nD τ) none (κ := K (c, none)) (sm := .reg barS) (k' := 15)
      (wpE_semWait_eq 𝒱₀ (c : Thread nD τ) none Set.univ) (Set.mem_univ _) 0 (O := rem c 16) (W := W) (R := 0) (m := 0) (T := ∅)
      (by rw [Nat.zero_add, expect_bar])) $$ [HP HC HO]
  · isplitr; · iapply (rec_inv D K (c, none)); iexact HR
    isplitl [HC]; · iexact HC
    isplitl [HO]; · iexact HO
    isplitr
    · iapply (mayWait c (.reg barS) (ι := 0) (t := 16) (by decide) (by rw [lv_bar]; decide))
      unfold records; icases HR with ⟨-, -, H⟩; iexact H
    iexact HP
  iintro ⟨HO, Ha, -, Hpay⟩
  ihave Hp := (Entails.of_eq (rest_bar D c)) $$ Hpay
  iapply Hk $$ [HM Hp] [Ha] [HO]
  · iapply (bar_join (F := F) c)
    isplitl [Hp]; · iexact Hp
    isplitr; · iapply (reached_all D K c); iexact HR
    iexact HM
  · unfold barEnd; iexact Ha
  · iexists _; iexact HO

/-! ## The first partial sums -/

/-- The partial sums' buffer, to be filled for the first layer. -/
theorem first_swap (c : Dev nD) : (M (sK (F := F) c) : sProp 𝕄) ⊢ iprop(M (prowE (F := F) c) ∗ (M (fun k => prow c k (D.P 0 c)) -∗ M (s0 D 0 c))) := by
  refine M_swap fun k => mix_swap (A := prowE (F := F) c) (A' := fun k => prow c k (D.P 0 c)) ?_ fun hk => ?_
  · unfold ownI own0 oldShare
    rw [if_pos rfl]
    iintro ⟨H1, H2, H3⟩
    isplitl [H1]; · iexact H1
    iintro H1
    isplitl [H1]; · iexact H1
    isplitl [H2]; · iexact H2
    isplitl [H3]; · iexact H3
    iempintro
  · unfold EK EJ E0 sbp
    rw [if_pos rfl]
    iintro ⟨H1, H2, H3, H4, H5, H6, H7, H8, H9, H10⟩
    isplitl [H3]; · iexact H3
    iintro H3
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Stm

end Cert.KernelIdeal.Mlp

end
-- ==== Proof.KernelIdeal.Local2.lean ====
/-
# The statements on the device's own buffers
-/
module

public import proofs.«01_k».proof.Proof.KernelIdeal.Local

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

attribute [local irreducible] wp

variable (D : Data F) (K : Dev nD × CI → ℕ)

/-! ## What a load through each rectangle gives -/

def rowsOf (c : Dev nD) (f : Mat F) : S32x512.Idx → Elt F .bf16 := (pM.access (rowR c)).read (Elt F) f
def slotOf (c : Dev nD) (f : Slots F) : S1x32x512.Idx → Elt F .bf16 := (rsM.access (slotR c)).read (Elt F) f
def halfOf (s : Fin 2) (f : Pair F) : S1x32x512.Idx → Elt F .bf16 := (rM.access (rslotR s)).read (Elt F) f
def agOf (c : Dev nD) (f : Mat F) : S32x512.Idx → Elt F .bf16 := (agM.access (rowR c)).read (Elt F) f
def grpOf (g : Fin 4) (f : Mat F) : S128x512.Idx → Elt F .bf16 := (agM.access (grpR g)).read (Elt F) f
def pgrpOf (g : Fin 4) (f : Mat F) : S128x512.Idx → Elt F .bf16 := (pM.access (grpR g)).read (Elt F) f

/-- Zero offsets, rank two, -/
theorem zz2 : (![0, 0] : Fin 2 → ℕ) = fun _ => 0 := by decide
/-- and three. -/
theorem zz3 : (![0, 0, 0] : Fin 3 → ℕ) = fun _ => 0 := by decide

section
variable {c : Dev nD} {s : Shape} {e : EltTy} {α : Type} {Q : α → sProp (MT nD τ sig ℕ (Elt F) ℕ UU ℕ)}

/-- A store over exactly the region held. -/
theorem st' (m : Memref sig .tc .vmem s e) (rc : Rect s) {S : Finset (Idx ((m.access rc).loc (c : Thread nD τ)))} (hS : (m.access rc).set = S)
    {f g : Buf (Elt F) ((m.access rc).loc (c : Thread nD τ))} {w : rc.shape.Idx → Elt F e} (hin : (m.access rc).read (Elt F) g = w)
    {hx : (m.access rc).Stores Finset.univ} {hm : (Finset.univ : Finset rc.shape.Idx) = Finset.univ ∨ ∀ a, rc.stride a = 1}
    {k : PUnit.{1} → Prog (TpuEff nD τ sig (Elt F) Λ₀ .tc) α} :
    ((m.access rc).loc (c : Thread nD τ) ↦[S]{fullShare} f : sProp 𝕄) ⊢ iprop((((m.access rc).loc (c : Thread nD τ) ↦[S]{fullShare} g) -∗ wpc c (k ⟨⟩) Q)
      -∗ wpc c (Prog.lift (.store m rc w Finset.univ hx hm) >>= k) Q) := by
  subst hS
  exact st m rc (Finset.Subset.refl _) hin fun i h h' => absurd h h'

/-! ## The partial sums -/

/-- The first partial sums fill the buffer. -/
theorem p_first {o o' : Fin 2 → ℕ} (ho : o = fun _ => 0) (ho' : o' = fun _ => 0) {inb inb'} {hl} {w} (hw : w = D.P 0 c) {hx} {hm}
    {k : PUnit.{1} → Prog (TpuEff nD τ sig (Elt F) Λ₀ .tc) α} :
    (M (sK (F := F) c) : sProp 𝕄) ⊢ iprop((M (s0 D 0 c) -∗ wpc c (k ⟨⟩) Q)
      -∗ wpc c (Prog.lift (.load pM (Rect.unit (s := S512x512) o S512x512.size inb).toLoadRect hl) >>= fun _ =>
          Prog.lift (.store pM (Rect.unit (s := S512x512) o' S512x512.size inb') w Finset.univ hx hm) >>= k) Q) := by
  subst ho ho'
  iintro HM Hk
  ihave ⟨HA, HW⟩ := (first_swap (F := F) D c) $$ HM
  ihave ⟨%f, HA⟩ := (p_some (F := F) c (D.P 0 c)) $$ HA
  unfold pAll
  iapply (ld pM (Rect.unit (s := S512x512) (fun _ => 0) S512x512.size inb) (Finset.subset_univ _) rfl) $$ HA
  iintro HA
  iapply (st' pM (Rect.unit (s := S512x512) (fun _ => 0) S512x512.size inb') (S := Finset.univ) (g := D.P 0 c)
    ((Finset.eq_univ_iff_forall (s := (pM.access (Rect.unit (s := S512x512) (fun _ => 0) S512x512.size inb')).set)).mpr fun i => ?_)
    ((Memref.read_access_unit_zero (Elt F) cc0_scratch0 rfl _ _).trans hw.symm)) $$ HA
  · rw [show (pM.access (Rect.unit (s := S512x512) (fun _ => 0) S512x512.size inb')).set = (Rect.unit (s := S512x512) (fun _ => 0) S512x512.size inb').set from View.set_slice_whole _ _, Rect.mem_set_unit]
    exact fun a => ⟨Nat.zero_le _, by rw [Nat.zero_add]; exact (i a).isLt⟩
  iintro HA
  iapply Hk
  iapply HW
  iapply (Entails.of_eq (p_all (F := F) c (D.P 0 c)))
  unfold pAll; iexact HA

/-- The device's own rows of its partial sums are read. -/
theorem p_own_ld (r : ℕ) {o : Fin 2 → ℕ} (ho : o = ![32 * c.val, 0]) {inb} {hl} {k : _ → Prog (TpuEff nD τ sig (Elt F) Λ₀ .tc) α} :
    (M (s1 D r c) : sProp 𝕄) ⊢ iprop((M (s1 D r c) -∗ wpc c (k (rowsOf c (D.P r c))) Q)
      -∗ wpc c (Prog.lift (.load pM (Rect.unit (s := S512x512) o S32x512.size inb).toLoadRect hl) >>= k) Q) := by
  subst ho
  iintro HM Hk
  unfold s1
  ihave ⟨HO, HW⟩ := (M_own (F := F) c (own0 D r c) (own0 D r c) (E1 r c)) $$ HM
  unfold own0 prow
  icases HO with ⟨H1, H2⟩
  iapply (ld pM (rowR c) (S := (pRow c).view.set) (Finset.Subset.refl _) rfl) $$ H1
  iintro H1
  iapply Hk
  iapply HW
  isplitl [H1]; · iexact H1
  iexact H2

/-- Its own slot of the receive buffer is read, -/
theorem rs_own_ld (r : ℕ) {o : Fin 3 → ℕ} (ho : o = ![c.val, 0, 0]) {inb} {hl} {k : _ → Prog (TpuEff nD τ sig (Elt F) Λ₀ .tc) α} :
    (M (s1 D r c) : sProp 𝕄) ⊢ iprop((∀ v, M (s1 D r c) -∗ wpc c (k v) Q)
      -∗ wpc c (Prog.lift (.load rsM (Rect.unit (s := S16x32x512) o S1x32x512.size inb).toLoadRect hl) >>= k) Q) := by
  subst ho
  iintro HM Hk
  unfold s1
  ihave ⟨HO, HW⟩ := (M_own (F := F) c (own0 D r c) (own0 D r c) (E1 r c)) $$ HM
  unfold own0 slotE slot
  icases HO with ⟨H1, ⟨%f, H2⟩, H3⟩
  iapply (ld rsM (slotR c) (S := (rsSlot c).view.set) (Finset.Subset.trans (le_of_eq (View.set_slice_whole _ _)) (le_of_eq (set_slot c).symm)) rfl) $$ H2
  iintro H2
  iapply Hk
  iapply HW
  isplitl [H1]; · iexact H1
  isplitl [H2]; · iexists f; iexact H2
  iexact H3

/-- and filled with its own rows. -/
theorem rs_own_st (r : ℕ) {o : Fin 3 → ℕ} (ho : o = ![c.val, 0, 0]) {inb} {w} (hw : slotOf c (RS D r c) = w) {hx} {hm} {k : PUnit.{1} → Prog (TpuEff nD τ sig (Elt F) Λ₀ .tc) α} :
    (M (s1 D r c) : sProp 𝕄) ⊢ iprop((M (s1' D r c) -∗ wpc c (k ⟨⟩) Q)
      -∗ wpc c (Prog.lift (.store rsM (Rect.unit (s := S16x32x512) o S1x32x512.size inb) w Finset.univ hx hm) >>= k) Q) := by
  subst ho
  iintro HM Hk
  unfold s1 s1'
  ihave ⟨HO, HW⟩ := (M_own (F := F) c (own0 D r c) (own1 D r c) (E1 r c)) $$ HM
  unfold own0 own1 slotE slot
  icases HO with ⟨H1, ⟨%f, H2⟩, H3⟩
  iapply (st' rsM (slotR c) (S := (rsSlot c).view.set) (g := RS D r c) ((View.set_slice_whole _ _ : (rsM.access (slotR c)).set = (slotR c).set).trans (set_slot c).symm) hw) $$ H2
  iintro H2
  iapply Hk
  iapply HW
  isplitl [H1]; · iexact H1
  isplitl [H2]; · iexact H2
  iexact H3

/-- All the partial sums are read; the device's own copy is not needed any more. -/
theorem rs_all_ld (r : ℕ) {o : Fin 3 → ℕ} (ho : o = fun _ => 0) {inb} {hl} {k : _ → Prog (TpuEff nD τ sig (Elt F) Λ₀ .tc) α} :
    (M (s2 D r c) : sProp 𝕄) ⊢ iprop((M (s2' D r c) -∗ wpc c (k (RS D r c)) Q)
      -∗ wpc c (Prog.lift (.load rsM (Rect.unit (s := S16x32x512) o S16x32x512.size inb).toLoadRect hl) >>= k) Q) := by
  subst ho
  iintro HM Hk
  unfold s2 s2'
  ihave ⟨HA, HW⟩ := (M_swap (F := F) (f := mix c (own1 D r c) (E2 D r c)) (f' := mix c (own3 D r c) (E2 D r c))
    (A := fun k => slot c k (RS D r c)) (A' := fun k => slot c k (RS D r c)) fun k => mix_swap (A := fun k => slot c k (RS D r c)) (A' := fun k => slot c k (RS D r c)) ?_ fun _ => ?_) $$ HM
  · unfold own1 own3 prowE
    iintro ⟨H1, H2, H3⟩
    isplitl [H2]; · iexact H2
    iintro H2
    isplitl [H1]; · iexists _; iexact H1
    isplitl [H2]; · iexact H2
    iexact H3
  · unfold E2
    iintro ⟨H1, H2, H3, H4, H5, H6, H7⟩
    isplitl [H6]; · iexact H6
    iintro H6
    isplitl [H1]; · iexact H1
    isplitl [H2]; · iexact H2
    isplitl [H3]; · iexact H3
    isplitl [H4]; · iexact H4
    isplitl [H5]; · iexact H5
    isplitl [H6]; · iexact H6
    iexact H7
  ihave HA := (Entails.of_eq (rs_all (F := F) c (RS D r c)).symm) $$ HA
  unfold rsAll
  iapply (ld rsM (Rect.unit (s := S16x32x512) (fun _ => 0) S16x32x512.size inb) (Finset.subset_univ _)
    (Memref.read_access_unit_zero (Elt F) cc0_scratch1 rfl _ _)) $$ HA
  iintro HA
  iapply Hk
  iapply HW
  iapply (Entails.of_eq (rs_all (F := F) c (RS D r c)))
  unfold rsAll; iexact HA

/-! ## The send buffer -/

/-- The send buffer of round `r`, free; -/
def newR (r : ℕ) (c : Dev nD) : sProp 𝕄 := iprop(∃ f, rsl (F := F) fullShare c (par r) f)
/-- filled; -/
def finR (r : ℕ) (c : Dev nD) : sProp 𝕄 := rsl fullShare c (par r) (HB D r c)
/-- with a share lent to every peer. -/
def dropR (r : ℕ) (c : Dev nD) : sProp 𝕄 := rsl (Transfers.shareDrop fullShare 16) c (par r) (HB D r c)

/-- A half of the send buffer, as loaded and as copied. -/
theorem set_half (s : Fin 2) : (rM.access (rslotR s)).set = (rSlot s).view.set :=
  (View.set_slice_whole _ _ : (rM.access (rslotR s)).set = (rslotR s).set).trans (set_rslot s).symm

/-- Loading a free half of the send buffer; -/
theorem r_ld (r : ℕ) {o : Fin 3 → ℕ} (ho : o = ![(par r).val, 0, 0]) {inb} {hl} {k : _ → Prog (TpuEff nD τ sig (Elt F) Λ₀ .tc) α} :
    (newR (F := F) r c : sProp 𝕄) ⊢ iprop((∀ v, newR (F := F) r c -∗ wpc c (k v) Q)
      -∗ wpc c (Prog.lift (.load rM (Rect.unit (s := S2x32x512) o S1x32x512.size inb).toLoadRect hl) >>= k) Q) := by
  subst ho
  unfold newR rsl
  iintro ⟨%f, HM⟩ Hk
  iapply (ld rM (rslotR (par r)) (S := (rSlot (par r)).view.set) (le_of_eq (set_half _)) rfl) $$ HM
  iintro HM
  iapply Hk
  iexists f; iexact HM

/-- storing the finished rows in it. -/
theorem r_st (r : ℕ) {o : Fin 3 → ℕ} (ho : o = ![(par r).val, 0, 0]) {inb} {w} (hw : halfOf (par r) (HB D r c) = w) {hx} {hm}
    {k : PUnit.{1} → Prog (TpuEff nD τ sig (Elt F) Λ₀ .tc) α} :
    (newR (F := F) r c : sProp 𝕄) ⊢ iprop((finR D r c -∗ wpc c (k ⟨⟩) Q)
      -∗ wpc c (Prog.lift (.store rM (Rect.unit (s := S2x32x512) o S1x32x512.size inb) w Finset.univ hx hm) >>= k) Q) := by
  subst ho
  unfold newR finR rsl
  iintro ⟨%f, HM⟩ Hk
  iapply (st' rM (rslotR (par r)) (S := (rSlot (par r)).view.set) (g := HB D r c) (set_half _) hw) $$ HM
  iintro HM
  iapply Hk $$ HM

/-! ## The gathered matrix -/

/-- The device's own finished rows are read from its send buffer, -/
theorem ag_own_rld (r : ℕ) {o : Fin 3 → ℕ} (ho : o = ![(par r).val, 0, 0]) {inb} {hl} {k : _ → Prog (TpuEff nD τ sig (Elt F) Λ₀ .tc) α} :
    (M (s6 D r c) : sProp 𝕄) ⊢ iprop((M (s6 D r c) -∗ wpc c (k (halfOf (par r) (HB D r c))) Q)
      -∗ wpc c (Prog.lift (.load rM (Rect.unit (s := S2x32x512) o S1x32x512.size inb).toLoadRect hl) >>= k) Q) := by
  subst ho
  iintro HM Hk
  unfold s6
  ihave ⟨HO, HW⟩ := (M_own (F := F) c (own5 D r c) (own5 D r c) (E6 r c)) $$ HM
  unfold own5 sbPay rsl
  icases HO with ⟨H1, H2, H3, H4⟩
  iapply (ld rM (rslotR (par r)) (S := (rSlot (par r)).view.set) (le_of_eq (set_half _)) rfl) $$ H4
  iintro H4
  iapply Hk
  iapply HW
  isplitl [H1]; · iexact H1
  isplitl [H2]; · iexact H2
  isplitl [H3]; · iexact H3
  iexact H4

/-- The own rows, as stored and as copied. -/
theorem ag_set (c : Dev nD) : (agM.access (rowR c)).set = (agRow c).view.set := rfl

/-- Loading the own rows of the gathered matrix. -/
theorem ag_own_ld (r : ℕ) {o : Fin 2 → ℕ} (ho : o = ![32 * c.val, 0]) {inb} {hl} {k : _ → Prog (TpuEff nD τ sig (Elt F) Λ₀ .tc) α} :
    (M (s6 D r c) : sProp 𝕄) ⊢ iprop((∀ v, M (s6 D r c) -∗ wpc c (k v) Q)
      -∗ wpc c (Prog.lift (.load agM (Rect.unit (s := S512x512) o S32x512.size inb).toLoadRect hl) >>= k) Q) := by
  subst ho
  iintro HM Hk
  unfold s6
  ihave ⟨HO, HW⟩ := (M_own (F := F) c (own5 D r c) (own5 D r c) (E6 r c)) $$ HM
  unfold own5 agrowE agrow
  icases HO with ⟨H1, H2, ⟨%f, H3⟩, H4⟩
  iapply (ld agM (rowR c) (S := (agRow c).view.set) (le_of_eq (ag_set c)) rfl) $$ H3
  iintro H3
  iapply Hk
  iapply HW
  isplitl [H1]; · iexact H1
  isplitl [H2]; · iexact H2
  isplitl [H3]; · iexists f; iexact H3
  iexact H4

/-- and put in its rows of the gathered matrix. -/
theorem ag_own_st (r : ℕ) {o : Fin 2 → ℕ} (ho : o = ![32 * c.val, 0]) {inb} {w} (hw : agOf c (D.H r) = w) {hx} {hm} {k : PUnit.{1} → Prog (TpuEff nD τ sig (Elt F) Λ₀ .tc) α} :
    (M (s6 D r c) : sProp 𝕄) ⊢ iprop((M (s6' D r c) -∗ wpc c (k ⟨⟩) Q)
      -∗ wpc c (Prog.lift (.store agM (Rect.unit (s := S512x512) o S32x512.size inb) w Finset.univ hx hm) >>= k) Q) := by
  subst ho
  iintro HM Hk
  unfold s6 s6'
  ihave ⟨HO, HW⟩ := (M_own (F := F) c (own5 D r c) (own6 D r c) (E6 r c)) $$ HM
  unfold own5 own6 agrowE agrow
  icases HO with ⟨H1, H2, ⟨%f, H3⟩, H4⟩
  iapply (st' agM (rowR c) (S := (agRow c).view.set) (g := D.H r) (ag_set c) hw) $$ H3
  iintro H3
  iapply Hk
  iapply HW
  isplitl [H1]; · iexact H1
  isplitl [H2]; · iexact H2
  isplitl [H3]; · iexact H3
  iexact H4

/-! ## A group of rows -/

/-- Between the start and the end of group `g`: its devices; -/
theorem pr3_mid (g : Fin 4) {k : Dev nD} (h : k ∈ grp g) (X Y Z : Dev nD → sProp 𝕄) : pr3 (4 * g.val) (4 * g.val + 4) X Y Z k = Y k := by
  have := (mem_grp g k).mp h
  unfold pr3
  rw [pr_ge _ _ (show 4 * g.val ≤ k.val by omega), pr_lt _ _ (show k.val < 4 * g.val + 4 by omega)]
/-- the others; -/
theorem pr3_out (g : Fin 4) {k : Dev nD} (h : k ∉ grp g) (X Y Y' Z : Dev nD → sProp 𝕄) :
    pr3 (4 * g.val) (4 * g.val + 4) X Y' Z k = pr3 (4 * g.val) (4 * g.val + 4) X Y Z k := by
  have h' : ¬ k.val / 4 = g.val := fun e => h ((mem_grp g k).mpr e)
  unfold pr3
  rcases Nat.lt_or_ge k.val (4 * g.val) with h1 | h1
  · rw [pr_lt _ _ h1, pr_lt _ _ h1]
  · rw [pr_ge _ _ h1, pr_ge _ _ h1, pr_ge _ _ (show 4 * g.val + 4 ≤ k.val by omega), pr_ge _ _ (show 4 * g.val + 4 ≤ k.val by omega)]
/-- between two groups; -/
theorem pr3_eq (a : ℕ) (X Y Y' Z : Dev nD → sProp 𝕄) : pr3 a a X Y' Z = pr3 a a X Y Z := by
  funext k
  unfold pr3
  rcases Nat.lt_or_ge k.val a with h1 | h1
  · rw [pr_lt _ _ h1, pr_lt _ _ h1]
  · rw [pr_ge _ _ h1, pr_ge _ _ h1, pr_ge _ _ h1, pr_ge _ _ h1]
/-- before the first group; -/
theorem pr3_zero (X Y Z : Dev nD → sProp 𝕄) : pr3 0 0 X Y Z = X := by unfold pr3; rw [pr_zero, pr_zero]
/-- after the last. -/
theorem pr3_all (X Y Z : Dev nD → sProp 𝕄) : pr3 16 16 X Y Z = Z := by unfold pr3; rw [pr_all]

/-- The group's finished rows are read from the gathered matrix. -/
theorem ag_grp_ld (r : ℕ) (g : Fin 4) (Z : Dev nD → sProp 𝕄) {o : Fin 2 → ℕ} (ho : o = ![128 * g.val, 0]) {inb} {hl} {k : _ → Prog (TpuEff nD τ sig (Elt F) Λ₀ .tc) α} :
    (M (pr3 (4 * g.val) (4 * g.val + 4) (s6' D r c) (s7 D r c) Z) : sProp 𝕄) ⊢ iprop((M (pr3 (4 * g.val) (4 * g.val + 4) (s6' D r c) (s7 D r c) Z) -∗ wpc c (k (grpOf g (D.H r))) Q)
      -∗ wpc c (Prog.lift (.load agM (Rect.unit (s := S512x512) o S128x512.size inb).toLoadRect hl) >>= k) Q) := by
  subst ho
  iintro HM Hk
  ihave ⟨HA, HW⟩ := (M_gswap (F := F) g (f := pr3 (4 * g.val) (4 * g.val + 4) (s6' D r c) (s7 D r c) Z) (f' := pr3 (4 * g.val) (4 * g.val + 4) (s6' D r c) (s7 D r c) Z)
    (A := fun k => agrow c k (D.H r)) (A' := fun k => agrow c k (D.H r)) (fun k hk => ?_) (fun _ _ => rfl)) $$ HM
  · rw [pr3_mid g hk]
    refine mix_swap (A := fun k => agrow c k (D.H r)) (A' := fun k => agrow c k (D.H r)) ?_ fun _ => ?_
    · unfold own6
      iintro ⟨H1, H2, H3, H4⟩
      isplitl [H3]; · iexact H3
      iintro H3
      isplitl [H1]; · iexact H1
      isplitl [H2]; · iexact H2
      isplitl [H3]; · iexact H3
      iexact H4
    · unfold E7
      iintro ⟨H1, H2, H3, H4, H5, H6, H7, H8, H9⟩
      isplitl [H8]; · iexact H8
      iintro H8
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  ihave HA := (Entails.of_eq (ag_grp (F := F) c g (D.H r)).symm) $$ HA
  unfold agGrp
  iapply (ld agM (grpR g) (S := (grpR g).set) (le_of_eq (View.set_slice_whole _ _)) rfl) $$ HA
  iintro HA
  iapply Hk
  iapply HW
  iapply (Entails.of_eq (ag_grp (F := F) c g (D.H r)))
  unfold agGrp; iexact HA

/-- The next partial sums of the group's rows are put in the buffer. -/
theorem p_grp_st (r : ℕ) (hr : r < 2) (g : Fin 4) {o o' : Fin 2 → ℕ} (ho : o = ![128 * g.val, 0]) (ho' : o' = ![128 * g.val, 0]) {inb inb'} {hl} {w}
    (hw : pgrpOf g (D.P (r + 1) c) = w) {hx} {hm} {k : PUnit.{1} → Prog (TpuEff nD τ sig (Elt F) Λ₀ .tc) α} (Z : Dev nD → sProp 𝕄) :
    (M (pr3 (4 * g.val) (4 * g.val + 4) (s6' D r c) (s7 D r c) Z) : sProp 𝕄)
      ⊢ iprop((M (pr3 (4 * g.val) (4 * g.val + 4) (s6' D r c) (s0 D (r + 1) c) Z) -∗ wpc c (k ⟨⟩) Q)
      -∗ wpc c (Prog.lift (.load pM (Rect.unit (s := S512x512) o S128x512.size inb).toLoadRect hl) >>= fun _ =>
          Prog.lift (.store pM (Rect.unit (s := S512x512) o' S128x512.size inb') w Finset.univ hx hm) >>= k) Q) := by
  subst ho ho'
  iintro HM Hk
  ihave ⟨HA, HW⟩ := (M_gswap (F := F) g (f := pr3 (4 * g.val) (4 * g.val + 4) (s6' D r c) (s7 D r c) Z) (f' := pr3 (4 * g.val) (4 * g.val + 4) (s6' D r c) (s0 D (r + 1) c) Z)
    (A := prowE (F := F) c) (A' := fun k => prow c k (D.P (r + 1) c)) (fun k hk => ?_) (fun k hk => pr3_out g hk _ _ _ _)) $$ HM
  · rw [pr3_mid g hk, pr3_mid g hk]
    refine mix_swap (A := prowE (F := F) c) (A' := fun k => prow c k (D.P (r + 1) c)) ?_ fun _ => ?_
    · unfold own6 own0 oldShare
      rw [if_neg (Nat.succ_ne_zero r), Nat.add_sub_cancel]
      iintro ⟨H1, H2, H3, H4⟩
      isplitl [H1]; · iexact H1
      iintro H1
      isplitl [H1]; · iexact H1
      isplitl [H2]; · iexact H2
      isplitl [H3]; · unfold agrowE; iexists _; iexact H3
      iexact H4
    · unfold E7 E0 rbMore sbp
      rw [if_pos hr, if_neg (Nat.succ_ne_zero r), Nat.add_sub_cancel]
      iintro ⟨H1, H2, H3, H4, H5, H6, -, H8, ⟨H9, H9'⟩, H10⟩
      ihave ⟨Ha, Hb⟩ := (fut_next (F := F) r hr c k) $$ H10
      isplitl [H1]; · iexact H1
      iintro H1
      isplitl [H9]; · unfold slotE; iexact H9
      isplitl [H9']; · iexact H9'
      isplitl [H1]; · iexact H1
      isplitl [H8]; · unfold agrowE; iexists _; iexact H8
      isplitl [H2]; · iexact H2
      isplitl [H3]; · iexact H3
      isplitl [H4]; · iexact H4
      isplitl [H5 H6]
      · isplitl [H5]; · iexact H5
        iexact H6
      isplitl [Ha]; · iexact Ha
      iexact Hb
  ihave ⟨%f, HA⟩ := (p_some_grp (F := F) c g (D.P 0 c)) $$ HA
  unfold pGrp
  iapply (ld pM (grpR g) (S := (grpR g).set) (le_of_eq (View.set_slice_whole _ _)) rfl) $$ HA
  iintro HA
  iapply (st' pM (grpR g) (S := (grpR g).set) (g := D.P (r + 1) c) (View.set_slice_whole _ _) hw) $$ HA
  iintro HA
  iapply Hk
  iapply HW
  iapply (Entails.of_eq (p_grp (F := F) c g (D.P (r + 1) c)))
  unfold pGrp; iexact HA

end

end Cert.KernelIdeal.Mlp

end
-- ==== Proof.KernelIdeal.Local3.lean ====
/-
# The statements on the device's own buffers
-/
module

public import proofs.«01_k».proof.Proof.KernelIdeal.Local2

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

attribute [local irreducible] wp

variable (D : Data F) (K : Dev nD × CI → ℕ)

/-! ## Lending the finished rows, and getting them back -/

/-- The finished rows are lent to the peers by shares. -/
theorem lent (r : ℕ) (c : Dev nD) : (finR D r c : sProp 𝕄) = iprop(dropR D r c ∗ M (sbPay D r c)) :=
  Entails.antisymm (Transfers.pointsTo_toks_split fullShare 16) (Transfers.pointsTo_toks_join fullShare 16)

/-- Finished rows may be overwritten once they are back. -/
theorem fin_new (r : ℕ) (c : Dev nD) : (finR D r c : sProp 𝕄) ⊢ newR (F := F) r c := by
  unfold finR newR
  iintro H
  iexists _; iexact H
/-- The halves alternate. -/
theorem new_two (r : ℕ) (c : Dev nD) : (newR (F := F) r c : sProp 𝕄) = newR (F := F) (r + 2) c := by
  unfold newR; rw [show par (r + 2) = par r from Fin.ext (by show (r + 2) % 2 = r % 2; omega)]

/-- One share of the finished rows for every peer; what was lent in the round before is all back. -/
theorem open_swap (r : ℕ) (c : Dev nD) : (M (s4 D r c) : sProp 𝕄) ⊢ iprop(M (oldShare D r c) ∗ (M (sbPay D r c) -∗ M (s5 D r c))) := by
  refine M_swap fun k => mix_swap (A := oldShare D r c) (A' := sbPay D r c) ?_ fun _ => ?_
  · unfold own3 own5 slotE
    iintro ⟨H1, H2, H3, H4⟩
    isplitl [H4]; · iexact H4
    iintro H4
    isplitl [H1]; · iexact H1
    isplitl [H2]; · iexists _; iexact H2
    isplitl [H3]; · iexact H3
    iexact H4
  · unfold E4 E5 slotE
    iintro ⟨H1, H2, H3, H4, H5, H6, H7, H8⟩
    isplitl [H6]; · iexact H6
    iintro H6
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexact H8

/-- The finished rows are lent out, in the first layer; -/
theorem open_0 (c : Dev nD) : iprop(M (s4 D 0 c) ∗ finR D 0 c) ⊢ (iprop(M (s5 D 0 c) ∗ dropR D 0 c) : sProp 𝕄) := by
  iintro ⟨HM, HF⟩
  ihave ⟨Hd, Ht⟩ := (Entails.of_eq (lent D 0 c)) $$ HF
  ihave ⟨-, HW⟩ := (open_swap D 0 c) $$ HM
  isplitl [HW Ht]
  · iapply HW $$ Ht
  iexact Hd

/-- later: the earlier ones come back. -/
theorem open_succ (r : ℕ) (c : Dev nD) : iprop(M (s4 D (r + 1) c) ∗ finR D (r + 1) c ∗ dropR D r c) ⊢ (iprop(M (s5 D (r + 1) c) ∗ dropR D (r + 1) c ∗ newR (F := F) (r + 2) c) : sProp 𝕄) := by
  iintro ⟨HM, HF, HD⟩
  ihave ⟨Hd, Ht⟩ := (Entails.of_eq (lent D (r + 1) c)) $$ HF
  ihave ⟨Ho, HW⟩ := (open_swap D (r + 1) c) $$ HM
  isplitl [HW Ht]
  · iapply HW $$ Ht
  isplitl [Hd]; · iexact Hd
  iapply (Entails.of_eq (new_two (F := F) r c))
  iapply (fin_new D r c)
  iapply (Entails.of_eq (lent D r c).symm)
  isplitl [HD]; · iexact HD
  iapply (Entails.of_eq (congrArg M (show oldShare D (r + 1) c = sbPay D r c from funext fun k => by unfold oldShare; rw [if_neg (Nat.succ_ne_zero r), Nat.add_sub_cancel])))
  iexact Ho

/-- In the first round nothing was lent before. -/
theorem s3_s4 (c : Dev nD) : (M (s3 D 0 c) : sProp 𝕄) ⊢ M (s4 D 0 c) := by
  refine M_mono fun k => ?_
  unfold s3 s4
  by_cases h : k = c
  · subst h; rw [mix_self, mix_self]
  · rw [mix_ne _ _ h, mix_ne _ _ h]
    unfold E3 E4 sbp oldShare
    rw [if_pos rfl, if_pos rfl]
    iintro ⟨H1, H2, H3, H4, H5, H6⟩
    isplitl [H1]; · iexact H1
    isplitl [H2]; · iexact H2
    isplitl [H3]; · iexact H3
    isplitl [H4]; · iexact H4
    isplitl [H5]; · iexact H5
    isplitr; · iempintro
    iexact H6

/-- After the last wait the shares come back. -/
theorem close_swap (c : Dev nD) : iprop(M (s8 D 2 c) ∗ dropR D 2 c) ⊢ (iprop(newR (F := F) 2 c
    ∗ M (mix c (iprop(prowE (F := F) c c ∗ slotE (F := F) c c ∗ agrowE (F := F) c c))
        (fun k => iprop((ps (F := F) 3 c k 0 ∗ ps (F := F) 3 c k 1 ∗ ps (F := F) 3 c k 3 ∗ ps (F := F) 3 c k 2) ∗ prowE (F := F) c k ∗ slotE (F := F) c k ∗ agrowE (F := F) c k)))) : sProp 𝕄) := by
  iintro ⟨HM, HD⟩
  have h := M_take (F := F) (f := s8 D 2 c) (A := sbPay D 2 c) (B := mix c (iprop(prowE (F := F) c c ∗ slotE (F := F) c c ∗ agrowE (F := F) c c))
        (fun k => iprop((ps (F := F) 3 c k 0 ∗ ps (F := F) 3 c k 1 ∗ ps (F := F) 3 c k 3 ∗ ps (F := F) 3 c k 2) ∗ prowE (F := F) c k ∗ slotE (F := F) c k ∗ agrowE (F := F) c k))) (fun k => by
    by_cases h : k = c
    · subst h
      unfold s8
      rw [mix_self, mix_self]
      unfold own6 agrowE
      iintro ⟨H1, H2, H3, H4⟩
      isplitl [H4]; · iexact H4
      isplitl [H1]; · iexact H1
      isplitl [H2]; · iexact H2
      iexists _; iexact H3
    · unfold s8
      rw [mix_ne _ _ h, mix_ne _ _ h]
      unfold E8 keep agrowE
      rw [if_neg (Nat.lt_irrefl 2)]
      iintro ⟨H1, H2, H3, H4, H5, H6, H7, H8, -, -⟩
      isplitl [H6]; · iexact H6
      isplitl [H2 H3 H4 H5]
      · isplitl [H2]; · iexact H2
        isplitl [H3]; · iexact H3
        isplitl [H4]; · iexact H4
        iexact H5
      isplitl [H1]; · iexact H1
      isplitl [H7]; · iexact H7
      iexists _; iexact H8)
  ihave ⟨Hs, HB⟩ := h $$ HM
  isplitl [HD Hs]
  · iapply (fin_new D 2 c)
    iapply (Entails.of_eq (lent D 2 c).symm)
    isplitl [HD]; · iexact HD
    iexact Hs
  iexact HB

/-! ## The windows and the activations -/

abbrev M512x256 (F : FTy → Type) (e : EltTy) := S512x256.Idx → Elt F e
abbrev M256x512 (F : FTy → Type) := S256x512.Idx → Elt F .bf16

abbrev w0M : Memref sig .tc .vmem S512x256 .bf16 := Memref.whole cc0_stg0_0
abbrev w1M : Memref sig .tc .vmem S256x512 .bf16 := Memref.whole cc0_stg1_0
abbrev w2M : Memref sig .tc .vmem S512x256 .bf16 := Memref.whole cc0_stg2_0
abbrev w3M : Memref sig .tc .vmem S256x512 .bf16 := Memref.whole cc0_stg3_0
abbrev w4M : Memref sig .tc .vmem S512x256 .bf16 := Memref.whole cc0_stg4_0
abbrev w5M : Memref sig .tc .vmem S256x512 .bf16 := Memref.whole cc0_stg5_0
abbrev w6M : Memref sig .tc .vmem S512x256 .bf16 := Memref.whole cc0_stg6_0
abbrev oM : Memref sig .tc .vmem S512x256 .f32 := Memref.whole cc0_stg7_0

/-- A whole buffer with these contents. -/
def own {s : Shape} {e : EltTy} (m : Memref sig .tc .vmem s e) (c : Dev nD) (f : Buf (Elt F) (m.view.loc (c : Thread nD τ))) : sProp 𝕄 :=
  m.view.loc (c : Thread nD τ) ↦[Finset.univ]{fullShare} f

section
variable {c : Dev nD} {α : Type} {Q : α → sProp (MT nD τ sig ℕ (Elt F) ℕ UU ℕ)}

/-- Loading from a whole buffer; -/
theorem own_ld {s : Shape} {e : EltTy} (m : Memref sig .tc .vmem s e) (f : Buf (Elt F) (m.view.loc (c : Thread nD τ))) {rc : Rect s} {v : rc.shape.Idx → Elt F e}
    (hv : (m.access rc).read (Elt F) f = v) {hl} {k : _ → Prog (TpuEff nD τ sig (Elt F) Λ₀ .tc) α} :
    (own (F := F) m c f : sProp 𝕄) ⊢ iprop((own (F := F) m c f -∗ wpc c (k v) Q) -∗ wpc c (Prog.lift (.load m rc.toLoadRect hl) >>= k) Q) :=
  ld m rc (Finset.subset_univ _) hv

/-- storing into one. -/
theorem own_st {s : Shape} {e : EltTy} (m : Memref sig .tc .vmem s e) (f g : Buf (Elt F) (m.view.loc (c : Thread nD τ))) {rc : Rect s} {w : rc.shape.Idx → Elt F e}
    (hin : (m.access rc).read (Elt F) g = w) (hout : ∀ i, i ∉ (m.access rc).set → g i = f i)
    {hx : (m.access rc).Stores Finset.univ} {hm : (Finset.univ : Finset rc.shape.Idx) = Finset.univ ∨ ∀ a, rc.stride a = 1} {k : PUnit.{1} → Prog (TpuEff nD τ sig (Elt F) Λ₀ .tc) α} :
    (own (F := F) m c f : sProp 𝕄) ⊢ iprop((own (F := F) m c g -∗ wpc c (k ⟨⟩) Q) -∗ wpc c (Prog.lift (.store m rc w Finset.univ hx hm) >>= k) Q) :=
  st m rc (Finset.subset_univ _) hin fun i _ => hout i

variable {o : Fin 2 → ℕ} (ho : o = fun _ => 0)
include ho

/-- A load of the whole of each window is its contents. -/
theorem rd0 (f : M512x256 F .bf16) {inb} : (w0M.access (Rect.unit (s := S512x256) o S512x256.size inb)).read (Elt F) f = f := Memref.read_access_unit_zero (Elt F) cc0_stg0_0 ho inb f
/-- The same of window 1, -/
theorem rd1 (f : M256x512 F) {inb} : (w1M.access (Rect.unit (s := S256x512) o S256x512.size inb)).read (Elt F) f = f := Memref.read_access_unit_zero (Elt F) cc0_stg1_0 ho inb f
/-- window 2, -/
theorem rd2 (f : M512x256 F .bf16) {inb} : (w2M.access (Rect.unit (s := S512x256) o S512x256.size inb)).read (Elt F) f = f := Memref.read_access_unit_zero (Elt F) cc0_stg2_0 ho inb f
/-- window 3, -/
theorem rd3 (f : M256x512 F) {inb} : (w3M.access (Rect.unit (s := S256x512) o S256x512.size inb)).read (Elt F) f = f := Memref.read_access_unit_zero (Elt F) cc0_stg3_0 ho inb f
/-- window 4, -/
theorem rd4 (f : M512x256 F .bf16) {inb} : (w4M.access (Rect.unit (s := S512x256) o S512x256.size inb)).read (Elt F) f = f := Memref.read_access_unit_zero (Elt F) cc0_stg4_0 ho inb f
/-- window 5, -/
theorem rd5 (f : M256x512 F) {inb} : (w5M.access (Rect.unit (s := S256x512) o S256x512.size inb)).read (Elt F) f = f := Memref.read_access_unit_zero (Elt F) cc0_stg5_0 ho inb f
/-- window 6, -/
theorem rd6 (f : M512x256 F .bf16) {inb} : (w6M.access (Rect.unit (s := S512x256) o S512x256.size inb)).read (Elt F) f = f := Memref.read_access_unit_zero (Elt F) cc0_stg6_0 ho inb f
/-- and the activations. -/
theorem rdA (f : M512x256 F .bf16) {inb} : (actM.access (Rect.unit (s := S512x256) o S512x256.size inb)).read (Elt F) f = f := Memref.read_access_unit_zero (Elt F) cc0_scratch4 ho inb f
/-- A store of the activations is of all of them, -/
theorem allA {inb} (i : S512x256.Idx) : i ∈ (actM.access (Rect.unit (s := S512x256) o S512x256.size inb)).set := by
  subst ho
  rw [show (actM.access (Rect.unit (s := S512x256) (fun _ => 0) S512x256.size inb)).set = (Rect.unit (s := S512x256) (fun _ => 0) S512x256.size inb).set from View.set_slice_whole _ _, Rect.mem_set_unit]
  exact fun a => ⟨Nat.zero_le _, by rw [Nat.zero_add]; exact (i a).isLt⟩
/-- and leaves nothing else. -/
theorem outA (f g : M512x256 F .bf16) {inb} : ∀ i : (actM.access (Rect.unit (s := S512x256) o S512x256.size inb)).ty.Idx, i ∉ (actM.access (Rect.unit (s := S512x256) o S512x256.size inb)).set → g i = f i :=
  fun i hi => absurd (allA ho (inb := inb) i) hi
omit ho

/-! ## The result -/

/-- A group's rows lie within the result, -/
theorem ogrp_inb (g : Fin 4) : ∀ a, (![128 * g.val, 0] : Fin 2 → ℕ) a + S128x256.size a ≤ S512x256.size a := by revert g; decide
abbrev ogrpR (g : Fin 4) : Rect S512x256 := Rect.unit (s := S512x256) ![128 * g.val, 0] S128x256.size (ogrp_inb g)
def ogrpOf (g : Fin 4) (f : M512x256 F .f32) : S128x256.Idx → Elt F .f32 := (oM.access (ogrpR g)).read (Elt F) f

/-- The first `n` groups of rows of the result are done. -/
def outp (c : Dev nD) (G : M512x256 F .f32) (n : ℕ) : sProp 𝕄 :=
  iprop(∃ f : M512x256 F .f32, ⌜∀ i : S512x256.Idx, (i 0).val < 128 * n → f i = G i⌝ ∗ own (F := F) oM c f)

/-- by the row number. -/
theorem mem_ogrp (g : Fin 4) (i : S512x256.Idx) : i ∈ (ogrpR g).set ↔ (i 0).val / 128 = g.val := by
  rw [Rect.mem_set_unit, Fin.forall_fin_two]
  have h1 : (i 1).val < 256 := (i 1).isLt
  show ((128 * g.val ≤ (i 0).val ∧ (i 0).val < 128 * g.val + 128) ∧ (0 ≤ (i 1).val ∧ (i 1).val < 0 + 256)) ↔ _
  omega

/-- Storing the next group of rows of the result. -/
theorem outp_st (G : M512x256 F .f32) (g : Fin 4) {o o' : Fin 2 → ℕ} (ho : o = ![128 * g.val, 0]) (ho' : o' = ![128 * g.val, 0]) {inb inb'} {hl} {w}
    (hw : ogrpOf g G = w) {hx} {hm} {k : PUnit.{1} → Prog (TpuEff nD τ sig (Elt F) Λ₀ .tc) α} :
    (outp c G g.val : sProp 𝕄) ⊢ iprop((outp c G (g.val + 1) -∗ wpc c (k ⟨⟩) Q)
      -∗ wpc c (Prog.lift (.load oM (Rect.unit (s := S512x256) o S128x256.size inb).toLoadRect hl) >>= fun _ =>
          Prog.lift (.store oM (Rect.unit (s := S512x256) o' S128x256.size inb') w Finset.univ hx hm) >>= k) Q) := by
  subst ho ho'
  have hset : (oM.access (ogrpR g)).set = (ogrpR g).set := View.set_slice_whole _ _
  unfold outp
  iintro ⟨%f, %hf, HM⟩ Hk
  iapply (own_ld (F := F) oM f (rc := ogrpR g) rfl) $$ HM
  iintro HM
  iapply (own_st (F := F) oM f (fun i : S512x256.Idx => if (i 0).val < 128 * (g.val + 1) then G i else f i) (rc := ogrpR g) (hin := ?_) (hout := fun i hi => ?_)) $$ HM
  · rw [← hw]
    unfold ogrpOf
    refine View.read_congr fun i hi => ?_
    rw [hset] at hi
    have := (mem_ogrp g i).mp hi
    exact if_pos (by omega)
  · rw [hset] at hi
    have h' : ¬ (i 0).val / 128 = g.val := fun e => hi ((mem_ogrp g i).mpr e)
    show (if (i 0).val < 128 * (g.val + 1) then G i else f i) = f i
    split
    · exact (hf i (by omega)).symm
    · rfl
  iintro HM
  iapply Hk
  iexists (fun i : S512x256.Idx => if (i 0).val < 128 * (g.val + 1) then G i else f i)
  isplitr [HM]
  · ipureintro
    intro i hi
    exact if_pos hi
  iexact HM

end

end Cert.KernelIdeal.Mlp

end
-- ==== Proof.KernelIdeal.Body0.lean ====
/-
# What the body computes, and small steps
-/
module

public import proofs.«01_k».proof.Proof.KernelIdeal.Local3

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

attribute [local irreducible] wp

/-! ## The windows of a device, and what the body makes of them -/

/-- The contents of the input windows of a device: its columns of `x`, then for every layer its rows of the first matrix
    and its columns of the second. -/
structure Ins (F : FTy → Type) where
  x : M512x256 F .bf16
  a1 : M256x512 F
  a2 : M512x256 F .bf16
  a3 : M256x512 F
  a4 : M512x256 F .bf16
  a5 : M256x512 F
  a6 : M512x256 F .bf16

/-- The partial sums, the finished rows and the result are what device `c`'s statements compute. -/
structure Good (D : Data F) (I : Ins F) (c : Dev nD) (G : M512x256 F .f32) : Prop where
  p2 : k0_pay2 (k0_pay1 I.x) I.a1 = D.P 0 c
  red : ∀ r, halfOf (par r) (HB D r c) = k0_pay4 (RS D r c)
  p8 : ∀ g, pgrpOf g (D.P 1 c) = k0_pay8 (grpOf g (D.H 0)) I.a2 I.a3
  p15 : ∀ g, pgrpOf g (D.P 2 c) = k0_pay8 (grpOf g (D.H 1)) I.a4 I.a5
  out : ∀ g, ogrpOf g G = k0_pay25 (grpOf g (D.H 2)) I.a6

section
variable (D : Data F)

/-- The own rows in the receive buffer are the own rows of the partial sums. -/
theorem own3_eq (r : ℕ) (c : Dev nD) : slotOf c (RS D r c) = k0_pay3 (rowsOf c (D.P r c)) := by
  funext i
  obtain ⟨a, x, b, rfl⟩ : ∃ a x b, i = ix3 a x b := ⟨i 0, i 1, i 2, eq_ix3 i⟩
  obtain rfl : a = 0 := Subsingleton.elim _ _
  unfold k0_pay3
  rw [shapeCast_self, shapeCast_ab_1ab_apply]
  have e1 : (slotR c).emb (ix3 0 x b) = ix3 (c : Fin 16) x b := by
    funext d; apply Fin.ext
    match d with
    | ⟨0, _⟩ => rfl
    | ⟨1, _⟩ => show 0 + 1 * x.val = x.val; omega
    | ⟨2, _⟩ => show 0 + 1 * b.val = b.val; omega
  show RS D r c ((slotR c).emb (ix3 0 x b)) = D.P r c ((rowR c).emb (ix2 x b))
  rw [e1, rowR_emb]; rfl
/-- The own slot in the second layer, -/
theorem own11_eq (r : ℕ) (c : Dev nD) : slotOf c (RS D r c) = k0_pay11 (rowsOf c (D.P r c)) := own3_eq D r c
/-- and the third. -/
theorem own20_eq (r : ℕ) (c : Dev nD) : slotOf c (RS D r c) = k0_pay20 (rowsOf c (D.P r c)) := own3_eq D r c

/-- The own rows in the gathered matrix are the rows in the send buffer. -/
theorem agown5_eq (r : ℕ) (c : Dev nD) : agOf c (D.H r) = k0_pay5 (halfOf (par r) (HB D r c)) := by
  funext i
  obtain ⟨x, b, rfl⟩ : ∃ x b, i = ix2 x b := ⟨i 0, i 1, eq_ix2 i⟩
  unfold k0_pay5
  rw [shapeCast_self, shapeCast_1ab_ab_apply]
  have e1 : (rslotR (par r)).emb (ix3 0 x b) = ix3 (par r : Fin 2) x b := by
    funext d; apply Fin.ext
    match d with
    | ⟨0, _⟩ => rfl
    | ⟨1, _⟩ => show 0 + 1 * x.val = x.val; omega
    | ⟨2, _⟩ => show 0 + 1 * b.val = b.val; omega
  show D.H r ((rowR c).emb (ix2 x b)) = HB D r c ((rslotR (par r)).emb (ix3 0 x b))
  rw [e1, rowR_emb]; rfl
/-- The own gathered rows in the second layer, -/
theorem agown14_eq (r : ℕ) (c : Dev nD) : agOf c (D.H r) = k0_pay14 (halfOf (par r) (HB D r c)) := agown5_eq D r c
/-- and the third. -/
theorem agown24_eq (r : ℕ) (c : Dev nD) : agOf c (D.H r) = k0_pay24 (k0_pay23 (halfOf (par r) (HB D r c))) := agown5_eq D r c

variable {D} {I : Ins F} {c : Dev nD} {G : M512x256 F .f32} (hG : Good D I c G)
include hG

/-- The finished rows of layer 0, -/
theorem Good.r4 : halfOf (par 0) (HB D 0 c) = k0_pay4 (RS D 0 c) := hG.red 0
/-- of layer 1, -/
theorem Good.r13 : halfOf (par 1) (HB D 1 c) = k0_pay13 (k0_pay12 (RS D 1 c)) := hG.red 1
/-- of layer 2. -/
theorem Good.r22 : halfOf (par 2) (HB D 2 c) = k0_pay22 (k0_pay21 (RS D 2 c)) := hG.red 2
/-- The second layer's partial sums: group 0, -/
theorem Good.p7 : pgrpOf 0 (D.P 1 c) = k0_pay7 (k0_pay6 (grpOf 0 (D.H 0)) I.a2 I.a3) := hG.p8 0
/-- group 1, -/
theorem Good.p8' : pgrpOf 1 (D.P 1 c) = k0_pay8 (grpOf 1 (D.H 0)) I.a2 I.a3 := hG.p8 1
/-- group 2, -/
theorem Good.p9 : pgrpOf 2 (D.P 1 c) = k0_pay9 (grpOf 2 (D.H 0)) I.a2 I.a3 := hG.p8 2
/-- group 3. -/
theorem Good.p10 : pgrpOf 3 (D.P 1 c) = k0_pay10 (grpOf 3 (D.H 0)) I.a2 I.a3 := hG.p8 3
/-- The third layer's partial sums: group 0, -/
theorem Good.p15' : pgrpOf 0 (D.P 2 c) = k0_pay15 (grpOf 0 (D.H 1)) I.a4 I.a5 := hG.p15 0
/-- group 1, -/
theorem Good.p17 : pgrpOf 1 (D.P 2 c) = k0_pay17 (k0_pay16 (grpOf 1 (D.H 1)) I.a4) I.a5 := hG.p15 1
/-- group 2, -/
theorem Good.p18 : pgrpOf 2 (D.P 2 c) = k0_pay18 (grpOf 2 (D.H 1)) I.a4 I.a5 := hG.p15 2
/-- group 3. -/
theorem Good.p19 : pgrpOf 3 (D.P 2 c) = k0_pay19 (grpOf 3 (D.H 1)) I.a4 I.a5 := hG.p15 3
/-- The result: group 0, -/
theorem Good.o25 : ogrpOf 0 G = k0_pay25 (grpOf 0 (D.H 2)) I.a6 := hG.out 0
/-- group 1, -/
theorem Good.o26 : ogrpOf 1 G = k0_pay26 (grpOf 1 (D.H 2)) I.a6 := hG.out 1
/-- group 2, -/
theorem Good.o27 : ogrpOf 2 G = k0_pay27 (grpOf 2 (D.H 2)) I.a6 := hG.out 2
/-- group 3. -/
theorem Good.o28 : ogrpOf 3 G = k0_pay28 (grpOf 3 (D.H 2)) I.a6 := hG.out 3

end

/-! ## Small steps of the walk -/

/-- The half of layer 0, -/
theorem par0 : (![0, 0, 0] : Fin 3 → ℕ) = ![(par 0).val, 0, 0] := rfl
/-- of layer 1, -/
theorem par1 : (![1, 0, 0] : Fin 3 → ℕ) = ![(par 1).val, 0, 0] := rfl
/-- of layer 2. -/
theorem par2 : (![0, 0, 0] : Fin 3 → ℕ) = ![(par 2).val, 0, 0] := rfl

/-- The printed tests against a device's position. -/
abbrev ev (c : Dev nD) (n : ℕ) : BitVec 32 := Scalar.extui (Scalar.cmpi .ne (pos c) (BitVec.ofNat 32 n))
abbrev cv (c : Dev nD) (n : ℕ) : BitVec 1 := Scalar.cmpi .ne (ev c n) 0#32

/-- A stage begins; -/
theorem m_zero (X Y : Dev nD → sProp 𝕄) : (M X : sProp 𝕄) ⊢ M (pr 0 X Y) := Entails.of_eq (congrArg M (pr_zero X Y).symm)
/-- it is over. -/
theorem m_all (X Y : Dev nD → sProp 𝕄) : (M (pr 16 X Y) : sProp 𝕄) ⊢ M Y := Entails.of_eq (congrArg M (pr_all X Y))
/-- A stage by groups begins; -/
theorem g_zero (X Y Z : Dev nD → sProp 𝕄) : (M X : sProp 𝕄) ⊢ M (pr3 0 0 X Y Z) := Entails.of_eq (congrArg M (pr3_zero X Y Z).symm)
/-- it is over; -/
theorem g_all (X Y Z : Dev nD → sProp 𝕄) : (M (pr3 16 16 X Y Z) : sProp 𝕄) ⊢ M Z := Entails.of_eq (congrArg M (pr3_all X Y Z))
/-- the next group begins; -/
theorem g_next (a : ℕ) (X Y Y' Z : Dev nD → sProp 𝕄) : (M (pr3 a a X Y Z) : sProp 𝕄) ⊢ M (pr3 a a X Y' Z) := Entails.of_eq (congrArg M (pr3_eq a X Y' Y Z))
/-- a group ends. -/
theorem g_same (a b : ℕ) (h : a ≤ b) (X Y : Dev nD → sProp 𝕄) : (M (pr3 a b X Y Y) : sProp 𝕄) ⊢ M (pr3 b b X Y Y) := by
  refine Entails.of_eq (congrArg M (funext fun k => ?_))
  unfold pr3
  rcases Nat.lt_or_ge k.val a with h1 | h1
  · rw [pr_lt _ _ h1, pr_lt _ _ (show k.val < b by omega)]
  · rw [pr_ge _ _ h1]
    rcases Nat.lt_or_ge k.val b with h2 | h2
    · rw [pr_lt _ _ h2, pr_lt _ _ h2]
    · rw [pr_ge _ _ h2, pr_ge _ _ h2, pr_ge _ _ h2]

section
variable {c : Dev nD} {α β : Type} {Q : α → sProp (MT nD τ sig ℕ (Elt F) ℕ UU ℕ)}

/-- A statement, then the rest; -/
theorem seq_stmt {p : Prog (TpuEff nD τ sig (Elt F) Λ₀ .tc) β} {k : β → Prog (TpuEff nD τ sig (Elt F) Λ₀ .tc) α} :
    (wpc c p (fun v => wpc c (k v) Q) : sProp 𝕄) ⊢ wpc c (p >>= k) Q := Entails.of_eq (wp_bind _ _ _ p k Q).symm
/-- the end; -/
theorem fin_stmt {v : α} : (Q v : sProp 𝕄) ⊢ wpc c (Prog.ret v) Q := by
  unfold wpc; simp only [wp_ret]; iintro H; imodintro; iexact H
/-- asking for the device's number. -/
theorem dev_stmt {k : Dev nD → Prog (TpuEff nD τ sig (Elt F) Λ₀ .tc) α} : (wpc c (k c) Q : sProp 𝕄) ⊢ wpc c (Prog.lift .deviceId >>= k) Q :=
  Entails.of_eq (wp_deviceId 𝒱₀ (c : Thread nD τ) none Set.univ (k := k)).symm

variable (D : Data F)

/-- Loading a group, by the printed numbers; -/
theorem ag_grp_ld' (r : ℕ) (g : Fin 4) (Z : Dev nD → sProp 𝕄) {a b : ℕ} (ha : a = 4 * g.val) (hb : b = 4 * g.val + 4) {o : Fin 2 → ℕ} (ho : o = ![128 * g.val, 0]) {inb} {hl}
    {k : _ → Prog (TpuEff nD τ sig (Elt F) Λ₀ .tc) α} :
    (M (pr3 a b (s6' D r c) (s7 D r c) Z) : sProp 𝕄) ⊢ iprop((M (pr3 a b (s6' D r c) (s7 D r c) Z) -∗ wpc c (k (grpOf g (D.H r))) Q)
      -∗ wpc c (Prog.lift (.load agM (Rect.unit (s := S512x512) o S128x512.size inb).toLoadRect hl) >>= k) Q) := by
  subst ha hb; exact ag_grp_ld D r g Z ho

/-- storing its partial sums; -/
theorem p_grp_st' (r : ℕ) (hr : r < 2) (g : Fin 4) {a b : ℕ} (ha : a = 4 * g.val) (hb : b = 4 * g.val + 4) {o o' : Fin 2 → ℕ} (ho : o = ![128 * g.val, 0]) (ho' : o' = ![128 * g.val, 0]) {inb inb'} {hl} {w}
    (hw : pgrpOf g (D.P (r + 1) c) = w) {hx} {hm} {k : PUnit.{1} → Prog (TpuEff nD τ sig (Elt F) Λ₀ .tc) α} (Z : Dev nD → sProp 𝕄) :
    (M (pr3 a b (s6' D r c) (s7 D r c) Z) : sProp 𝕄) ⊢ iprop((M (pr3 a b (s6' D r c) (s0 D (r + 1) c) Z) -∗ wpc c (k ⟨⟩) Q)
      -∗ wpc c (Prog.lift (.load pM (Rect.unit (s := S512x512) o S128x512.size inb).toLoadRect hl) >>= fun _ =>
          Prog.lift (.store pM (Rect.unit (s := S512x512) o' S128x512.size inb') w Finset.univ hx hm) >>= k) Q) := by
  subst ha hb; exact p_grp_st D r hr g ho ho' hw Z

/-- storing its rows of the result. -/
theorem outp_st' (G : M512x256 F .f32) (g : Fin 4) {n : ℕ} (hn : n = g.val) {o o' : Fin 2 → ℕ} (ho : o = ![128 * g.val, 0]) (ho' : o' = ![128 * g.val, 0]) {inb inb'} {hl} {w}
    (hw : ogrpOf g G = w) {hx} {hm} {k : PUnit.{1} → Prog (TpuEff nD τ sig (Elt F) Λ₀ .tc) α} :
    (outp c G n : sProp 𝕄) ⊢ iprop((outp c G (n + 1) -∗ wpc c (k ⟨⟩) Q)
      -∗ wpc c (Prog.lift (.load oM (Rect.unit (s := S512x256) o S128x256.size inb).toLoadRect hl) >>= fun _ =>
          Prog.lift (.store oM (Rect.unit (s := S512x256) o' S128x256.size inb') w Finset.univ hx hm) >>= k) Q) := by
  subst hn; exact outp_st G g ho ho' hw

end

/-- A printed part at this kernel's buffers. -/
abbrev inst {β : Sort*} (p : (arg0 : Memref sig .tc .vmem S512x256 .bf16) → arg0.IsWhole → (arg1 : Memref sig .tc .vmem S256x512 .bf16) → arg1.IsWhole →
    (arg2 : Memref sig .tc .vmem S512x256 .bf16) → arg2.IsWhole → (arg3 : Memref sig .tc .vmem S256x512 .bf16) → arg3.IsWhole →
    (arg4 : Memref sig .tc .vmem S512x256 .bf16) → arg4.IsWhole → (arg5 : Memref sig .tc .vmem S256x512 .bf16) → arg5.IsWhole →
    (arg6 : Memref sig .tc .vmem S512x256 .bf16) → arg6.IsWhole → (arg7 : Memref sig .tc .vmem S512x256 .f32) → arg7.IsWhole →
    (arg8 : Memref sig .tc .vmem S512x512 .bf16) → arg8.IsWhole → (arg9 : Memref sig .tc .vmem S16x32x512 .bf16) → arg9.IsWhole →
    (arg10 : Memref sig .tc .vmem S512x512 .bf16) → arg10.IsWhole → (arg11 : Memref sig .tc .vmem S2x32x512 .bf16) → arg11.IsWhole →
    (arg12 : Memref sig .tc .vmem S512x256 .bf16) → arg12.IsWhole → DmaSems sig S16 → DmaSems sig S16 → DmaSems sig S16 → DmaSems sig S16 → β) : β :=
  p w0M (Memref.isWhole_whole _) w1M (Memref.isWhole_whole _) w2M (Memref.isWhole_whole _) w3M (Memref.isWhole_whole _) w4M (Memref.isWhole_whole _)
    w5M (Memref.isWhole_whole _) w6M (Memref.isWhole_whole _) oM (Memref.isWhole_whole _) pM (Memref.isWhole_whole _) rsM (Memref.isWhole_whole _)
    agM (Memref.isWhole_whole _) rM (Memref.isWhole_whole _) actM (Memref.isWhole_whole _) cc0_scratch5 cc0_scratch6 cc0_scratch7 cc0_scratch8

end Cert.KernelIdeal.Mlp

end
-- ==== Proof.KernelIdeal.Body1.lean ====
/-
# The walk of the body: up to the second layer
-/
module

public import proofs.«01_k».proof.Proof.KernelIdeal.Body0

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

attribute [local irreducible] wp

variable (D : Data F) (K : Dev nD × CI → ℕ) {c : Dev nD} {I : Ins F} {G : M512x256 F .f32} {fa : M512x256 F .bf16}

/-- Part 1 of the body. -/
theorem part1_walk {Q : _ → sProp (MT nD τ sig ℕ (Elt F) ℕ UU ℕ)} : records D K ⊢ iprop(M (pr 0 (sI (F := F) c) (sJ (F := F) c)) -∗ ow c 0 -∗
    (M (pr 8 (sI (F := F) c) (sJ (F := F) c)) -∗ ow c 8 -∗ Q ⟨c, pos c, SemArray.scalar (sig.barrier 0 rfl)⟩)
    -∗ wpc c (inst (k0_part1 (F := F))) Q) := by
  iintro #HR HM HO  HK
  unfold inst
  rw [k0_part1_eq_skeleton]
  unfold k0_part1_skel
  iapply (dev_stmt (F := F))
  iapply (sig_stmt D K 0 (by decide) (adv 0 (by decide) _ _) rfl) $$ HR HM HO; iintro HM HO
  iapply (sig_stmt D K 1 (by decide) (adv 1 (by decide) _ _) rfl) $$ HR HM HO; iintro HM HO
  iapply (sig_stmt D K 2 (by decide) (adv 2 (by decide) _ _) rfl) $$ HR HM HO; iintro HM HO
  iapply (sig_stmt D K 3 (by decide) (adv 3 (by decide) _ _) rfl) $$ HR HM HO; iintro HM HO
  iapply (sig_stmt D K 4 (by decide) (adv 4 (by decide) _ _) rfl) $$ HR HM HO; iintro HM HO
  iapply (sig_stmt D K 5 (by decide) (adv 5 (by decide) _ _) rfl) $$ HR HM HO; iintro HM HO
  iapply (sig_stmt D K 6 (by decide) (adv 6 (by decide) _ _) rfl) $$ HR HM HO; iintro HM HO
  iapply (sig_stmt D K 7 (by decide) (adv 7 (by decide) _ _) rfl) $$ HR HM HO; iintro HM HO
  iapply (fin_stmt (F := F))
  iapply HK $$ HM HO

/-- Part 2 of the body. -/
theorem part2_walk {Q : _ → sProp (MT nD τ sig ℕ (Elt F) ℕ UU ℕ)} : records D K ⊢ iprop(M (pr 8 (sI (F := F) c) (sJ (F := F) c)) -∗ ow c 8 -∗ barPos (F := F) c -∗ own (F := F) w0M c I.x -∗ own (F := F) actM c fa -∗
    (M (sK (F := F) c) -∗ ow c 16 -∗ barEnd (F := F) c -∗ own (F := F) w0M c I.x -∗ own (F := F) actM c (k0_pay1 I.x) -∗ Q (k0_pay1 I.x))
    -∗ wpc c (inst (k0_part2 (F := F)) c (pos c) (SemArray.scalar (sig.barrier 0 rfl))) Q) := by
  iintro #HR HM HO HB HX HA HK
  unfold inst
  rw [k0_part2_eq_skeleton]
  unfold k0_part2_skel
  iapply (sig_stmt D K 8 (by decide) (adv 8 (by decide) _ _) rfl) $$ HR HM HO; iintro HM HO
  iapply (sig_stmt D K 9 (by decide) (adv 9 (by decide) _ _) rfl) $$ HR HM HO; iintro HM HO
  iapply (sig_stmt D K 10 (by decide) (adv 10 (by decide) _ _) rfl) $$ HR HM HO; iintro HM HO
  iapply (sig_stmt D K 11 (by decide) (adv 11 (by decide) _ _) rfl) $$ HR HM HO; iintro HM HO
  iapply (sig_stmt D K 12 (by decide) (adv 12 (by decide) _ _) rfl) $$ HR HM HO; iintro HM HO
  iapply (sig_stmt D K 13 (by decide) (adv 13 (by decide) _ _) rfl) $$ HR HM HO; iintro HM HO
  iapply (sig_stmt D K 14 (by decide) (adv 14 (by decide) _ _) rfl) $$ HR HM HO; iintro HM HO
  iapply (sig_stmt D K 15 (by decide) (adv 15 (by decide) _ _) rfl) $$ HR HM HO; iintro HM HO
  ihave HM := (m_all _ _) $$ HM
  iapply (bar_stmt D K) $$ HR HM HB HO; iintro HM HB HO
  iapply (own_ld w0M I.x (rd0 zz2 I.x)) $$ HX; iintro HX
  iapply (own_ld actM fa (rdA zz2 fa)) $$ HA; iintro HA
  iapply (own_st actM fa (k0_pay1 I.x) (rdA zz2 (k0_pay1 I.x)) (outA zz2 fa (k0_pay1 I.x))) $$ HA; iintro HA
  iapply (own_ld actM (k0_pay1 I.x) (rdA zz2 (k0_pay1 I.x))) $$ HA; iintro HA
  iapply (fin_stmt (F := F))
  iapply HK $$ HM HO HB HX HA

/-- Part 3 of the body. -/
theorem part3_walk (hG : Good D I c G) {Q : _ → sProp (MT nD τ sig ℕ (Elt F) ℕ UU ℕ)} : records D K ⊢ iprop(M (sK (F := F) c) -∗ ow c 16 -∗ own (F := F) w1M c I.a1 -∗
    (M (pr 8 (s0 D 0 c) (s1 D 0 c)) -∗ ow c 24 -∗ own (F := F) w1M c I.a1 -∗ Q ⟨⟩)
    -∗ wpc c (inst (k0_part3 (F := F)) c (pos c) (k0_pay1 I.x)) Q) := by
  iintro #HR HM HO H1 HK
  unfold inst
  rw [k0_part3_eq_skeleton]
  unfold k0_part3_skel
  iapply (own_ld w1M I.a1 (rd1 zz2 I.a1)) $$ H1; iintro H1
  iapply (p_first D zz2 zz2 hG.p2) $$ HM; iintro HM
  ihave HM := (m_zero (s0 D 0 c) (s1 D 0 c)) $$ HM
  iapply (rs_stmt D K 0 (by decide) 0 (by decide) (adv 0 (by decide) _ _) rfl) $$ HR HM HO; iintro HM HO
  iapply (rs_stmt D K 0 (by decide) 1 (by decide) (adv 1 (by decide) _ _) rfl) $$ HR HM HO; iintro HM HO
  iapply (rs_stmt D K 0 (by decide) 2 (by decide) (adv 2 (by decide) _ _) rfl) $$ HR HM HO; iintro HM HO
  iapply (rs_stmt D K 0 (by decide) 3 (by decide) (adv 3 (by decide) _ _) rfl) $$ HR HM HO; iintro HM HO
  iapply (rs_stmt D K 0 (by decide) 4 (by decide) (adv 4 (by decide) _ _) rfl) $$ HR HM HO; iintro HM HO
  iapply (rs_stmt D K 0 (by decide) 5 (by decide) (adv 5 (by decide) _ _) rfl) $$ HR HM HO; iintro HM HO
  iapply (rs_stmt D K 0 (by decide) 6 (by decide) (adv 6 (by decide) _ _) rfl) $$ HR HM HO; iintro HM HO
  iapply (rs_stmt D K 0 (by decide) 7 (by decide) (adv 7 (by decide) _ _) rfl) $$ HR HM HO; iintro HM HO
  iapply (fin_stmt (F := F))
  iapply HK $$ HM HO H1

/-- Part 4 of the body. -/
theorem part4_walk {Q : _ → sProp (MT nD τ sig ℕ (Elt F) ℕ UU ℕ)} : records D K ⊢ iprop(M (pr 8 (s0 D 0 c) (s1 D 0 c)) -∗ ow c 24 -∗
    (M (s1 D 0 c) -∗ ow c 32 -∗ Q (k0_pay3 (rowsOf c (D.P 0 c))))
    -∗ wpc c (inst (k0_part4 (F := F)) c (pos c)) Q) := by
  iintro #HR HM HO  HK
  unfold inst
  rw [k0_part4_eq_skeleton]
  unfold k0_part4_skel
  iapply (rs_stmt D K 0 (by decide) 8 (by decide) (adv 8 (by decide) _ _) rfl) $$ HR HM HO; iintro HM HO
  iapply (rs_stmt D K 0 (by decide) 9 (by decide) (adv 9 (by decide) _ _) rfl) $$ HR HM HO; iintro HM HO
  iapply (rs_stmt D K 0 (by decide) 10 (by decide) (adv 10 (by decide) _ _) rfl) $$ HR HM HO; iintro HM HO
  iapply (rs_stmt D K 0 (by decide) 11 (by decide) (adv 11 (by decide) _ _) rfl) $$ HR HM HO; iintro HM HO
  iapply (rs_stmt D K 0 (by decide) 12 (by decide) (adv 12 (by decide) _ _) rfl) $$ HR HM HO; iintro HM HO
  iapply (rs_stmt D K 0 (by decide) 13 (by decide) (adv 13 (by decide) _ _) rfl) $$ HR HM HO; iintro HM HO
  iapply (rs_stmt D K 0 (by decide) 14 (by decide) (adv 14 (by decide) _ _) rfl) $$ HR HM HO; iintro HM HO
  iapply (rs_stmt D K 0 (by decide) 15 (by decide) (adv 15 (by decide) _ _) rfl) $$ HR HM HO; iintro HM HO
  ihave HM := (m_all _ _) $$ HM
  iapply (p_own_ld D 0 (k0_off33_eq c)) $$ HM; iintro HM
  iapply (rs_own_ld D 0 (k0_off34_eq c)) $$ HM; iintro %_ HM
  iapply (fin_stmt (F := F))
  iapply HK $$ HM HO

/-- Part 5 of the body. -/
theorem part5_walk {Q : _ → sProp (MT nD τ sig ℕ (Elt F) ℕ UU ℕ)} : records D K ⊢ iprop(M (s1 D 0 c) -∗ ow c 32 -∗
    (M (pr 9 (s1' D 0 c) (s2 D 0 c)) -∗ ow c 32 -∗ Q (cv c 9))
    -∗ wpc c (inst (k0_part5 (F := F)) c (pos c) (k0_pay3 (rowsOf c (D.P 0 c)))) Q) := by
  iintro #HR HM HO  HK
  unfold inst
  rw [k0_part5_eq_skeleton]
  unfold k0_part5_skel
  iapply (rs_own_st D 0 (k0_off34_eq c) (own3_eq D 0 c)) $$ HM; iintro HM
  ihave HM := (m_zero (s1' D 0 c) (s2 D 0 c)) $$ HM
  iapply (ra_stmt D K 0 (by decide) 0 (by decide) (t := 32) (by decide) (adv 0 (by decide) _ _)) $$ HR HM HO; iintro HM HO
  iapply (ra_stmt D K 0 (by decide) 1 (by decide) (t := 32) (by decide) (adv 1 (by decide) _ _)) $$ HR HM HO; iintro HM HO
  iapply (ra_stmt D K 0 (by decide) 2 (by decide) (t := 32) (by decide) (adv 2 (by decide) _ _)) $$ HR HM HO; iintro HM HO
  iapply (ra_stmt D K 0 (by decide) 3 (by decide) (t := 32) (by decide) (adv 3 (by decide) _ _)) $$ HR HM HO; iintro HM HO
  iapply (ra_stmt D K 0 (by decide) 4 (by decide) (t := 32) (by decide) (adv 4 (by decide) _ _)) $$ HR HM HO; iintro HM HO
  iapply (ra_stmt D K 0 (by decide) 5 (by decide) (t := 32) (by decide) (adv 5 (by decide) _ _)) $$ HR HM HO; iintro HM HO
  iapply (ra_stmt D K 0 (by decide) 6 (by decide) (t := 32) (by decide) (adv 6 (by decide) _ _)) $$ HR HM HO; iintro HM HO
  iapply (ra_stmt D K 0 (by decide) 7 (by decide) (t := 32) (by decide) (adv 7 (by decide) _ _)) $$ HR HM HO; iintro HM HO
  iapply (ra_stmt D K 0 (by decide) 8 (by decide) (t := 32) (by decide) (adv 8 (by decide) _ _)) $$ HR HM HO; iintro HM HO
  iapply (fin_stmt (F := F))
  iapply HK $$ HM HO

/-- Part 6 of the body. -/
theorem part6_walk (hG : Good D I c G) {Q : _ → sProp (MT nD τ sig ℕ (Elt F) ℕ UU ℕ)} : records D K ⊢ iprop(M (pr 9 (s1' D 0 c) (s2 D 0 c)) -∗ ow c 32 -∗ newR (F := F) 0 c -∗
    (M (s2' D 0 c) -∗ ow c 32 -∗ finR D 0 c -∗ Q ⟨⟩)
    -∗ wpc c (inst (k0_part6 (F := F)) (pos c) (cv c 9)) Q) := by
  iintro #HR HM HO HN0 HK
  unfold inst
  rw [k0_part6_eq_skeleton]
  unfold k0_part6_skel
  iapply (ra_stmt D K 0 (by decide) 9 (by decide) (t := 32) (by decide) (adv 9 (by decide) _ _)) $$ HR HM HO; iintro HM HO
  iapply (ra_stmt D K 0 (by decide) 10 (by decide) (t := 32) (by decide) (adv 10 (by decide) _ _)) $$ HR HM HO; iintro HM HO
  iapply (ra_stmt D K 0 (by decide) 11 (by decide) (t := 32) (by decide) (adv 11 (by decide) _ _)) $$ HR HM HO; iintro HM HO
  iapply (ra_stmt D K 0 (by decide) 12 (by decide) (t := 32) (by decide) (adv 12 (by decide) _ _)) $$ HR HM HO; iintro HM HO
  iapply (ra_stmt D K 0 (by decide) 13 (by decide) (t := 32) (by decide) (adv 13 (by decide) _ _)) $$ HR HM HO; iintro HM HO
  iapply (ra_stmt D K 0 (by decide) 14 (by decide) (t := 32) (by decide) (adv 14 (by decide) _ _)) $$ HR HM HO; iintro HM HO
  iapply (ra_stmt D K 0 (by decide) 15 (by decide) (t := 32) (by decide) (adv 15 (by decide) _ _)) $$ HR HM HO; iintro HM HO
  ihave HM := (m_all _ _) $$ HM
  iapply (rs_all_ld D 0 zz3) $$ HM; iintro HM
  iapply (r_ld 0 par0) $$ HN0; iintro %v HN0
  iapply (r_st D 0 par0 hG.r4) $$ HN0; iintro HF
  iapply (fin_stmt (F := F))
  iapply HK $$ HM HO HF

/-- Part 7 of the body. -/
theorem part7_walk {Q : _ → sProp (MT nD τ sig ℕ (Elt F) ℕ UU ℕ)} : records D K ⊢ iprop(M (s2' D 0 c) -∗ ow c 32 -∗
    (M (pr 10 (s2' D 0 c) (s3 D 0 c)) -∗ ow c 32 -∗ Q ⟨⟩)
    -∗ wpc c (inst (k0_part7 (F := F)) c (pos c)) Q) := by
  iintro #HR HM HO  HK
  unfold inst
  rw [k0_part7_eq_skeleton]
  unfold k0_part7_skel
  ihave HM := (m_zero (s2' D 0 c) (s3 D 0 c)) $$ HM
  iapply (sa_stmt D K 0 (by decide) 0 (by decide) (adv 0 (by decide) _ _)) $$ HR HM HO; iintro HM HO
  iapply (sa_stmt D K 0 (by decide) 1 (by decide) (adv 1 (by decide) _ _)) $$ HR HM HO; iintro HM HO
  iapply (sa_stmt D K 0 (by decide) 2 (by decide) (adv 2 (by decide) _ _)) $$ HR HM HO; iintro HM HO
  iapply (sa_stmt D K 0 (by decide) 3 (by decide) (adv 3 (by decide) _ _)) $$ HR HM HO; iintro HM HO
  iapply (sa_stmt D K 0 (by decide) 4 (by decide) (adv 4 (by decide) _ _)) $$ HR HM HO; iintro HM HO
  iapply (sa_stmt D K 0 (by decide) 5 (by decide) (adv 5 (by decide) _ _)) $$ HR HM HO; iintro HM HO
  iapply (sa_stmt D K 0 (by decide) 6 (by decide) (adv 6 (by decide) _ _)) $$ HR HM HO; iintro HM HO
  iapply (sa_stmt D K 0 (by decide) 7 (by decide) (adv 7 (by decide) _ _)) $$ HR HM HO; iintro HM HO
  iapply (sa_stmt D K 0 (by decide) 8 (by decide) (adv 8 (by decide) _ _)) $$ HR HM HO; iintro HM HO
  iapply (sa_stmt D K 0 (by decide) 9 (by decide) (adv 9 (by decide) _ _)) $$ HR HM HO; iintro HM HO
  iapply (fin_stmt (F := F))
  iapply HK $$ HM HO

/-- Part 8 of the body. -/
theorem part8_walk {Q : _ → sProp (MT nD τ sig ℕ (Elt F) ℕ UU ℕ)} : records D K ⊢ iprop(M (pr 10 (s2' D 0 c) (s3 D 0 c)) -∗ ow c 32 -∗ finR D 0 c -∗
    (M (pr 4 (s5 D 0 c) (s6 D 0 c)) -∗ ow c 36 -∗ dropR D 0 c -∗ Q ⟨⟩)
    -∗ wpc c (inst (k0_part8 (F := F)) c (pos c)) Q) := by
  iintro #HR HM HO HF HK
  unfold inst
  rw [k0_part8_eq_skeleton]
  unfold k0_part8_skel
  iapply (sa_stmt D K 0 (by decide) 10 (by decide) (adv 10 (by decide) _ _)) $$ HR HM HO; iintro HM HO
  iapply (sa_stmt D K 0 (by decide) 11 (by decide) (adv 11 (by decide) _ _)) $$ HR HM HO; iintro HM HO
  iapply (sa_stmt D K 0 (by decide) 12 (by decide) (adv 12 (by decide) _ _)) $$ HR HM HO; iintro HM HO
  iapply (sa_stmt D K 0 (by decide) 13 (by decide) (adv 13 (by decide) _ _)) $$ HR HM HO; iintro HM HO
  iapply (sa_stmt D K 0 (by decide) 14 (by decide) (adv 14 (by decide) _ _)) $$ HR HM HO; iintro HM HO
  iapply (sa_stmt D K 0 (by decide) 15 (by decide) (adv 15 (by decide) _ _)) $$ HR HM HO; iintro HM HO
  ihave HM := (m_all _ _) $$ HM
  ihave HM := (s3_s4 D c) $$ HM
  ihave ⟨HM, HD⟩ := (open_0 D c) $$ [HM HF]
  · isplitl [HM]; · iexact HM
    iexact HF
  ihave HM := (m_zero (s5 D 0 c) (s6 D 0 c)) $$ HM
  iapply (ag_stmt D K 0 (by decide) 0 (by decide) (adv 0 (by decide) _ _) rfl) $$ HR HM HO; iintro HM HO
  iapply (ag_stmt D K 0 (by decide) 1 (by decide) (adv 1 (by decide) _ _) rfl) $$ HR HM HO; iintro HM HO
  iapply (ag_stmt D K 0 (by decide) 2 (by decide) (adv 2 (by decide) _ _) rfl) $$ HR HM HO; iintro HM HO
  iapply (ag_stmt D K 0 (by decide) 3 (by decide) (adv 3 (by decide) _ _) rfl) $$ HR HM HO; iintro HM HO
  iapply (fin_stmt (F := F))
  iapply HK $$ HM HO HD

/-- Part 9 of the body. -/
theorem part9_walk {Q : _ → sProp (MT nD τ sig ℕ (Elt F) ℕ UU ℕ)} : records D K ⊢ iprop(M (pr 4 (s5 D 0 c) (s6 D 0 c)) -∗ ow c 36 -∗
    (M (pr 14 (s5 D 0 c) (s6 D 0 c)) -∗ ow c 46 -∗ Q ⟨⟩)
    -∗ wpc c (inst (k0_part9 (F := F)) c (pos c)) Q) := by
  iintro #HR HM HO  HK
  unfold inst
  rw [k0_part9_eq_skeleton]
  unfold k0_part9_skel
  iapply (ag_stmt D K 0 (by decide) 4 (by decide) (adv 4 (by decide) _ _) rfl) $$ HR HM HO; iintro HM HO
  iapply (ag_stmt D K 0 (by decide) 5 (by decide) (adv 5 (by decide) _ _) rfl) $$ HR HM HO; iintro HM HO
  iapply (ag_stmt D K 0 (by decide) 6 (by decide) (adv 6 (by decide) _ _) rfl) $$ HR HM HO; iintro HM HO
  iapply (ag_stmt D K 0 (by decide) 7 (by decide) (adv 7 (by decide) _ _) rfl) $$ HR HM HO; iintro HM HO
  iapply (ag_stmt D K 0 (by decide) 8 (by decide) (adv 8 (by decide) _ _) rfl) $$ HR HM HO; iintro HM HO
  iapply (ag_stmt D K 0 (by decide) 9 (by decide) (adv 9 (by decide) _ _) rfl) $$ HR HM HO; iintro HM HO
  iapply (ag_stmt D K 0 (by decide) 10 (by decide) (adv 10 (by decide) _ _) rfl) $$ HR HM HO; iintro HM HO
  iapply (ag_stmt D K 0 (by decide) 11 (by decide) (adv 11 (by decide) _ _) rfl) $$ HR HM HO; iintro HM HO
  iapply (ag_stmt D K 0 (by decide) 12 (by decide) (adv 12 (by decide) _ _) rfl) $$ HR HM HO; iintro HM HO
  iapply (ag_stmt D K 0 (by decide) 13 (by decide) (adv 13 (by decide) _ _) rfl) $$ HR HM HO; iintro HM HO
  iapply (fin_stmt (F := F))
  iapply HK $$ HM HO

/-- Part 10 of the body. -/
theorem part10_walk {Q : _ → sProp (MT nD τ sig ℕ (Elt F) ℕ UU ℕ)} : records D K ⊢ iprop(M (pr 14 (s5 D 0 c) (s6 D 0 c)) -∗ ow c 46 -∗ own (F := F) w2M c I.a2 -∗ own (F := F) w3M c I.a3 -∗
    (M (pr3 0 4 (s6' D 0 c) (s7 D 0 c) (s1 D 1 c)) -∗ ow c 48 -∗ own (F := F) w2M c I.a2 -∗ own (F := F) w3M c I.a3 -∗ Q (k0_pay6 (grpOf 0 (D.H 0)) I.a2 I.a3))
    -∗ wpc c (inst (k0_part10 (F := F)) c (pos c)) Q) := by
  iintro #HR HM HO H2 H3 HK
  unfold inst
  rw [k0_part10_eq_skeleton]
  unfold k0_part10_skel
  iapply (ag_stmt D K 0 (by decide) 14 (by decide) (adv 14 (by decide) _ _) rfl) $$ HR HM HO; iintro HM HO
  iapply (ag_stmt D K 0 (by decide) 15 (by decide) (adv 15 (by decide) _ _) rfl) $$ HR HM HO; iintro HM HO
  ihave HM := (m_all _ _) $$ HM
  iapply (ag_own_rld D 0 par0) $$ HM; iintro HM
  iapply (ag_own_ld D 0 (k0_off33_eq c)) $$ HM; iintro %_ HM
  iapply (ag_own_st D 0 (k0_off33_eq c) (agown5_eq D 0 c)) $$ HM; iintro HM
  ihave HM := (g_zero (s6' D 0 c) (s7 D 0 c) (s1 D 1 c)) $$ HM
  iapply (rb_stmt D K 0 (by decide) 0 (by decide) (t := 48) (by decide) (adv_mid 0 0 (by decide) (by decide) (s6' D 0 c) (s7 D 0 c) (s1 D 1 c))) $$ HR HM HO; iintro HM HO
  iapply (rb_stmt D K 0 (by decide) 1 (by decide) (t := 48) (by decide) (adv_mid 0 1 (by decide) (by decide) (s6' D 0 c) (s7 D 0 c) (s1 D 1 c))) $$ HR HM HO; iintro HM HO
  iapply (rb_stmt D K 0 (by decide) 2 (by decide) (t := 48) (by decide) (adv_mid 0 2 (by decide) (by decide) (s6' D 0 c) (s7 D 0 c) (s1 D 1 c))) $$ HR HM HO; iintro HM HO
  iapply (rb_stmt D K 0 (by decide) 3 (by decide) (t := 48) (by decide) (adv_mid 0 3 (by decide) (by decide) (s6' D 0 c) (s7 D 0 c) (s1 D 1 c))) $$ HR HM HO; iintro HM HO
  iapply (ag_grp_ld' D 0 0 (s1 D 1 c) (a := 0) (b := 4) rfl rfl rfl) $$ HM; iintro HM
  iapply (own_ld w2M I.a2 (rd2 zz2 I.a2)) $$ H2; iintro H2
  iapply (own_ld w3M I.a3 (rd3 zz2 I.a3)) $$ H3; iintro H3
  iapply (fin_stmt (F := F))
  iapply HK $$ HM HO H2 H3

/-- Part 11 of the body. -/
theorem part11_walk (hG : Good D I c G) {Q : _ → sProp (MT nD τ sig ℕ (Elt F) ℕ UU ℕ)} : records D K ⊢ iprop(M (pr3 0 4 (s6' D 0 c) (s7 D 0 c) (s1 D 1 c)) -∗ ow c 48 -∗
    (M (pr3 4 8 (s6' D 0 c) (s7 D 0 c) (s1 D 1 c)) -∗ ow c 52 -∗ Q (grpOf 1 (D.H 0)))
    -∗ wpc c (inst (k0_part11 (F := F)) c (pos c) (k0_pay6 (grpOf 0 (D.H 0)) I.a2 I.a3)) Q) := by
  iintro #HR HM HO  HK
  unfold inst
  rw [k0_part11_eq_skeleton]
  unfold k0_part11_skel
  iapply (p_grp_st' D 0 (by decide) 0 (a := 0) (b := 4) rfl rfl rfl rfl hG.p7 (s1 D 1 c)) $$ HM; iintro HM
  iapply (rs_stmt D K 1 (by decide) 0 (by decide) (adv_low 0 4 (by decide) (by decide) (s6' D 0 c) (s0 D 1 c) (s1 D 1 c)) rfl) $$ HR HM HO; iintro HM HO
  iapply (rs_stmt D K 1 (by decide) 1 (by decide) (adv_low 1 4 (by decide) (by decide) (s6' D 0 c) (s0 D 1 c) (s1 D 1 c)) rfl) $$ HR HM HO; iintro HM HO
  iapply (rs_stmt D K 1 (by decide) 2 (by decide) (adv_low 2 4 (by decide) (by decide) (s6' D 0 c) (s0 D 1 c) (s1 D 1 c)) rfl) $$ HR HM HO; iintro HM HO
  iapply (rs_stmt D K 1 (by decide) 3 (by decide) (adv_low 3 4 (by decide) (by decide) (s6' D 0 c) (s0 D 1 c) (s1 D 1 c)) rfl) $$ HR HM HO; iintro HM HO
  ihave HM := (g_next 4 _ _ (s7 D 0 c) _) $$ HM
  iapply (rb_stmt D K 0 (by decide) 4 (by decide) (t := 52) (by decide) (adv_mid 4 4 (by decide) (by decide) (s6' D 0 c) (s7 D 0 c) (s1 D 1 c))) $$ HR HM HO; iintro HM HO
  iapply (rb_stmt D K 0 (by decide) 5 (by decide) (t := 52) (by decide) (adv_mid 4 5 (by decide) (by decide) (s6' D 0 c) (s7 D 0 c) (s1 D 1 c))) $$ HR HM HO; iintro HM HO
  iapply (rb_stmt D K 0 (by decide) 6 (by decide) (t := 52) (by decide) (adv_mid 4 6 (by decide) (by decide) (s6' D 0 c) (s7 D 0 c) (s1 D 1 c))) $$ HR HM HO; iintro HM HO
  iapply (rb_stmt D K 0 (by decide) 7 (by decide) (t := 52) (by decide) (adv_mid 4 7 (by decide) (by decide) (s6' D 0 c) (s7 D 0 c) (s1 D 1 c))) $$ HR HM HO; iintro HM HO
  iapply (ag_grp_ld' D 0 1 (s1 D 1 c) (a := 4) (b := 8) rfl rfl rfl) $$ HM; iintro HM
  iapply (fin_stmt (F := F))
  iapply HK $$ HM HO

/-- Part 12 of the body. -/
theorem part12_walk (hG : Good D I c G) {Q : _ → sProp (MT nD τ sig ℕ (Elt F) ℕ UU ℕ)} : records D K ⊢ iprop(M (pr3 4 8 (s6' D 0 c) (s7 D 0 c) (s1 D 1 c)) -∗ ow c 52 -∗ own (F := F) w2M c I.a2 -∗ own (F := F) w3M c I.a3 -∗
    (M (pr3 8 11 (s6' D 0 c) (s7 D 0 c) (s1 D 1 c)) -∗ ow c 56 -∗ own (F := F) w2M c I.a2 -∗ own (F := F) w3M c I.a3 -∗ Q ⟨⟩)
    -∗ wpc c (inst (k0_part12 (F := F)) c (pos c) (grpOf 1 (D.H 0))) Q) := by
  iintro #HR HM HO H2 H3 HK
  unfold inst
  rw [k0_part12_eq_skeleton]
  unfold k0_part12_skel
  iapply (own_ld w2M I.a2 (rd2 zz2 I.a2)) $$ H2; iintro H2
  iapply (own_ld w3M I.a3 (rd3 zz2 I.a3)) $$ H3; iintro H3
  iapply (p_grp_st' D 0 (by decide) 1 (a := 4) (b := 8) rfl rfl rfl rfl hG.p8' (s1 D 1 c)) $$ HM; iintro HM
  iapply (rs_stmt D K 1 (by decide) 4 (by decide) (adv_low 4 8 (by decide) (by decide) (s6' D 0 c) (s0 D 1 c) (s1 D 1 c)) rfl) $$ HR HM HO; iintro HM HO
  iapply (rs_stmt D K 1 (by decide) 5 (by decide) (adv_low 5 8 (by decide) (by decide) (s6' D 0 c) (s0 D 1 c) (s1 D 1 c)) rfl) $$ HR HM HO; iintro HM HO
  iapply (rs_stmt D K 1 (by decide) 6 (by decide) (adv_low 6 8 (by decide) (by decide) (s6' D 0 c) (s0 D 1 c) (s1 D 1 c)) rfl) $$ HR HM HO; iintro HM HO
  iapply (rs_stmt D K 1 (by decide) 7 (by decide) (adv_low 7 8 (by decide) (by decide) (s6' D 0 c) (s0 D 1 c) (s1 D 1 c)) rfl) $$ HR HM HO; iintro HM HO
  ihave HM := (g_next 8 _ _ (s7 D 0 c) _) $$ HM
  iapply (rb_stmt D K 0 (by decide) 8 (by decide) (t := 56) (by decide) (adv_mid 8 8 (by decide) (by decide) (s6' D 0 c) (s7 D 0 c) (s1 D 1 c))) $$ HR HM HO; iintro HM HO
  iapply (rb_stmt D K 0 (by decide) 9 (by decide) (t := 56) (by decide) (adv_mid 8 9 (by decide) (by decide) (s6' D 0 c) (s7 D 0 c) (s1 D 1 c))) $$ HR HM HO; iintro HM HO
  iapply (rb_stmt D K 0 (by decide) 10 (by decide) (t := 56) (by decide) (adv_mid 8 10 (by decide) (by decide) (s6' D 0 c) (s7 D 0 c) (s1 D 1 c))) $$ HR HM HO; iintro HM HO
  iapply (fin_stmt (F := F))
  iapply HK $$ HM HO H2 H3

/-- Part 13 of the body. -/
theorem part13_walk (hG : Good D I c G) {Q : _ → sProp (MT nD τ sig ℕ (Elt F) ℕ UU ℕ)} : records D K ⊢ iprop(M (pr3 8 11 (s6' D 0 c) (s7 D 0 c) (s1 D 1 c)) -∗ ow c 56 -∗ own (F := F) w2M c I.a2 -∗ own (F := F) w3M c I.a3 -∗
    (M (pr3 12 13 (s6' D 0 c) (s7 D 0 c) (s1 D 1 c)) -∗ ow c 60 -∗ own (F := F) w2M c I.a2 -∗ own (F := F) w3M c I.a3 -∗ Q (13#32))
    -∗ wpc c (inst (k0_part13 (F := F)) c (pos c)) Q) := by
  iintro #HR HM HO H2 H3 HK
  unfold inst
  rw [k0_part13_eq_skeleton]
  unfold k0_part13_skel
  iapply (rb_stmt D K 0 (by decide) 11 (by decide) (t := 56) (by decide) (adv_mid 8 11 (by decide) (by decide) (s6' D 0 c) (s7 D 0 c) (s1 D 1 c))) $$ HR HM HO; iintro HM HO
  iapply (ag_grp_ld' D 0 2 (s1 D 1 c) (a := 8) (b := 12) rfl rfl rfl) $$ HM; iintro HM
  iapply (own_ld w2M I.a2 (rd2 zz2 I.a2)) $$ H2; iintro H2
  iapply (own_ld w3M I.a3 (rd3 zz2 I.a3)) $$ H3; iintro H3
  iapply (p_grp_st' D 0 (by decide) 2 (a := 8) (b := 12) rfl rfl rfl rfl hG.p9 (s1 D 1 c)) $$ HM; iintro HM
  iapply (rs_stmt D K 1 (by decide) 8 (by decide) (adv_low 8 12 (by decide) (by decide) (s6' D 0 c) (s0 D 1 c) (s1 D 1 c)) rfl) $$ HR HM HO; iintro HM HO
  iapply (rs_stmt D K 1 (by decide) 9 (by decide) (adv_low 9 12 (by decide) (by decide) (s6' D 0 c) (s0 D 1 c) (s1 D 1 c)) rfl) $$ HR HM HO; iintro HM HO
  iapply (rs_stmt D K 1 (by decide) 10 (by decide) (adv_low 10 12 (by decide) (by decide) (s6' D 0 c) (s0 D 1 c) (s1 D 1 c)) rfl) $$ HR HM HO; iintro HM HO
  iapply (rs_stmt D K 1 (by decide) 11 (by decide) (adv_low 11 12 (by decide) (by decide) (s6' D 0 c) (s0 D 1 c) (s1 D 1 c)) rfl) $$ HR HM HO; iintro HM HO
  ihave HM := (g_next 12 _ _ (s7 D 0 c) _) $$ HM
  iapply (rb_stmt D K 0 (by decide) 12 (by decide) (t := 60) (by decide) (adv_mid 12 12 (by decide) (by decide) (s6' D 0 c) (s7 D 0 c) (s1 D 1 c))) $$ HR HM HO; iintro HM HO
  iapply (fin_stmt (F := F))
  iapply HK $$ HM HO H2 H3

/-- Part 14 of the body. -/
theorem part14_walk (hG : Good D I c G) {Q : _ → sProp (MT nD τ sig ℕ (Elt F) ℕ UU ℕ)} : records D K ⊢ iprop(M (pr3 12 13 (s6' D 0 c) (s7 D 0 c) (s1 D 1 c)) -∗ ow c 60 -∗ own (F := F) w2M c I.a2 -∗ own (F := F) w3M c I.a3 -∗
    (M (pr3 15 16 (s6' D 0 c) (s0 D 1 c) (s1 D 1 c)) -∗ ow c 63 -∗ own (F := F) w2M c I.a2 -∗ own (F := F) w3M c I.a3 -∗ Q (Scalar.cmpi .ne (pos c) 15#32))
    -∗ wpc c (inst (k0_part14 (F := F)) c (pos c) 13#32) Q) := by
  iintro #HR HM HO H2 H3 HK
  unfold inst
  rw [k0_part14_eq_skeleton]
  unfold k0_part14_skel
  iapply (rb_stmt D K 0 (by decide) 13 (by decide) (t := 60) (by decide) (adv_mid 12 13 (by decide) (by decide) (s6' D 0 c) (s7 D 0 c) (s1 D 1 c))) $$ HR HM HO; iintro HM HO
  iapply (rb_stmt D K 0 (by decide) 14 (by decide) (t := 60) (by decide) (adv_mid 12 14 (by decide) (by decide) (s6' D 0 c) (s7 D 0 c) (s1 D 1 c))) $$ HR HM HO; iintro HM HO
  iapply (rb_stmt D K 0 (by decide) 15 (by decide) (t := 60) (by decide) (adv_mid 12 15 (by decide) (by decide) (s6' D 0 c) (s7 D 0 c) (s1 D 1 c))) $$ HR HM HO; iintro HM HO
  iapply (ag_grp_ld' D 0 3 (s1 D 1 c) (a := 12) (b := 16) rfl rfl rfl) $$ HM; iintro HM
  iapply (own_ld w2M I.a2 (rd2 zz2 I.a2)) $$ H2; iintro H2
  iapply (own_ld w3M I.a3 (rd3 zz2 I.a3)) $$ H3; iintro H3
  iapply (p_grp_st' D 0 (by decide) 3 (a := 12) (b := 16) rfl rfl rfl rfl hG.p10 (s1 D 1 c)) $$ HM; iintro HM
  iapply (rs_stmt D K 1 (by decide) 12 (by decide) (adv_low 12 16 (by decide) (by decide) (s6' D 0 c) (s0 D 1 c) (s1 D 1 c)) rfl) $$ HR HM HO; iintro HM HO
  iapply (rs_stmt D K 1 (by decide) 13 (by decide) (adv_low 13 16 (by decide) (by decide) (s6' D 0 c) (s0 D 1 c) (s1 D 1 c)) rfl) $$ HR HM HO; iintro HM HO
  iapply (rs_stmt D K 1 (by decide) 14 (by decide) (adv_low 14 16 (by decide) (by decide) (s6' D 0 c) (s0 D 1 c) (s1 D 1 c)) rfl) $$ HR HM HO; iintro HM HO
  iapply (fin_stmt (F := F))
  iapply HK $$ HM HO H2 H3

end Cert.KernelIdeal.Mlp

end
-- ==== Proof.KernelIdeal.Body2.lean ====
/-
# The walk of the body: the second layer
-/
module

public import proofs.«01_k».proof.Proof.KernelIdeal.Body0

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

attribute [local irreducible] wp

variable (D : Data F) (K : Dev nD × CI → ℕ) {c : Dev nD} {I : Ins F} {G : M512x256 F .f32} {fa : M512x256 F .bf16}

/-- Part 15 of the body. -/
theorem part15_walk {Q : _ → sProp (MT nD τ sig ℕ (Elt F) ℕ UU ℕ)} : records D K ⊢ iprop(M (pr3 15 16 (s6' D 0 c) (s0 D 1 c) (s1 D 1 c)) -∗ ow c 63 -∗
    (M (pr 7 (s1' D 1 c) (s2 D 1 c)) -∗ ow c 64 -∗ Q (7#32))
    -∗ wpc c (inst (k0_part15 (F := F)) c (pos c) (Scalar.cmpi .ne (pos c) 15#32)) Q) := by
  iintro #HR HM HO  HK
  unfold inst
  rw [k0_part15_eq_skeleton]
  unfold k0_part15_skel
  iapply (rs_stmt D K 1 (by decide) 15 (by decide) (adv_low 15 16 (by decide) (by decide) (s6' D 0 c) (s0 D 1 c) (s1 D 1 c)) rfl) $$ HR HM HO; iintro HM HO
  ihave HM := (g_all _ _ _) $$ HM
  iapply (p_own_ld D 1 (k0_off33_eq c)) $$ HM; iintro HM
  iapply (rs_own_ld D 1 (k0_off34_eq c)) $$ HM; iintro %_ HM
  iapply (rs_own_st D 1 (k0_off34_eq c) (own11_eq D 1 c)) $$ HM; iintro HM
  ihave HM := (m_zero (s1' D 1 c) (s2 D 1 c)) $$ HM
  iapply (ra_stmt D K 1 (by decide) 0 (by decide) (t := 64) (by decide) (adv 0 (by decide) _ _)) $$ HR HM HO; iintro HM HO
  iapply (ra_stmt D K 1 (by decide) 1 (by decide) (t := 64) (by decide) (adv 1 (by decide) _ _)) $$ HR HM HO; iintro HM HO
  iapply (ra_stmt D K 1 (by decide) 2 (by decide) (t := 64) (by decide) (adv 2 (by decide) _ _)) $$ HR HM HO; iintro HM HO
  iapply (ra_stmt D K 1 (by decide) 3 (by decide) (t := 64) (by decide) (adv 3 (by decide) _ _)) $$ HR HM HO; iintro HM HO
  iapply (ra_stmt D K 1 (by decide) 4 (by decide) (t := 64) (by decide) (adv 4 (by decide) _ _)) $$ HR HM HO; iintro HM HO
  iapply (ra_stmt D K 1 (by decide) 5 (by decide) (t := 64) (by decide) (adv 5 (by decide) _ _)) $$ HR HM HO; iintro HM HO
  iapply (ra_stmt D K 1 (by decide) 6 (by decide) (t := 64) (by decide) (adv 6 (by decide) _ _)) $$ HR HM HO; iintro HM HO
  iapply (fin_stmt (F := F))
  iapply HK $$ HM HO

/-- Part 16 of the body. -/
theorem part16_walk {Q : _ → sProp (MT nD τ sig ℕ (Elt F) ℕ UU ℕ)} : records D K ⊢ iprop(M (pr 7 (s1' D 1 c) (s2 D 1 c)) -∗ ow c 64 -∗
    (M (s2' D 1 c) -∗ ow c 64 -∗ Q (k0_pay12 (RS D 1 c)))
    -∗ wpc c (inst (k0_part16 (F := F)) (pos c) 7#32) Q) := by
  iintro #HR HM HO  HK
  unfold inst
  rw [k0_part16_eq_skeleton]
  unfold k0_part16_skel
  iapply (ra_stmt D K 1 (by decide) 7 (by decide) (t := 64) (by decide) (adv 7 (by decide) _ _)) $$ HR HM HO; iintro HM HO
  iapply (ra_stmt D K 1 (by decide) 8 (by decide) (t := 64) (by decide) (adv 8 (by decide) _ _)) $$ HR HM HO; iintro HM HO
  iapply (ra_stmt D K 1 (by decide) 9 (by decide) (t := 64) (by decide) (adv 9 (by decide) _ _)) $$ HR HM HO; iintro HM HO
  iapply (ra_stmt D K 1 (by decide) 10 (by decide) (t := 64) (by decide) (adv 10 (by decide) _ _)) $$ HR HM HO; iintro HM HO
  iapply (ra_stmt D K 1 (by decide) 11 (by decide) (t := 64) (by decide) (adv 11 (by decide) _ _)) $$ HR HM HO; iintro HM HO
  iapply (ra_stmt D K 1 (by decide) 12 (by decide) (t := 64) (by decide) (adv 12 (by decide) _ _)) $$ HR HM HO; iintro HM HO
  iapply (ra_stmt D K 1 (by decide) 13 (by decide) (t := 64) (by decide) (adv 13 (by decide) _ _)) $$ HR HM HO; iintro HM HO
  iapply (ra_stmt D K 1 (by decide) 14 (by decide) (t := 64) (by decide) (adv 14 (by decide) _ _)) $$ HR HM HO; iintro HM HO
  iapply (ra_stmt D K 1 (by decide) 15 (by decide) (t := 64) (by decide) (adv 15 (by decide) _ _)) $$ HR HM HO; iintro HM HO
  ihave HM := (m_all _ _) $$ HM
  iapply (rs_all_ld D 1 zz3) $$ HM; iintro HM
  iapply (fin_stmt (F := F))
  iapply HK $$ HM HO

/-- Part 17 of the body. -/
theorem part17_walk (hG : Good D I c G) {Q : _ → sProp (MT nD τ sig ℕ (Elt F) ℕ UU ℕ)} : records D K ⊢ iprop(M (s2' D 1 c) -∗ ow c 64 -∗ newR (F := F) 1 c -∗
    (M (pr 8 (s2' D 1 c) (s3 D 1 c)) -∗ ow c 64 -∗ finR D 1 c -∗ Q (8#32))
    -∗ wpc c (inst (k0_part17 (F := F)) c (pos c) (k0_pay12 (RS D 1 c))) Q) := by
  iintro #HR HM HO HN1 HK
  unfold inst
  rw [k0_part17_eq_skeleton]
  unfold k0_part17_skel
  iapply (r_ld 1 par1) $$ HN1; iintro %v HN1
  iapply (r_st D 1 par1 hG.r13) $$ HN1; iintro HF
  ihave HM := (m_zero (s2' D 1 c) (s3 D 1 c)) $$ HM
  iapply (sa_stmt D K 1 (by decide) 0 (by decide) (adv 0 (by decide) _ _)) $$ HR HM HO; iintro HM HO
  iapply (sa_stmt D K 1 (by decide) 1 (by decide) (adv 1 (by decide) _ _)) $$ HR HM HO; iintro HM HO
  iapply (sa_stmt D K 1 (by decide) 2 (by decide) (adv 2 (by decide) _ _)) $$ HR HM HO; iintro HM HO
  iapply (sa_stmt D K 1 (by decide) 3 (by decide) (adv 3 (by decide) _ _)) $$ HR HM HO; iintro HM HO
  iapply (sa_stmt D K 1 (by decide) 4 (by decide) (adv 4 (by decide) _ _)) $$ HR HM HO; iintro HM HO
  iapply (sa_stmt D K 1 (by decide) 5 (by decide) (adv 5 (by decide) _ _)) $$ HR HM HO; iintro HM HO
  iapply (sa_stmt D K 1 (by decide) 6 (by decide) (adv 6 (by decide) _ _)) $$ HR HM HO; iintro HM HO
  iapply (sa_stmt D K 1 (by decide) 7 (by decide) (adv 7 (by decide) _ _)) $$ HR HM HO; iintro HM HO
  iapply (fin_stmt (F := F))
  iapply HK $$ HM HO HF

/-- Part 18 of the body. -/
theorem part18_walk {Q : _ → sProp (MT nD τ sig ℕ (Elt F) ℕ UU ℕ)} : records D K ⊢ iprop(M (pr 8 (s2' D 1 c) (s3 D 1 c)) -∗ ow c 64 -∗
    (M (pr 2 (s3 D 1 c) (s4 D 1 c)) -∗ ow c 64 -∗ Q (2#32))
    -∗ wpc c (inst (k0_part18 (F := F)) c (pos c) 8#32) Q) := by
  iintro #HR HM HO  HK
  unfold inst
  rw [k0_part18_eq_skeleton]
  unfold k0_part18_skel
  iapply (sa_stmt D K 1 (by decide) 8 (by decide) (adv 8 (by decide) _ _)) $$ HR HM HO; iintro HM HO
  iapply (sa_stmt D K 1 (by decide) 9 (by decide) (adv 9 (by decide) _ _)) $$ HR HM HO; iintro HM HO
  iapply (sa_stmt D K 1 (by decide) 10 (by decide) (adv 10 (by decide) _ _)) $$ HR HM HO; iintro HM HO
  iapply (sa_stmt D K 1 (by decide) 11 (by decide) (adv 11 (by decide) _ _)) $$ HR HM HO; iintro HM HO
  iapply (sa_stmt D K 1 (by decide) 12 (by decide) (adv 12 (by decide) _ _)) $$ HR HM HO; iintro HM HO
  iapply (sa_stmt D K 1 (by decide) 13 (by decide) (adv 13 (by decide) _ _)) $$ HR HM HO; iintro HM HO
  iapply (sa_stmt D K 1 (by decide) 14 (by decide) (adv 14 (by decide) _ _)) $$ HR HM HO; iintro HM HO
  iapply (sa_stmt D K 1 (by decide) 15 (by decide) (adv 15 (by decide) _ _)) $$ HR HM HO; iintro HM HO
  ihave HM := (m_all _ _) $$ HM
  ihave HM := (m_zero (s3 D 1 c) (s4 D 1 c)) $$ HM
  iapply (sb_stmt D K 0 (by decide) 0 (by decide) (adv 0 (by decide) _ _)) $$ HR HM HO; iintro HM HO
  iapply (sb_stmt D K 0 (by decide) 1 (by decide) (adv 1 (by decide) _ _)) $$ HR HM HO; iintro HM HO
  iapply (fin_stmt (F := F))
  iapply HK $$ HM HO

/-- Part 19 of the body. -/
theorem part19_walk {Q : _ → sProp (MT nD τ sig ℕ (Elt F) ℕ UU ℕ)} : records D K ⊢ iprop(M (pr 2 (s3 D 1 c) (s4 D 1 c)) -∗ ow c 64 -∗
    (M (pr 12 (s3 D 1 c) (s4 D 1 c)) -∗ ow c 64 -∗ Q (12#32))
    -∗ wpc c (inst (k0_part19 (F := F)) c (pos c) 2#32) Q) := by
  iintro #HR HM HO  HK
  unfold inst
  rw [k0_part19_eq_skeleton]
  unfold k0_part19_skel
  iapply (sb_stmt D K 0 (by decide) 2 (by decide) (adv 2 (by decide) _ _)) $$ HR HM HO; iintro HM HO
  iapply (sb_stmt D K 0 (by decide) 3 (by decide) (adv 3 (by decide) _ _)) $$ HR HM HO; iintro HM HO
  iapply (sb_stmt D K 0 (by decide) 4 (by decide) (adv 4 (by decide) _ _)) $$ HR HM HO; iintro HM HO
  iapply (sb_stmt D K 0 (by decide) 5 (by decide) (adv 5 (by decide) _ _)) $$ HR HM HO; iintro HM HO
  iapply (sb_stmt D K 0 (by decide) 6 (by decide) (adv 6 (by decide) _ _)) $$ HR HM HO; iintro HM HO
  iapply (sb_stmt D K 0 (by decide) 7 (by decide) (adv 7 (by decide) _ _)) $$ HR HM HO; iintro HM HO
  iapply (sb_stmt D K 0 (by decide) 8 (by decide) (adv 8 (by decide) _ _)) $$ HR HM HO; iintro HM HO
  iapply (sb_stmt D K 0 (by decide) 9 (by decide) (adv 9 (by decide) _ _)) $$ HR HM HO; iintro HM HO
  iapply (sb_stmt D K 0 (by decide) 10 (by decide) (adv 10 (by decide) _ _)) $$ HR HM HO; iintro HM HO
  iapply (sb_stmt D K 0 (by decide) 11 (by decide) (adv 11 (by decide) _ _)) $$ HR HM HO; iintro HM HO
  iapply (fin_stmt (F := F))
  iapply HK $$ HM HO

/-- Part 20 of the body. -/
theorem part20_walk {Q : _ → sProp (MT nD τ sig ℕ (Elt F) ℕ UU ℕ)} : records D K ⊢ iprop(M (pr 12 (s3 D 1 c) (s4 D 1 c)) -∗ ow c 64 -∗ finR D 1 c -∗ dropR D 0 c -∗
    (M (pr 6 (s5 D 1 c) (s6 D 1 c)) -∗ ow c 70 -∗ newR (F := F) 2 c -∗ dropR D 1 c -∗ Q (6#32))
    -∗ wpc c (inst (k0_part20 (F := F)) c (pos c) 12#32) Q) := by
  iintro #HR HM HO HF HD HK
  unfold inst
  rw [k0_part20_eq_skeleton]
  unfold k0_part20_skel
  iapply (sb_stmt D K 0 (by decide) 12 (by decide) (adv 12 (by decide) _ _)) $$ HR HM HO; iintro HM HO
  iapply (sb_stmt D K 0 (by decide) 13 (by decide) (adv 13 (by decide) _ _)) $$ HR HM HO; iintro HM HO
  iapply (sb_stmt D K 0 (by decide) 14 (by decide) (adv 14 (by decide) _ _)) $$ HR HM HO; iintro HM HO
  iapply (sb_stmt D K 0 (by decide) 15 (by decide) (adv 15 (by decide) _ _)) $$ HR HM HO; iintro HM HO
  ihave HM := (m_all _ _) $$ HM
  ihave ⟨HM, HD, HN2⟩ := (open_succ D 0 c) $$ [HM HF HD]
  · isplitl [HM]; · iexact HM
    isplitl [HF]; · iexact HF
    iexact HD
  ihave HM := (m_zero (s5 D 1 c) (s6 D 1 c)) $$ HM
  iapply (ag_stmt D K 1 (by decide) 0 (by decide) (adv 0 (by decide) _ _) rfl) $$ HR HM HO; iintro HM HO
  iapply (ag_stmt D K 1 (by decide) 1 (by decide) (adv 1 (by decide) _ _) rfl) $$ HR HM HO; iintro HM HO
  iapply (ag_stmt D K 1 (by decide) 2 (by decide) (adv 2 (by decide) _ _) rfl) $$ HR HM HO; iintro HM HO
  iapply (ag_stmt D K 1 (by decide) 3 (by decide) (adv 3 (by decide) _ _) rfl) $$ HR HM HO; iintro HM HO
  iapply (ag_stmt D K 1 (by decide) 4 (by decide) (adv 4 (by decide) _ _) rfl) $$ HR HM HO; iintro HM HO
  iapply (ag_stmt D K 1 (by decide) 5 (by decide) (adv 5 (by decide) _ _) rfl) $$ HR HM HO; iintro HM HO
  iapply (fin_stmt (F := F))
  iapply HK $$ HM HO HN2 HD

/-- Part 21 of the body. -/
theorem part21_walk {Q : _ → sProp (MT nD τ sig ℕ (Elt F) ℕ UU ℕ)} : records D K ⊢ iprop(M (pr 6 (s5 D 1 c) (s6 D 1 c)) -∗ ow c 70 -∗
    (M (s6 D 1 c) -∗ ow c 80 -∗ Q ⟨⟩)
    -∗ wpc c (inst (k0_part21 (F := F)) c (pos c) 6#32) Q) := by
  iintro #HR HM HO  HK
  unfold inst
  rw [k0_part21_eq_skeleton]
  unfold k0_part21_skel
  iapply (ag_stmt D K 1 (by decide) 6 (by decide) (adv 6 (by decide) _ _) rfl) $$ HR HM HO; iintro HM HO
  iapply (ag_stmt D K 1 (by decide) 7 (by decide) (adv 7 (by decide) _ _) rfl) $$ HR HM HO; iintro HM HO
  iapply (ag_stmt D K 1 (by decide) 8 (by decide) (adv 8 (by decide) _ _) rfl) $$ HR HM HO; iintro HM HO
  iapply (ag_stmt D K 1 (by decide) 9 (by decide) (adv 9 (by decide) _ _) rfl) $$ HR HM HO; iintro HM HO
  iapply (ag_stmt D K 1 (by decide) 10 (by decide) (adv 10 (by decide) _ _) rfl) $$ HR HM HO; iintro HM HO
  iapply (ag_stmt D K 1 (by decide) 11 (by decide) (adv 11 (by decide) _ _) rfl) $$ HR HM HO; iintro HM HO
  iapply (ag_stmt D K 1 (by decide) 12 (by decide) (adv 12 (by decide) _ _) rfl) $$ HR HM HO; iintro HM HO
  iapply (ag_stmt D K 1 (by decide) 13 (by decide) (adv 13 (by decide) _ _) rfl) $$ HR HM HO; iintro HM HO
  iapply (ag_stmt D K 1 (by decide) 14 (by decide) (adv 14 (by decide) _ _) rfl) $$ HR HM HO; iintro HM HO
  iapply (ag_stmt D K 1 (by decide) 15 (by decide) (adv 15 (by decide) _ _) rfl) $$ HR HM HO; iintro HM HO
  ihave HM := (m_all _ _) $$ HM
  iapply (fin_stmt (F := F))
  iapply HK $$ HM HO

/-- Part 22 of the body. -/
theorem part22_walk (hG : Good D I c G) {Q : _ → sProp (MT nD τ sig ℕ (Elt F) ℕ UU ℕ)} : records D K ⊢ iprop(M (s6 D 1 c) -∗ ow c 80 -∗ own (F := F) w4M c I.a4 -∗ own (F := F) w5M c I.a5 -∗
    (M (pr3 0 4 (s6' D 1 c) (s0 D 2 c) (s1 D 2 c)) -∗ ow c 80 -∗ own (F := F) w4M c I.a4 -∗ own (F := F) w5M c I.a5 -∗ Q (0#32))
    -∗ wpc c (inst (k0_part22 (F := F)) c (pos c)) Q) := by
  iintro #HR HM HO H4 H5 HK
  unfold inst
  rw [k0_part22_eq_skeleton]
  unfold k0_part22_skel
  iapply (ag_own_rld D 1 par1) $$ HM; iintro HM
  iapply (ag_own_ld D 1 (k0_off33_eq c)) $$ HM; iintro %_ HM
  iapply (ag_own_st D 1 (k0_off33_eq c) (agown14_eq D 1 c)) $$ HM; iintro HM
  ihave HM := (g_zero (s6' D 1 c) (s7 D 1 c) (s1 D 2 c)) $$ HM
  iapply (rb_stmt D K 1 (by decide) 0 (by decide) (t := 80) (by decide) (adv_mid 0 0 (by decide) (by decide) (s6' D 1 c) (s7 D 1 c) (s1 D 2 c))) $$ HR HM HO; iintro HM HO
  iapply (rb_stmt D K 1 (by decide) 1 (by decide) (t := 80) (by decide) (adv_mid 0 1 (by decide) (by decide) (s6' D 1 c) (s7 D 1 c) (s1 D 2 c))) $$ HR HM HO; iintro HM HO
  iapply (rb_stmt D K 1 (by decide) 2 (by decide) (t := 80) (by decide) (adv_mid 0 2 (by decide) (by decide) (s6' D 1 c) (s7 D 1 c) (s1 D 2 c))) $$ HR HM HO; iintro HM HO
  iapply (rb_stmt D K 1 (by decide) 3 (by decide) (t := 80) (by decide) (adv_mid 0 3 (by decide) (by decide) (s6' D 1 c) (s7 D 1 c) (s1 D 2 c))) $$ HR HM HO; iintro HM HO
  iapply (ag_grp_ld' D 1 0 (s1 D 2 c) (a := 0) (b := 4) rfl rfl rfl) $$ HM; iintro HM
  iapply (own_ld w4M I.a4 (rd4 zz2 I.a4)) $$ H4; iintro H4
  iapply (own_ld w5M I.a5 (rd5 zz2 I.a5)) $$ H5; iintro H5
  iapply (p_grp_st' D 1 (by decide) 0 (a := 0) (b := 4) rfl rfl rfl rfl hG.p15' (s1 D 2 c)) $$ HM; iintro HM
  iapply (fin_stmt (F := F))
  iapply HK $$ HM HO H4 H5

/-- Part 23 of the body. -/
theorem part23_walk {Q : _ → sProp (MT nD τ sig ℕ (Elt F) ℕ UU ℕ)} : records D K ⊢ iprop(M (pr3 0 4 (s6' D 1 c) (s0 D 2 c) (s1 D 2 c)) -∗ ow c 80 -∗ own (F := F) w4M c I.a4 -∗ own (F := F) w5M c I.a5 -∗
    (M (pr3 4 8 (s6' D 1 c) (s7 D 1 c) (s1 D 2 c)) -∗ ow c 84 -∗ own (F := F) w4M c I.a4 -∗ own (F := F) w5M c I.a5 -∗ Q ⟨k0_pay16 (grpOf 1 (D.H 1)) I.a4, I.a5⟩)
    -∗ wpc c (inst (k0_part23 (F := F)) c (pos c) 0#32) Q) := by
  iintro #HR HM HO H4 H5 HK
  unfold inst
  rw [k0_part23_eq_skeleton]
  unfold k0_part23_skel
  iapply (rs_stmt D K 2 (by decide) 0 (by decide) (adv_low 0 4 (by decide) (by decide) (s6' D 1 c) (s0 D 2 c) (s1 D 2 c)) rfl) $$ HR HM HO; iintro HM HO
  iapply (rs_stmt D K 2 (by decide) 1 (by decide) (adv_low 1 4 (by decide) (by decide) (s6' D 1 c) (s0 D 2 c) (s1 D 2 c)) rfl) $$ HR HM HO; iintro HM HO
  iapply (rs_stmt D K 2 (by decide) 2 (by decide) (adv_low 2 4 (by decide) (by decide) (s6' D 1 c) (s0 D 2 c) (s1 D 2 c)) rfl) $$ HR HM HO; iintro HM HO
  iapply (rs_stmt D K 2 (by decide) 3 (by decide) (adv_low 3 4 (by decide) (by decide) (s6' D 1 c) (s0 D 2 c) (s1 D 2 c)) rfl) $$ HR HM HO; iintro HM HO
  ihave HM := (g_next 4 _ _ (s7 D 1 c) _) $$ HM
  iapply (rb_stmt D K 1 (by decide) 4 (by decide) (t := 84) (by decide) (adv_mid 4 4 (by decide) (by decide) (s6' D 1 c) (s7 D 1 c) (s1 D 2 c))) $$ HR HM HO; iintro HM HO
  iapply (rb_stmt D K 1 (by decide) 5 (by decide) (t := 84) (by decide) (adv_mid 4 5 (by decide) (by decide) (s6' D 1 c) (s7 D 1 c) (s1 D 2 c))) $$ HR HM HO; iintro HM HO
  iapply (rb_stmt D K 1 (by decide) 6 (by decide) (t := 84) (by decide) (adv_mid 4 6 (by decide) (by decide) (s6' D 1 c) (s7 D 1 c) (s1 D 2 c))) $$ HR HM HO; iintro HM HO
  iapply (rb_stmt D K 1 (by decide) 7 (by decide) (t := 84) (by decide) (adv_mid 4 7 (by decide) (by decide) (s6' D 1 c) (s7 D 1 c) (s1 D 2 c))) $$ HR HM HO; iintro HM HO
  iapply (ag_grp_ld' D 1 1 (s1 D 2 c) (a := 4) (b := 8) rfl rfl rfl) $$ HM; iintro HM
  iapply (own_ld w4M I.a4 (rd4 zz2 I.a4)) $$ H4; iintro H4
  iapply (own_ld w5M I.a5 (rd5 zz2 I.a5)) $$ H5; iintro H5
  iapply (fin_stmt (F := F))
  iapply HK $$ HM HO H4 H5

/-- Part 24 of the body. -/
theorem part24_walk (hG : Good D I c G) {Q : _ → sProp (MT nD τ sig ℕ (Elt F) ℕ UU ℕ)} : records D K ⊢ iprop(M (pr3 4 8 (s6' D 1 c) (s7 D 1 c) (s1 D 2 c)) -∗ ow c 84 -∗
    (M (pr3 8 12 (s6' D 1 c) (s7 D 1 c) (s1 D 2 c)) -∗ ow c 88 -∗ Q ⟨⟩)
    -∗ wpc c (inst (k0_part24 (F := F)) c (pos c) (k0_pay16 (grpOf 1 (D.H 1)) I.a4) I.a5) Q) := by
  iintro #HR HM HO  HK
  unfold inst
  rw [k0_part24_eq_skeleton]
  unfold k0_part24_skel
  iapply (p_grp_st' D 1 (by decide) 1 (a := 4) (b := 8) rfl rfl rfl rfl hG.p17 (s1 D 2 c)) $$ HM; iintro HM
  iapply (rs_stmt D K 2 (by decide) 4 (by decide) (adv_low 4 8 (by decide) (by decide) (s6' D 1 c) (s0 D 2 c) (s1 D 2 c)) rfl) $$ HR HM HO; iintro HM HO
  iapply (rs_stmt D K 2 (by decide) 5 (by decide) (adv_low 5 8 (by decide) (by decide) (s6' D 1 c) (s0 D 2 c) (s1 D 2 c)) rfl) $$ HR HM HO; iintro HM HO
  iapply (rs_stmt D K 2 (by decide) 6 (by decide) (adv_low 6 8 (by decide) (by decide) (s6' D 1 c) (s0 D 2 c) (s1 D 2 c)) rfl) $$ HR HM HO; iintro HM HO
  iapply (rs_stmt D K 2 (by decide) 7 (by decide) (adv_low 7 8 (by decide) (by decide) (s6' D 1 c) (s0 D 2 c) (s1 D 2 c)) rfl) $$ HR HM HO; iintro HM HO
  ihave HM := (g_next 8 _ _ (s7 D 1 c) _) $$ HM
  iapply (rb_stmt D K 1 (by decide) 8 (by decide) (t := 88) (by decide) (adv_mid 8 8 (by decide) (by decide) (s6' D 1 c) (s7 D 1 c) (s1 D 2 c))) $$ HR HM HO; iintro HM HO
  iapply (rb_stmt D K 1 (by decide) 9 (by decide) (t := 88) (by decide) (adv_mid 8 9 (by decide) (by decide) (s6' D 1 c) (s7 D 1 c) (s1 D 2 c))) $$ HR HM HO; iintro HM HO
  iapply (rb_stmt D K 1 (by decide) 10 (by decide) (t := 88) (by decide) (adv_mid 8 10 (by decide) (by decide) (s6' D 1 c) (s7 D 1 c) (s1 D 2 c))) $$ HR HM HO; iintro HM HO
  iapply (rb_stmt D K 1 (by decide) 11 (by decide) (t := 88) (by decide) (adv_mid 8 11 (by decide) (by decide) (s6' D 1 c) (s7 D 1 c) (s1 D 2 c))) $$ HR HM HO; iintro HM HO
  iapply (fin_stmt (F := F))
  iapply HK $$ HM HO

/-- Part 25 of the body. -/
theorem part25_walk (hG : Good D I c G) {Q : _ → sProp (MT nD τ sig ℕ (Elt F) ℕ UU ℕ)} : records D K ⊢ iprop(M (pr3 8 12 (s6' D 1 c) (s7 D 1 c) (s1 D 2 c)) -∗ ow c 88 -∗ own (F := F) w4M c I.a4 -∗ own (F := F) w5M c I.a5 -∗
    (M (pr3 12 14 (s6' D 1 c) (s7 D 1 c) (s1 D 2 c)) -∗ ow c 92 -∗ own (F := F) w4M c I.a4 -∗ own (F := F) w5M c I.a5 -∗ Q (ev c 14))
    -∗ wpc c (inst (k0_part25 (F := F)) c (pos c)) Q) := by
  iintro #HR HM HO H4 H5 HK
  unfold inst
  rw [k0_part25_eq_skeleton]
  unfold k0_part25_skel
  iapply (ag_grp_ld' D 1 2 (s1 D 2 c) (a := 8) (b := 12) rfl rfl rfl) $$ HM; iintro HM
  iapply (own_ld w4M I.a4 (rd4 zz2 I.a4)) $$ H4; iintro H4
  iapply (own_ld w5M I.a5 (rd5 zz2 I.a5)) $$ H5; iintro H5
  iapply (p_grp_st' D 1 (by decide) 2 (a := 8) (b := 12) rfl rfl rfl rfl hG.p18 (s1 D 2 c)) $$ HM; iintro HM
  iapply (rs_stmt D K 2 (by decide) 8 (by decide) (adv_low 8 12 (by decide) (by decide) (s6' D 1 c) (s0 D 2 c) (s1 D 2 c)) rfl) $$ HR HM HO; iintro HM HO
  iapply (rs_stmt D K 2 (by decide) 9 (by decide) (adv_low 9 12 (by decide) (by decide) (s6' D 1 c) (s0 D 2 c) (s1 D 2 c)) rfl) $$ HR HM HO; iintro HM HO
  iapply (rs_stmt D K 2 (by decide) 10 (by decide) (adv_low 10 12 (by decide) (by decide) (s6' D 1 c) (s0 D 2 c) (s1 D 2 c)) rfl) $$ HR HM HO; iintro HM HO
  iapply (rs_stmt D K 2 (by decide) 11 (by decide) (adv_low 11 12 (by decide) (by decide) (s6' D 1 c) (s0 D 2 c) (s1 D 2 c)) rfl) $$ HR HM HO; iintro HM HO
  ihave HM := (g_next 12 _ _ (s7 D 1 c) _) $$ HM
  iapply (rb_stmt D K 1 (by decide) 12 (by decide) (t := 92) (by decide) (adv_mid 12 12 (by decide) (by decide) (s6' D 1 c) (s7 D 1 c) (s1 D 2 c))) $$ HR HM HO; iintro HM HO
  iapply (rb_stmt D K 1 (by decide) 13 (by decide) (t := 92) (by decide) (adv_mid 12 13 (by decide) (by decide) (s6' D 1 c) (s7 D 1 c) (s1 D 2 c))) $$ HR HM HO; iintro HM HO
  iapply (fin_stmt (F := F))
  iapply HK $$ HM HO H4 H5

/-- Part 26 of the body. -/
theorem part26_walk (hG : Good D I c G) {Q : _ → sProp (MT nD τ sig ℕ (Elt F) ℕ UU ℕ)} : records D K ⊢ iprop(M (pr3 12 14 (s6' D 1 c) (s7 D 1 c) (s1 D 2 c)) -∗ ow c 92 -∗ own (F := F) w4M c I.a4 -∗ own (F := F) w5M c I.a5 -∗
    (M (s1 D 2 c) -∗ ow c 96 -∗ own (F := F) w4M c I.a4 -∗ own (F := F) w5M c I.a5 -∗ Q ⟨⟩)
    -∗ wpc c (inst (k0_part26 (F := F)) c (pos c) (ev c 14)) Q) := by
  iintro #HR HM HO H4 H5 HK
  unfold inst
  rw [k0_part26_eq_skeleton]
  unfold k0_part26_skel
  iapply (rb_stmt D K 1 (by decide) 14 (by decide) (t := 92) (by decide) (adv_mid 12 14 (by decide) (by decide) (s6' D 1 c) (s7 D 1 c) (s1 D 2 c))) $$ HR HM HO; iintro HM HO
  iapply (rb_stmt D K 1 (by decide) 15 (by decide) (t := 92) (by decide) (adv_mid 12 15 (by decide) (by decide) (s6' D 1 c) (s7 D 1 c) (s1 D 2 c))) $$ HR HM HO; iintro HM HO
  iapply (ag_grp_ld' D 1 3 (s1 D 2 c) (a := 12) (b := 16) rfl rfl rfl) $$ HM; iintro HM
  iapply (own_ld w4M I.a4 (rd4 zz2 I.a4)) $$ H4; iintro H4
  iapply (own_ld w5M I.a5 (rd5 zz2 I.a5)) $$ H5; iintro H5
  iapply (p_grp_st' D 1 (by decide) 3 (a := 12) (b := 16) rfl rfl rfl rfl hG.p19 (s1 D 2 c)) $$ HM; iintro HM
  iapply (rs_stmt D K 2 (by decide) 12 (by decide) (adv_low 12 16 (by decide) (by decide) (s6' D 1 c) (s0 D 2 c) (s1 D 2 c)) rfl) $$ HR HM HO; iintro HM HO
  iapply (rs_stmt D K 2 (by decide) 13 (by decide) (adv_low 13 16 (by decide) (by decide) (s6' D 1 c) (s0 D 2 c) (s1 D 2 c)) rfl) $$ HR HM HO; iintro HM HO
  iapply (rs_stmt D K 2 (by decide) 14 (by decide) (adv_low 14 16 (by decide) (by decide) (s6' D 1 c) (s0 D 2 c) (s1 D 2 c)) rfl) $$ HR HM HO; iintro HM HO
  iapply (rs_stmt D K 2 (by decide) 15 (by decide) (adv_low 15 16 (by decide) (by decide) (s6' D 1 c) (s0 D 2 c) (s1 D 2 c)) rfl) $$ HR HM HO; iintro HM HO
  ihave HM := (g_all _ _ _) $$ HM
  iapply (fin_stmt (F := F))
  iapply HK $$ HM HO H4 H5

end Cert.KernelIdeal.Mlp

end
-- ==== Proof.KernelIdeal.Body3.lean ====
/-
# The walk of the body: the third layer
-/
module

public import proofs.«01_k».proof.Proof.KernelIdeal.Body0

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

attribute [local irreducible] wp

variable (D : Data F) (K : Dev nD × CI → ℕ) {c : Dev nD} {I : Ins F} {G : M512x256 F .f32} {fa : M512x256 F .bf16}

/-- Part 27 of the body. -/
theorem part27_walk {Q : _ → sProp (MT nD τ sig ℕ (Elt F) ℕ UU ℕ)} : records D K ⊢ iprop(M (s1 D 2 c) -∗ ow c 96 -∗
    (M (pr 8 (s1' D 2 c) (s2 D 2 c)) -∗ ow c 96 -∗ Q (ev c 8))
    -∗ wpc c (inst (k0_part27 (F := F)) c (pos c)) Q) := by
  iintro #HR HM HO  HK
  unfold inst
  rw [k0_part27_eq_skeleton]
  unfold k0_part27_skel
  iapply (p_own_ld D 2 (k0_off33_eq c)) $$ HM; iintro HM
  iapply (rs_own_ld D 2 (k0_off34_eq c)) $$ HM; iintro %_ HM
  iapply (rs_own_st D 2 (k0_off34_eq c) (own20_eq D 2 c)) $$ HM; iintro HM
  ihave HM := (m_zero (s1' D 2 c) (s2 D 2 c)) $$ HM
  iapply (ra_stmt D K 2 (by decide) 0 (by decide) (t := 96) (by decide) (adv 0 (by decide) _ _)) $$ HR HM HO; iintro HM HO
  iapply (ra_stmt D K 2 (by decide) 1 (by decide) (t := 96) (by decide) (adv 1 (by decide) _ _)) $$ HR HM HO; iintro HM HO
  iapply (ra_stmt D K 2 (by decide) 2 (by decide) (t := 96) (by decide) (adv 2 (by decide) _ _)) $$ HR HM HO; iintro HM HO
  iapply (ra_stmt D K 2 (by decide) 3 (by decide) (t := 96) (by decide) (adv 3 (by decide) _ _)) $$ HR HM HO; iintro HM HO
  iapply (ra_stmt D K 2 (by decide) 4 (by decide) (t := 96) (by decide) (adv 4 (by decide) _ _)) $$ HR HM HO; iintro HM HO
  iapply (ra_stmt D K 2 (by decide) 5 (by decide) (t := 96) (by decide) (adv 5 (by decide) _ _)) $$ HR HM HO; iintro HM HO
  iapply (ra_stmt D K 2 (by decide) 6 (by decide) (t := 96) (by decide) (adv 6 (by decide) _ _)) $$ HR HM HO; iintro HM HO
  iapply (ra_stmt D K 2 (by decide) 7 (by decide) (t := 96) (by decide) (adv 7 (by decide) _ _)) $$ HR HM HO; iintro HM HO
  iapply (fin_stmt (F := F))
  iapply HK $$ HM HO

/-- Part 28 of the body. -/
theorem part28_walk {Q : _ → sProp (MT nD τ sig ℕ (Elt F) ℕ UU ℕ)} : records D K ⊢ iprop(M (pr 8 (s1' D 2 c) (s2 D 2 c)) -∗ ow c 96 -∗ newR (F := F) 2 c -∗
    (∀ v, M (s2' D 2 c) -∗ ow c 96 -∗ newR (F := F) 2 c -∗ Q ⟨k0_pay21 (RS D 2 c), v⟩)
    -∗ wpc c (inst (k0_part28 (F := F)) (pos c) (ev c 8)) Q) := by
  iintro #HR HM HO HN2 HK
  unfold inst
  rw [k0_part28_eq_skeleton]
  unfold k0_part28_skel
  iapply (ra_stmt D K 2 (by decide) 8 (by decide) (t := 96) (by decide) (adv 8 (by decide) _ _)) $$ HR HM HO; iintro HM HO
  iapply (ra_stmt D K 2 (by decide) 9 (by decide) (t := 96) (by decide) (adv 9 (by decide) _ _)) $$ HR HM HO; iintro HM HO
  iapply (ra_stmt D K 2 (by decide) 10 (by decide) (t := 96) (by decide) (adv 10 (by decide) _ _)) $$ HR HM HO; iintro HM HO
  iapply (ra_stmt D K 2 (by decide) 11 (by decide) (t := 96) (by decide) (adv 11 (by decide) _ _)) $$ HR HM HO; iintro HM HO
  iapply (ra_stmt D K 2 (by decide) 12 (by decide) (t := 96) (by decide) (adv 12 (by decide) _ _)) $$ HR HM HO; iintro HM HO
  iapply (ra_stmt D K 2 (by decide) 13 (by decide) (t := 96) (by decide) (adv 13 (by decide) _ _)) $$ HR HM HO; iintro HM HO
  iapply (ra_stmt D K 2 (by decide) 14 (by decide) (t := 96) (by decide) (adv 14 (by decide) _ _)) $$ HR HM HO; iintro HM HO
  iapply (ra_stmt D K 2 (by decide) 15 (by decide) (t := 96) (by decide) (adv 15 (by decide) _ _)) $$ HR HM HO; iintro HM HO
  ihave HM := (m_all _ _) $$ HM
  iapply (rs_all_ld D 2 zz3) $$ HM; iintro HM
  iapply (r_ld 2 par2) $$ HN2; iintro %v HN2
  iapply (fin_stmt (F := F))
  iapply HK $$ %v HM HO HN2

/-- Part 29 of the body. -/
theorem part29_walk (v0 : S1x32x512.Idx → Elt F .bf16) (hG : Good D I c G) {Q : _ → sProp (MT nD τ sig ℕ (Elt F) ℕ UU ℕ)} : records D K ⊢ iprop(M (s2' D 2 c) -∗ ow c 96 -∗ newR (F := F) 2 c -∗
    (M (pr 9 (s2' D 2 c) (s3 D 2 c)) -∗ ow c 96 -∗ finR D 2 c -∗ Q (ev c 9))
    -∗ wpc c (inst (k0_part29 (F := F)) c (pos c) (k0_pay21 (RS D 2 c)) v0) Q) := by
  iintro #HR HM HO HN2 HK
  unfold inst
  rw [k0_part29_eq_skeleton]
  unfold k0_part29_skel
  iapply (r_st D 2 par2 hG.r22) $$ HN2; iintro HF
  ihave HM := (m_zero (s2' D 2 c) (s3 D 2 c)) $$ HM
  iapply (sa_stmt D K 2 (by decide) 0 (by decide) (adv 0 (by decide) _ _)) $$ HR HM HO; iintro HM HO
  iapply (sa_stmt D K 2 (by decide) 1 (by decide) (adv 1 (by decide) _ _)) $$ HR HM HO; iintro HM HO
  iapply (sa_stmt D K 2 (by decide) 2 (by decide) (adv 2 (by decide) _ _)) $$ HR HM HO; iintro HM HO
  iapply (sa_stmt D K 2 (by decide) 3 (by decide) (adv 3 (by decide) _ _)) $$ HR HM HO; iintro HM HO
  iapply (sa_stmt D K 2 (by decide) 4 (by decide) (adv 4 (by decide) _ _)) $$ HR HM HO; iintro HM HO
  iapply (sa_stmt D K 2 (by decide) 5 (by decide) (adv 5 (by decide) _ _)) $$ HR HM HO; iintro HM HO
  iapply (sa_stmt D K 2 (by decide) 6 (by decide) (adv 6 (by decide) _ _)) $$ HR HM HO; iintro HM HO
  iapply (sa_stmt D K 2 (by decide) 7 (by decide) (adv 7 (by decide) _ _)) $$ HR HM HO; iintro HM HO
  iapply (sa_stmt D K 2 (by decide) 8 (by decide) (adv 8 (by decide) _ _)) $$ HR HM HO; iintro HM HO
  iapply (fin_stmt (F := F))
  iapply HK $$ HM HO HF

/-- Part 30 of the body. -/
theorem part30_walk {Q : _ → sProp (MT nD τ sig ℕ (Elt F) ℕ UU ℕ)} : records D K ⊢ iprop(M (pr 9 (s2' D 2 c) (s3 D 2 c)) -∗ ow c 96 -∗
    (M (pr 3 (s3 D 2 c) (s4 D 2 c)) -∗ ow c 96 -∗ Q (ev c 3))
    -∗ wpc c (inst (k0_part30 (F := F)) c (pos c) (ev c 9)) Q) := by
  iintro #HR HM HO  HK
  unfold inst
  rw [k0_part30_eq_skeleton]
  unfold k0_part30_skel
  iapply (sa_stmt D K 2 (by decide) 9 (by decide) (adv 9 (by decide) _ _)) $$ HR HM HO; iintro HM HO
  iapply (sa_stmt D K 2 (by decide) 10 (by decide) (adv 10 (by decide) _ _)) $$ HR HM HO; iintro HM HO
  iapply (sa_stmt D K 2 (by decide) 11 (by decide) (adv 11 (by decide) _ _)) $$ HR HM HO; iintro HM HO
  iapply (sa_stmt D K 2 (by decide) 12 (by decide) (adv 12 (by decide) _ _)) $$ HR HM HO; iintro HM HO
  iapply (sa_stmt D K 2 (by decide) 13 (by decide) (adv 13 (by decide) _ _)) $$ HR HM HO; iintro HM HO
  iapply (sa_stmt D K 2 (by decide) 14 (by decide) (adv 14 (by decide) _ _)) $$ HR HM HO; iintro HM HO
  iapply (sa_stmt D K 2 (by decide) 15 (by decide) (adv 15 (by decide) _ _)) $$ HR HM HO; iintro HM HO
  ihave HM := (m_all _ _) $$ HM
  ihave HM := (m_zero (s3 D 2 c) (s4 D 2 c)) $$ HM
  iapply (sb_stmt D K 1 (by decide) 0 (by decide) (adv 0 (by decide) _ _)) $$ HR HM HO; iintro HM HO
  iapply (sb_stmt D K 1 (by decide) 1 (by decide) (adv 1 (by decide) _ _)) $$ HR HM HO; iintro HM HO
  iapply (sb_stmt D K 1 (by decide) 2 (by decide) (adv 2 (by decide) _ _)) $$ HR HM HO; iintro HM HO
  iapply (fin_stmt (F := F))
  iapply HK $$ HM HO

/-- Part 31 of the body. -/
theorem part31_walk {Q : _ → sProp (MT nD τ sig ℕ (Elt F) ℕ UU ℕ)} : records D K ⊢ iprop(M (pr 3 (s3 D 2 c) (s4 D 2 c)) -∗ ow c 96 -∗
    (M (pr 13 (s3 D 2 c) (s4 D 2 c)) -∗ ow c 96 -∗ Q (ev c 13))
    -∗ wpc c (inst (k0_part31 (F := F)) c (pos c) (ev c 3)) Q) := by
  iintro #HR HM HO  HK
  unfold inst
  rw [k0_part31_eq_skeleton]
  unfold k0_part31_skel
  iapply (sb_stmt D K 1 (by decide) 3 (by decide) (adv 3 (by decide) _ _)) $$ HR HM HO; iintro HM HO
  iapply (sb_stmt D K 1 (by decide) 4 (by decide) (adv 4 (by decide) _ _)) $$ HR HM HO; iintro HM HO
  iapply (sb_stmt D K 1 (by decide) 5 (by decide) (adv 5 (by decide) _ _)) $$ HR HM HO; iintro HM HO
  iapply (sb_stmt D K 1 (by decide) 6 (by decide) (adv 6 (by decide) _ _)) $$ HR HM HO; iintro HM HO
  iapply (sb_stmt D K 1 (by decide) 7 (by decide) (adv 7 (by decide) _ _)) $$ HR HM HO; iintro HM HO
  iapply (sb_stmt D K 1 (by decide) 8 (by decide) (adv 8 (by decide) _ _)) $$ HR HM HO; iintro HM HO
  iapply (sb_stmt D K 1 (by decide) 9 (by decide) (adv 9 (by decide) _ _)) $$ HR HM HO; iintro HM HO
  iapply (sb_stmt D K 1 (by decide) 10 (by decide) (adv 10 (by decide) _ _)) $$ HR HM HO; iintro HM HO
  iapply (sb_stmt D K 1 (by decide) 11 (by decide) (adv 11 (by decide) _ _)) $$ HR HM HO; iintro HM HO
  iapply (sb_stmt D K 1 (by decide) 12 (by decide) (adv 12 (by decide) _ _)) $$ HR HM HO; iintro HM HO
  iapply (fin_stmt (F := F))
  iapply HK $$ HM HO

/-- Part 32 of the body. -/
theorem part32_walk {Q : _ → sProp (MT nD τ sig ℕ (Elt F) ℕ UU ℕ)} : records D K ⊢ iprop(M (pr 13 (s3 D 2 c) (s4 D 2 c)) -∗ ow c 96 -∗ finR D 2 c -∗ dropR D 1 c -∗
    (M (pr 7 (s5 D 2 c) (s6 D 2 c)) -∗ ow c 103 -∗ newR (F := F) 3 c -∗ dropR D 2 c -∗ Q (ev c 7))
    -∗ wpc c (inst (k0_part32 (F := F)) c (pos c) (ev c 13)) Q) := by
  iintro #HR HM HO HF HD HK
  unfold inst
  rw [k0_part32_eq_skeleton]
  unfold k0_part32_skel
  iapply (sb_stmt D K 1 (by decide) 13 (by decide) (adv 13 (by decide) _ _)) $$ HR HM HO; iintro HM HO
  iapply (sb_stmt D K 1 (by decide) 14 (by decide) (adv 14 (by decide) _ _)) $$ HR HM HO; iintro HM HO
  iapply (sb_stmt D K 1 (by decide) 15 (by decide) (adv 15 (by decide) _ _)) $$ HR HM HO; iintro HM HO
  ihave HM := (m_all _ _) $$ HM
  ihave ⟨HM, HD, HN3⟩ := (open_succ D 1 c) $$ [HM HF HD]
  · isplitl [HM]; · iexact HM
    isplitl [HF]; · iexact HF
    iexact HD
  ihave HM := (m_zero (s5 D 2 c) (s6 D 2 c)) $$ HM
  iapply (ag_stmt D K 2 (by decide) 0 (by decide) (adv 0 (by decide) _ _) rfl) $$ HR HM HO; iintro HM HO
  iapply (ag_stmt D K 2 (by decide) 1 (by decide) (adv 1 (by decide) _ _) rfl) $$ HR HM HO; iintro HM HO
  iapply (ag_stmt D K 2 (by decide) 2 (by decide) (adv 2 (by decide) _ _) rfl) $$ HR HM HO; iintro HM HO
  iapply (ag_stmt D K 2 (by decide) 3 (by decide) (adv 3 (by decide) _ _) rfl) $$ HR HM HO; iintro HM HO
  iapply (ag_stmt D K 2 (by decide) 4 (by decide) (adv 4 (by decide) _ _) rfl) $$ HR HM HO; iintro HM HO
  iapply (ag_stmt D K 2 (by decide) 5 (by decide) (adv 5 (by decide) _ _) rfl) $$ HR HM HO; iintro HM HO
  iapply (ag_stmt D K 2 (by decide) 6 (by decide) (adv 6 (by decide) _ _) rfl) $$ HR HM HO; iintro HM HO
  iapply (fin_stmt (F := F))
  iapply HK $$ HM HO HN3 HD

/-- Part 33 of the body. -/
theorem part33_walk {Q : _ → sProp (MT nD τ sig ℕ (Elt F) ℕ UU ℕ)} : records D K ⊢ iprop(M (pr 7 (s5 D 2 c) (s6 D 2 c)) -∗ ow c 103 -∗
    (M (s6 D 2 c) -∗ ow c 112 -∗ Q (k0_pay23 (halfOf (par 2) (HB D 2 c))))
    -∗ wpc c (inst (k0_part33 (F := F)) c (pos c) (ev c 7)) Q) := by
  iintro #HR HM HO  HK
  unfold inst
  rw [k0_part33_eq_skeleton]
  unfold k0_part33_skel
  iapply (ag_stmt D K 2 (by decide) 7 (by decide) (adv 7 (by decide) _ _) rfl) $$ HR HM HO; iintro HM HO
  iapply (ag_stmt D K 2 (by decide) 8 (by decide) (adv 8 (by decide) _ _) rfl) $$ HR HM HO; iintro HM HO
  iapply (ag_stmt D K 2 (by decide) 9 (by decide) (adv 9 (by decide) _ _) rfl) $$ HR HM HO; iintro HM HO
  iapply (ag_stmt D K 2 (by decide) 10 (by decide) (adv 10 (by decide) _ _) rfl) $$ HR HM HO; iintro HM HO
  iapply (ag_stmt D K 2 (by decide) 11 (by decide) (adv 11 (by decide) _ _) rfl) $$ HR HM HO; iintro HM HO
  iapply (ag_stmt D K 2 (by decide) 12 (by decide) (adv 12 (by decide) _ _) rfl) $$ HR HM HO; iintro HM HO
  iapply (ag_stmt D K 2 (by decide) 13 (by decide) (adv 13 (by decide) _ _) rfl) $$ HR HM HO; iintro HM HO
  iapply (ag_stmt D K 2 (by decide) 14 (by decide) (adv 14 (by decide) _ _) rfl) $$ HR HM HO; iintro HM HO
  iapply (ag_stmt D K 2 (by decide) 15 (by decide) (adv 15 (by decide) _ _) rfl) $$ HR HM HO; iintro HM HO
  ihave HM := (m_all _ _) $$ HM
  iapply (ag_own_rld D 2 par2) $$ HM; iintro HM
  iapply (fin_stmt (F := F))
  iapply HK $$ HM HO

/-- Part 34 of the body. -/
theorem part34_walk (hG : Good D I c G) {Q : _ → sProp (MT nD τ sig ℕ (Elt F) ℕ UU ℕ)} : records D K ⊢ iprop(M (s6 D 2 c) -∗ ow c 112 -∗ own (F := F) w6M c I.a6 -∗ outp c G 0 -∗
    (M (pr3 4 7 (s6' D 2 c) (s7 D 2 c) (s7 D 2 c)) -∗ ow c 112 -∗ own (F := F) w6M c I.a6 -∗ outp c G 1 -∗ Q (7#32))
    -∗ wpc c (inst (k0_part34 (F := F)) c (pos c) (k0_pay23 (halfOf (par 2) (HB D 2 c)))) Q) := by
  iintro #HR HM HO H6 HT HK
  unfold inst
  rw [k0_part34_eq_skeleton]
  unfold k0_part34_skel
  iapply (ag_own_ld D 2 (k0_off33_eq c)) $$ HM; iintro %_ HM
  iapply (ag_own_st D 2 (k0_off33_eq c) (agown24_eq D 2 c)) $$ HM; iintro HM
  ihave HM := (g_zero (s6' D 2 c) (s7 D 2 c) (s7 D 2 c)) $$ HM
  iapply (rb_stmt D K 2 (by decide) 0 (by decide) (t := 112) (by decide) (adv_mid 0 0 (by decide) (by decide) (s6' D 2 c) (s7 D 2 c) (s7 D 2 c))) $$ HR HM HO; iintro HM HO
  iapply (rb_stmt D K 2 (by decide) 1 (by decide) (t := 112) (by decide) (adv_mid 0 1 (by decide) (by decide) (s6' D 2 c) (s7 D 2 c) (s7 D 2 c))) $$ HR HM HO; iintro HM HO
  iapply (rb_stmt D K 2 (by decide) 2 (by decide) (t := 112) (by decide) (adv_mid 0 2 (by decide) (by decide) (s6' D 2 c) (s7 D 2 c) (s7 D 2 c))) $$ HR HM HO; iintro HM HO
  iapply (rb_stmt D K 2 (by decide) 3 (by decide) (t := 112) (by decide) (adv_mid 0 3 (by decide) (by decide) (s6' D 2 c) (s7 D 2 c) (s7 D 2 c))) $$ HR HM HO; iintro HM HO
  iapply (ag_grp_ld' D 2 0 (s7 D 2 c) (a := 0) (b := 4) rfl rfl rfl) $$ HM; iintro HM
  iapply (own_ld w6M I.a6 (rd6 zz2 I.a6)) $$ H6; iintro H6
  iapply (outp_st' G 0 (n := 0) rfl rfl rfl hG.o25) $$ HT; iintro HT
  ihave HM := (g_same 0 4 (by decide) _ _) $$ HM
  iapply (rb_stmt D K 2 (by decide) 4 (by decide) (t := 112) (by decide) (adv_mid 4 4 (by decide) (by decide) (s6' D 2 c) (s7 D 2 c) (s7 D 2 c))) $$ HR HM HO; iintro HM HO
  iapply (rb_stmt D K 2 (by decide) 5 (by decide) (t := 112) (by decide) (adv_mid 4 5 (by decide) (by decide) (s6' D 2 c) (s7 D 2 c) (s7 D 2 c))) $$ HR HM HO; iintro HM HO
  iapply (rb_stmt D K 2 (by decide) 6 (by decide) (t := 112) (by decide) (adv_mid 4 6 (by decide) (by decide) (s6' D 2 c) (s7 D 2 c) (s7 D 2 c))) $$ HR HM HO; iintro HM HO
  iapply (fin_stmt (F := F))
  iapply HK $$ HM HO H6 HT

/-- Part 35 of the body. -/
theorem part35_walk (hG : Good D I c G) {Q : _ → sProp (MT nD τ sig ℕ (Elt F) ℕ UU ℕ)} : records D K ⊢ iprop(M (pr3 4 7 (s6' D 2 c) (s7 D 2 c) (s7 D 2 c)) -∗ ow c 112 -∗ own (F := F) w6M c I.a6 -∗ outp c G 1 -∗
    (M (pr3 8 12 (s6' D 2 c) (s7 D 2 c) (s7 D 2 c)) -∗ ow c 112 -∗ own (F := F) w6M c I.a6 -∗ outp c G 3 -∗ Q (cv c 12))
    -∗ wpc c (inst (k0_part35 (F := F)) (pos c) 7#32) Q) := by
  iintro #HR HM HO H6 HT HK
  unfold inst
  rw [k0_part35_eq_skeleton]
  unfold k0_part35_skel
  iapply (rb_stmt D K 2 (by decide) 7 (by decide) (t := 112) (by decide) (adv_mid 4 7 (by decide) (by decide) (s6' D 2 c) (s7 D 2 c) (s7 D 2 c))) $$ HR HM HO; iintro HM HO
  iapply (ag_grp_ld' D 2 1 (s7 D 2 c) (a := 4) (b := 8) rfl rfl rfl) $$ HM; iintro HM
  iapply (own_ld w6M I.a6 (rd6 zz2 I.a6)) $$ H6; iintro H6
  iapply (outp_st' G 1 (n := 1) rfl rfl rfl hG.o26) $$ HT; iintro HT
  ihave HM := (g_same 4 8 (by decide) _ _) $$ HM
  iapply (rb_stmt D K 2 (by decide) 8 (by decide) (t := 112) (by decide) (adv_mid 8 8 (by decide) (by decide) (s6' D 2 c) (s7 D 2 c) (s7 D 2 c))) $$ HR HM HO; iintro HM HO
  iapply (rb_stmt D K 2 (by decide) 9 (by decide) (t := 112) (by decide) (adv_mid 8 9 (by decide) (by decide) (s6' D 2 c) (s7 D 2 c) (s7 D 2 c))) $$ HR HM HO; iintro HM HO
  iapply (rb_stmt D K 2 (by decide) 10 (by decide) (t := 112) (by decide) (adv_mid 8 10 (by decide) (by decide) (s6' D 2 c) (s7 D 2 c) (s7 D 2 c))) $$ HR HM HO; iintro HM HO
  iapply (rb_stmt D K 2 (by decide) 11 (by decide) (t := 112) (by decide) (adv_mid 8 11 (by decide) (by decide) (s6' D 2 c) (s7 D 2 c) (s7 D 2 c))) $$ HR HM HO; iintro HM HO
  iapply (ag_grp_ld' D 2 2 (s7 D 2 c) (a := 8) (b := 12) rfl rfl rfl) $$ HM; iintro HM
  iapply (own_ld w6M I.a6 (rd6 zz2 I.a6)) $$ H6; iintro H6
  iapply (outp_st' G 2 (n := 2) rfl rfl rfl hG.o27) $$ HT; iintro HT
  iapply (fin_stmt (F := F))
  iapply HK $$ HM HO H6 HT

/-- Part 36 of the body. -/
theorem part36_walk (hG : Good D I c G) {Q : _ → sProp (MT nD τ sig ℕ (Elt F) ℕ UU ℕ)} : records D K ⊢ iprop(M (pr3 8 12 (s6' D 2 c) (s7 D 2 c) (s7 D 2 c)) -∗ ow c 112 -∗ own (F := F) w6M c I.a6 -∗ outp c G 3 -∗
    (M (pr 4 (s7 D 2 c) (s8 D 2 c)) -∗ ow c 112 -∗ own (F := F) w6M c I.a6 -∗ outp c G 4 -∗ Q ⟨ev c 4, 0#32⟩)
    -∗ wpc c (inst (k0_part36 (F := F)) c (pos c) (cv c 12)) Q) := by
  iintro #HR HM HO H6 HT HK
  unfold inst
  rw [k0_part36_eq_skeleton]
  unfold k0_part36_skel
  ihave HM := (g_same 8 12 (by decide) _ _) $$ HM
  iapply (rb_stmt D K 2 (by decide) 12 (by decide) (t := 112) (by decide) (adv_mid 12 12 (by decide) (by decide) (s6' D 2 c) (s7 D 2 c) (s7 D 2 c))) $$ HR HM HO; iintro HM HO
  iapply (rb_stmt D K 2 (by decide) 13 (by decide) (t := 112) (by decide) (adv_mid 12 13 (by decide) (by decide) (s6' D 2 c) (s7 D 2 c) (s7 D 2 c))) $$ HR HM HO; iintro HM HO
  iapply (rb_stmt D K 2 (by decide) 14 (by decide) (t := 112) (by decide) (adv_mid 12 14 (by decide) (by decide) (s6' D 2 c) (s7 D 2 c) (s7 D 2 c))) $$ HR HM HO; iintro HM HO
  iapply (rb_stmt D K 2 (by decide) 15 (by decide) (t := 112) (by decide) (adv_mid 12 15 (by decide) (by decide) (s6' D 2 c) (s7 D 2 c) (s7 D 2 c))) $$ HR HM HO; iintro HM HO
  iapply (ag_grp_ld' D 2 3 (s7 D 2 c) (a := 12) (b := 16) rfl rfl rfl) $$ HM; iintro HM
  iapply (own_ld w6M I.a6 (rd6 zz2 I.a6)) $$ H6; iintro H6
  iapply (outp_st' G 3 (n := 3) rfl rfl rfl hG.o28) $$ HT; iintro HT
  ihave HM := (g_same 12 16 (by decide) _ _) $$ HM
  ihave HM := (g_all _ _ _) $$ HM
  ihave HM := (m_zero (s7 D 2 c) (s8 D 2 c)) $$ HM
  iapply (sb_stmt_last D K 0 (by decide) (adv 0 (by decide) _ _)) $$ HR HM HO; iintro HM HO
  iapply (sb_stmt_last D K 1 (by decide) (adv 1 (by decide) _ _)) $$ HR HM HO; iintro HM HO
  iapply (sb_stmt_last D K 2 (by decide) (adv 2 (by decide) _ _)) $$ HR HM HO; iintro HM HO
  iapply (sb_stmt_last D K 3 (by decide) (adv 3 (by decide) _ _)) $$ HR HM HO; iintro HM HO
  iapply (fin_stmt (F := F))
  iapply HK $$ HM HO H6 HT

/-- Part 37 of the body. -/
theorem part37_walk {Q : _ → sProp (MT nD τ sig ℕ (Elt F) ℕ UU ℕ)} : records D K ⊢ iprop(M (pr 4 (s7 D 2 c) (s8 D 2 c)) -∗ ow c 112 -∗
    (M (pr 14 (s7 D 2 c) (s8 D 2 c)) -∗ ow c 112 -∗ Q ⟨ev c 14, 0#32⟩)
    -∗ wpc c (inst (k0_part37 (F := F)) c (pos c) (ev c 4) 0#32) Q) := by
  iintro #HR HM HO  HK
  unfold inst
  rw [k0_part37_eq_skeleton]
  unfold k0_part37_skel
  iapply (sb_stmt_last D K 4 (by decide) (adv 4 (by decide) _ _)) $$ HR HM HO; iintro HM HO
  iapply (sb_stmt_last D K 5 (by decide) (adv 5 (by decide) _ _)) $$ HR HM HO; iintro HM HO
  iapply (sb_stmt_last D K 6 (by decide) (adv 6 (by decide) _ _)) $$ HR HM HO; iintro HM HO
  iapply (sb_stmt_last D K 7 (by decide) (adv 7 (by decide) _ _)) $$ HR HM HO; iintro HM HO
  iapply (sb_stmt_last D K 8 (by decide) (adv 8 (by decide) _ _)) $$ HR HM HO; iintro HM HO
  iapply (sb_stmt_last D K 9 (by decide) (adv 9 (by decide) _ _)) $$ HR HM HO; iintro HM HO
  iapply (sb_stmt_last D K 10 (by decide) (adv 10 (by decide) _ _)) $$ HR HM HO; iintro HM HO
  iapply (sb_stmt_last D K 11 (by decide) (adv 11 (by decide) _ _)) $$ HR HM HO; iintro HM HO
  iapply (sb_stmt_last D K 12 (by decide) (adv 12 (by decide) _ _)) $$ HR HM HO; iintro HM HO
  iapply (sb_stmt_last D K 13 (by decide) (adv 13 (by decide) _ _)) $$ HR HM HO; iintro HM HO
  iapply (fin_stmt (F := F))
  iapply HK $$ HM HO

end Cert.KernelIdeal.Mlp

end
-- ==== Proof.KernelIdeal.Body.lean ====
/-
# The walk of the whole body
-/
module

public import proofs.«01_k».proof.Proof.KernelIdeal.Body1
public import proofs.«01_k».proof.Proof.KernelIdeal.Body2
public import proofs.«01_k».proof.Proof.KernelIdeal.Body3

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

attribute [local irreducible] wp

variable (D : Data F) (K : Dev nD × CI → ℕ) {c : Dev nD} {I : Ins F} {G : M512x256 F .f32} {fa : M512x256 F .bf16}

/-- The whole body at a device `c`. -/
theorem body_walk (hG : Good D I c G) {Q : PUnit.{1} → sProp (MT nD τ sig ℕ (Elt F) ℕ UU ℕ)} :
    records D K ⊢ iprop(M (sI (F := F) c) -∗ ow c 0 -∗ barPos (F := F) c -∗ newR (F := F) 0 c -∗ newR (F := F) 1 c -∗ own (F := F) w0M c I.x -∗ own (F := F) w1M c I.a1 -∗
      own (F := F) w2M c I.a2 -∗ own (F := F) w3M c I.a3 -∗ own (F := F) w4M c I.a4 -∗ own (F := F) w5M c I.a5 -∗ own (F := F) w6M c I.a6 -∗ own (F := F) actM c fa -∗ outp c G 0 -∗
      (M (s8 D 2 c) -∗ ow c 112 -∗ barEnd (F := F) c -∗ dropR D 2 c -∗ newR (F := F) 3 c -∗ own (F := F) w0M c I.x -∗ own (F := F) w1M c I.a1 -∗
        own (F := F) w2M c I.a2 -∗ own (F := F) w3M c I.a3 -∗ own (F := F) w4M c I.a4 -∗ own (F := F) w5M c I.a5 -∗ own (F := F) w6M c I.a6 -∗ own (F := F) actM c (k0_pay1 I.x) -∗ outp c G 4 -∗ Q ⟨⟩)
      -∗ wpc c (inst (cc0_body (F := F))) Q) := by
  iintro #HR HM HO HB HN0 HN1 HX H1 H2 H3 H4 H5 H6 HA HT HK
  unfold inst
  rw [cc0_body_eq_skeleton]
  unfold cc0_body_skel
  ihave HM := (m_zero (sI (F := F) c) (sJ (F := F) c)) $$ HM
  iapply (seq_stmt (F := F)); iapply (part1_walk D K) $$ HR HM HO; iintro HM HO
  iapply (seq_stmt (F := F)); iapply (part2_walk D K) $$ HR HM HO HB HX HA; iintro HM HO HB HX HA
  iapply (seq_stmt (F := F)); iapply (part3_walk D K hG) $$ HR HM HO H1; iintro HM HO H1
  iapply (seq_stmt (F := F)); iapply (part4_walk D K) $$ HR HM HO; iintro HM HO
  iapply (seq_stmt (F := F)); iapply (part5_walk D K) $$ HR HM HO; iintro HM HO
  iapply (seq_stmt (F := F)); iapply (part6_walk D K hG) $$ HR HM HO HN0; iintro HM HO HF
  iapply (seq_stmt (F := F)); iapply (part7_walk D K) $$ HR HM HO; iintro HM HO
  iapply (seq_stmt (F := F)); iapply (part8_walk D K) $$ HR HM HO HF; iintro HM HO HD
  iapply (seq_stmt (F := F)); iapply (part9_walk D K) $$ HR HM HO; iintro HM HO
  iapply (seq_stmt (F := F)); iapply (part10_walk D K) $$ HR HM HO H2 H3; iintro HM HO H2 H3
  iapply (seq_stmt (F := F)); iapply (part11_walk D K hG) $$ HR HM HO; iintro HM HO
  iapply (seq_stmt (F := F)); iapply (part12_walk D K hG) $$ HR HM HO H2 H3; iintro HM HO H2 H3
  iapply (seq_stmt (F := F)); iapply (part13_walk D K hG) $$ HR HM HO H2 H3; iintro HM HO H2 H3
  iapply (seq_stmt (F := F)); iapply (part14_walk D K hG) $$ HR HM HO H2 H3; iintro HM HO H2 H3
  iapply (seq_stmt (F := F)); iapply (part15_walk D K) $$ HR HM HO; iintro HM HO
  iapply (seq_stmt (F := F)); iapply (part16_walk D K) $$ HR HM HO; iintro HM HO
  iapply (seq_stmt (F := F)); iapply (part17_walk D K hG) $$ HR HM HO HN1; iintro HM HO HF
  iapply (seq_stmt (F := F)); iapply (part18_walk D K) $$ HR HM HO; iintro HM HO
  iapply (seq_stmt (F := F)); iapply (part19_walk D K) $$ HR HM HO; iintro HM HO
  iapply (seq_stmt (F := F)); iapply (part20_walk D K) $$ HR HM HO HF HD; iintro HM HO HN2 HD
  iapply (seq_stmt (F := F)); iapply (part21_walk D K) $$ HR HM HO; iintro HM HO
  iapply (seq_stmt (F := F)); iapply (part22_walk D K hG) $$ HR HM HO H4 H5; iintro HM HO H4 H5
  iapply (seq_stmt (F := F)); iapply (part23_walk D K) $$ HR HM HO H4 H5; iintro HM HO H4 H5
  iapply (seq_stmt (F := F)); iapply (part24_walk D K hG) $$ HR HM HO; iintro HM HO
  iapply (seq_stmt (F := F)); iapply (part25_walk D K hG) $$ HR HM HO H4 H5; iintro HM HO H4 H5
  iapply (seq_stmt (F := F)); iapply (part26_walk D K hG) $$ HR HM HO H4 H5; iintro HM HO H4 H5
  iapply (seq_stmt (F := F)); iapply (part27_walk D K) $$ HR HM HO; iintro HM HO
  iapply (seq_stmt (F := F)); iapply (part28_walk D K) $$ HR HM HO HN2; iintro %v HM HO HN2
  iapply (seq_stmt (F := F)); iapply (part29_walk D K v hG) $$ HR HM HO HN2; iintro HM HO HF
  iapply (seq_stmt (F := F)); iapply (part30_walk D K) $$ HR HM HO; iintro HM HO
  iapply (seq_stmt (F := F)); iapply (part31_walk D K) $$ HR HM HO; iintro HM HO
  iapply (seq_stmt (F := F)); iapply (part32_walk D K) $$ HR HM HO HF HD; iintro HM HO HN3 HD
  iapply (seq_stmt (F := F)); iapply (part33_walk D K) $$ HR HM HO; iintro HM HO
  iapply (seq_stmt (F := F)); iapply (part34_walk D K hG) $$ HR HM HO H6 HT; iintro HM HO H6 HT
  iapply (seq_stmt (F := F)); iapply (part35_walk D K hG) $$ HR HM HO H6 HT; iintro HM HO H6 HT
  iapply (seq_stmt (F := F)); iapply (part36_walk D K hG) $$ HR HM HO H6 HT; iintro HM HO H6 HT
  iapply (seq_stmt (F := F)); iapply (part37_walk D K) $$ HR HM HO; iintro HM HO
  iapply (sb_stmt_last D K 14 (by decide) (adv 14 (by decide) _ _)) $$ HR HM HO; iintro HM HO
  iapply (sb_stmt_last D K 15 (by decide) (adv 15 (by decide) _ _)) $$ HR HM HO; iintro HM HO
  ihave HM := (m_all _ _) $$ HM
  iapply (fin_stmt (F := F))
  iapply HK $$ HM HO HB HD HN3 HX H1 H2 H3 H4 H5 H6 HA HT

end Cert.KernelIdeal.Mlp

end
-- ==== Proof.KernelIdeal.Vals.lean ====
/-
# What the sixteen devices compute together
-/
module

public import proofs.«01_k».proof.Proof.KernelIdeal.Body0

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (I : Dev nD → Ins F)

/-- What device `c` receives when the devices hold the partial sums `P`. -/
def recv (P : Dev nD → Mat F) (c : Dev nD) : Slots F := fun i => P (i 0) (ix2 ⟨32 * c.val + (i 1).val, row_lt c (i 1)⟩ (i 2))
/-- A row's device, -/
theorem quot32 (x : Fin 512) : x.val / 32 < 16 := by omega
/-- and its group. -/
theorem quot128 (x : Fin 512) : x.val / 128 < 4 := by omega
/-- The finished matrix: rows `32c …` are what device `c` makes of what it receives. -/
def fin (P : Dev nD → Mat F) : Mat F := fun i =>
  k0_pay4 (recv P ⟨(i 0).val / 32, quot32 (i 0)⟩) (ix3 (0 : Fin 1) (⟨(i 0).val % 32, Nat.mod_lt _ (by decide)⟩ : Fin 32) (i 1 : Fin 512))
/-- The next layer's partial sums, group of rows by group of rows. -/
def nextP (H : Mat F) (w : M512x256 F .bf16) (v : M256x512 F) : Mat F := fun i =>
  k0_pay8 (grpOf ⟨(i 0).val / 128, quot128 (i 0)⟩ H) w v (ix2 (⟨(i 0).val % 128, Nat.mod_lt _ (by decide)⟩ : Fin 128) (i 1 : Fin 512))
/-- The result, group of rows by group of rows. -/
def outOf (H : Mat F) (w : M512x256 F .bf16) : M512x256 F .f32 := fun i =>
  k0_pay25 (grpOf ⟨(i 0).val / 128, quot128 (i 0)⟩ H) w (ix2 (⟨(i 0).val % 128, Nat.mod_lt _ (by decide)⟩ : Fin 128) (i 1 : Fin 256))

/-- The partial sums of layer `r` on every device, from the devices' windows. -/
def Ps : ℕ → Dev nD → Mat F
  | 0 => fun c => k0_pay2 (k0_pay1 (I c).x) (I c).a1
  | 1 => fun c => nextP (fin fun d => k0_pay2 (k0_pay1 (I d).x) (I d).a1) (I c).a2 (I c).a3
  | r + 2 => fun c => nextP (fin (Ps (r + 1))) (I c).a4 (I c).a5

/-- The contents the rounds carry. -/
def mkD : Data F where
  P := Ps I
  H r := fin (Ps I r)
/-- The result window of device `c`. -/
def OUT (c : Dev nD) : M512x256 F .f32 := outOf (fin (Ps I 2)) (I c).a6

/-- Quotient of a row number, -/
theorem div_add {a n b : ℕ} (h : b < n) : (n * a + b) / n = a := by
  rw [Nat.mul_add_div (by omega), Nat.div_eq_of_lt h, Nat.add_zero]
/-- and remainder. -/
theorem mod_add {a n b : ℕ} (h : b < n) : (n * a + b) % n = b := by
  rw [Nat.mul_add_mod, Nat.mod_eq_of_lt h]

/-- A group's row is below 512. -/
theorem half_lt (g : Fin 4) (x : Fin 128) : 128 * g.val + x.val < 512 := by omega
/-- Where a group's entry lies, -/
theorem grpR_emb (g : Fin 4) (x : Fin 128) (b : Fin 512) : (grpR g).emb (ix2 x b) = ix2 (⟨128 * g.val + x.val, half_lt g x⟩ : Fin 512) b := by
  funext d; apply Fin.ext
  match d with
  | ⟨0, _⟩ => show 128 * g.val + 1 * x.val = 128 * g.val + x.val; omega
  | ⟨1, _⟩ => show 0 + 1 * b.val = b.val; omega
/-- and in the result. -/
theorem ogrpR_emb (g : Fin 4) (x : Fin 128) (b : Fin 256) : (ogrpR g).emb (ix2 x b) = ix2 (⟨128 * g.val + x.val, half_lt g x⟩ : Fin 512) b := by
  funext d; apply Fin.ext
  match d with
  | ⟨0, _⟩ => show 128 * g.val + 1 * x.val = 128 * g.val + x.val; omega
  | ⟨1, _⟩ => show 0 + 1 * b.val = b.val; omega

/-- The finished rows of device `c` are its reduction of what it receives. -/
theorem fin_row (P : Dev nD → Mat F) (c : Dev nD) (x : Fin 32) (b : Fin 512) :
    fin P (ix2 ⟨32 * c.val + x.val, row_lt c x⟩ b) = k0_pay4 (recv P c) (ix3 (0 : Fin 1) x b) := by
  have e : ∀ (c' : Dev nD) (x' : Fin 32), c' = c → x' = x →
      k0_pay4 (recv P c') (ix3 (0 : Fin 1) x' b) = k0_pay4 (recv P c) (ix3 (0 : Fin 1) x b) := by
    rintro _ _ rfl rfl; rfl
  exact e _ _ (Fin.ext (div_add x.isLt)) (Fin.ext (mod_add x.isLt))
/-- A group of the next partial sums is computed from that group of the finished matrix. -/
theorem nextP_grp (H : Mat F) (w : M512x256 F .bf16) (v : M256x512 F) (g : Fin 4) : pgrpOf g (nextP H w v) = k0_pay8 (grpOf g H) w v := by
  funext i
  obtain ⟨x, b, rfl⟩ : ∃ x b, i = ix2 x b := ⟨i 0, i 1, eq_ix2 i⟩
  show nextP H w v ((grpR g).emb (ix2 x b)) = _
  rw [grpR_emb]
  have e : ∀ (g' : Fin 4) (x' : Fin 128), g' = g → x' = x →
      k0_pay8 (grpOf g' H) w v (ix2 x' b) = k0_pay8 (grpOf g H) w v (ix2 x b) := by
    rintro _ _ rfl rfl; rfl
  exact e _ _ (Fin.ext (div_add x.isLt)) (Fin.ext (mod_add x.isLt))
/-- A group of the result is computed from that group of the finished matrix. -/
theorem outOf_grp (H : Mat F) (w : M512x256 F .bf16) (g : Fin 4) : ogrpOf g (outOf H w) = k0_pay25 (grpOf g H) w := by
  funext i
  obtain ⟨x, b, rfl⟩ : ∃ x b, i = ix2 x b := ⟨i 0, i 1, eq_ix2 i⟩
  show outOf H w ((ogrpR g).emb (ix2 x b)) = _
  rw [ogrpR_emb]
  have e : ∀ (g' : Fin 4) (x' : Fin 128), g' = g → x' = x →
      k0_pay25 (grpOf g' H) w (ix2 x' b) = k0_pay25 (grpOf g H) w (ix2 x b) := by
    rintro _ _ rfl rfl; rfl
  exact e _ _ (Fin.ext (div_add x.isLt)) (Fin.ext (mod_add x.isLt))

/-- The contents are what every device's statements compute. -/
theorem good (c : Dev nD) : Good (mkD I) (I c) c (OUT I c) where
  p2 := rfl
  red r := by
    funext i
    obtain ⟨a, x, b, rfl⟩ : ∃ a x b, i = ix3 a x b := ⟨i 0, i 1, i 2, eq_ix3 i⟩
    obtain rfl : a = 0 := Subsingleton.elim _ _
    have e1 : (rslotR (par r)).emb (ix3 0 x b) = ix3 (par r : Fin 2) x b := by
      funext d; apply Fin.ext
      match d with
      | ⟨0, _⟩ => rfl
      | ⟨1, _⟩ => show 0 + 1 * x.val = x.val; omega
      | ⟨2, _⟩ => show 0 + 1 * b.val = b.val; omega
    show HB (mkD I) r c ((rslotR (par r)).emb (ix3 0 x b)) = _
    rw [e1]
    exact fin_row (Ps I r) c x b
  p8 := nextP_grp _ _ _
  p15 := nextP_grp _ _ _
  out := outOf_grp _ _

end Cert.KernelIdeal.Mlp

end
-- ==== Proof.KernelIdeal.Bufs.lean ====
/-
# The scratch buffers, whole and in pieces
-/
module

public import proofs.«01_k».proof.Proof.KernelIdeal.Vals

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

attribute [local irreducible] wp

variable (D : Data F) (K : Dev nD × CI → ℕ)

/-! ## The scratch buffers cut into pieces and put together again -/

/-- Blocks of any contents make the gathered matrix. -/
theorem ag_some (c : Dev nD) (f₀ : Mat F) : (M (agrowE (F := F) c) : sProp 𝕄) ⊢ iprop(∃ f, agAll c f) := by
  have h : (M (agrowE (F := F) c) : sProp 𝕄) = bigSep Finset.univ (fun k : Dev nD => iprop(∃ f, agM.view.loc (c : Thread nD τ) ↦[(pRow k).view.set]{fullShare} f)) :=
    bigSep_congr fun k _ => congrArg BIBase.exists (funext fun f => agrow_eq c k f)
  rw [h]
  exact some_join (ℓ := agM.view.loc (c : Thread nD τ)) Finset.univ (fun k => (pRow k).view.set) Finset.univ f₀ (fun _ _ => row_disj) rows_univ

/-- The partial sums' buffer, cut into blocks; -/
theorem p_cut (c : Dev nD) (f : Mat F) : (pAll c f : sProp 𝕄) ⊢ M (prowE (F := F) c) := by
  rw [p_all]
  refine M_mono fun k => ?_
  unfold prowE; iintro H; iexists f; iexact H
/-- the gathered matrix; -/
theorem ag_cut (c : Dev nD) (f : Mat F) : (agAll c f : sProp 𝕄) ⊢ M (agrowE (F := F) c) := by
  rw [ag_all]
  refine M_mono fun k => ?_
  unfold agrowE; iintro H; iexists f; iexact H
/-- the receive buffer. -/
theorem rs_cut (c : Dev nD) (f : Slots F) : (rsAll c f : sProp 𝕄) ⊢ M (slotE (F := F) c) := by
  rw [rs_all]
  refine M_mono fun k => ?_
  unfold slotE; iintro H; iexists f; iexact H

/-- The halves of the send buffer are apart, -/
theorem halves_disj : Disjoint (rSlot 0).view.set (rSlot 1).view.set :=
  Finset.disjoint_left.mpr fun i h1 h2 => absurd (((mem_rslot 0 i).mp h1).symm.trans ((mem_rslot 1 i).mp h2)) (by decide)
/-- and are all of it. -/
theorem halves_univ : (rSlot 0).view.set ∪ (rSlot 1).view.set = (Finset.univ : Finset S2x32x512.Idx) :=
  Finset.eq_univ_iff_forall.mpr fun i => Finset.mem_union.mpr <| by
    have h : (i 0).val < 2 := (i 0).isLt
    by_cases h0 : (i 0).val = 0
    · exact Or.inl ((mem_rslot 0 i).mpr h0)
    · exact Or.inr ((mem_rslot 1 i).mpr (show (i 0).val = 1 by omega))

/-- The send buffer as its two slots, -/
theorem r_cut (c : Dev nD) (f : Pair F) : (rAll c f : sProp 𝕄) ⊢ iprop(newR (F := F) 0 c ∗ newR (F := F) 1 c) := by
  have e : (rAll c f : sProp 𝕄) = (rM.view.loc (c : Thread nD τ) ↦[(rSlot 0).view.set ∪ (rSlot 1).view.set]{fullShare} f) := by
    unfold rAll; rw [halves_univ]
  rw [e]
  refine (pointsTo_union (ℓ := rM.view.loc (c : Thread nD τ)) (q := fullShare) (f := f) halves_disj).1.trans ?_
  iintro ⟨H0, H1⟩
  unfold newR rsl
  isplitl [H0]
  · iexists f; iexact H0
  · iexists f; iexact H1
/-- and back. -/
theorem r_join (c : Dev nD) : iprop(newR (F := F) 2 c ∗ newR (F := F) 3 c) ⊢ (iprop(∃ f, rAll c f) : sProp 𝕄) := by
  unfold newR rsl
  iintro ⟨⟨%f, H0⟩, ⟨%g, H1⟩⟩
  have e (h : Pair F) : (rM.view.loc (c : Thread nD τ) ↦[(rSlot 0).view.set ∪ (rSlot 1).view.set]{fullShare} h : sProp 𝕄) = rAll c h := by
    unfold rAll; rw [halves_univ]
  iexists _
  iapply (Entails.of_eq (e ((rSlot 1).view.set.piecewise g f)))
  iapply (pointsTo_join (ℓ := rM.view.loc (c : Thread nD τ)) (q := fullShare) (f := f) (g := g) halves_disj)
  isplitl [H0]
  · iexact H0
  · iexact H1

end Cert.KernelIdeal.Mlp

end
-- ==== Proof.KernelIdeal.Creds.lean ====
/-
# The credit dealt at launch
-/
module

public import proofs.«01_k».proof.Proof.KernelIdeal.Local

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

attribute [local irreducible] wp

/-! ## The credit a device is dealt at launch -/

/-- The credits for the arrivals from peer `k` in every round. -/
def crk (c k : Dev nD) : sProp 𝕄 := bigSep Finset.univ fun r : Fin 3 => iprop(cr (F := F) r.val c k 1 ∗ cr (F := F) r.val c k 3)

/-- Transfer cells differ where their names do, -/
theorem xcell_inj {a a' : Fin 4} {k k' c c' : Dev nD} (h : xCell a k c = xCell a' k' c') : a = a' ∧ k = k' ∧ c = c' := by
  have h1 : c = c' := congrArg (fun g : GSem nD τ sig => g.1.1) h
  have h2 : xsem a k = xsem a' k' := by
    have := congrArg Prod.snd h
    exact SemLoc.dma.inj this
  exact ⟨(xsem_inj h2).1, (xsem_inj h2).2, h1⟩
/-- and barrier cells. -/
theorem bar_inj {c c' : Dev nD} (h : barCell c = barCell c') : c = c' := congrArg (fun g : GSem nD τ sig => g.1.1) h

/-- What the devices owe a barrier cell is a unit from each of the others. -/
theorem deal_bar (c : Dev nD) {t : ℕ} (ht : t / 16 = 0) (hp : peer t = c) :
    (Pipeline.launchCred (fun d => pay d t) c : sProp 𝕄) ⊢ cred (tallyAt (barCell c) 0 15) := by
  refine (Pipeline.launchCred_elim (fun d => pay d t) c (.reg barS)).trans (Entails.of_eq ?_)
  refine congrArg cred ?_
  unfold tallyAt
  refine congrArg _ (Finsupp.ext fun u => ?_)
  rw [Pipeline.launchCredit_owing]
  have e : ∀ d : Dev nD, pay d t (barCell c) u = if d = c then 0 else (Finsupp.single 0 1 : ℕ →₀ ℕ) u := fun d => by
    unfold pay
    rw [hp]
    by_cases h : d = c
    · rw [if_pos h.symm, if_pos h]; rfl
    · rw [if_neg (fun e => h e.symm), if_neg h]
      unfold payCell payIx payAmt
      rw [if_pos ht, if_pos ht, hp, ht]
      rw [tallyAt_apply, Finsupp.single_apply]
      by_cases hu : u = 0
      · subst hu; rw [if_pos ⟨rfl, rfl⟩, if_pos rfl]
      · rw [if_neg (fun h => hu h.2), if_neg (fun h => hu h.symm)]
  rw [Finset.sum_congr rfl fun d _ => e d, Finset.sum_ite, Finset.sum_const_zero, Nat.zero_add, Finset.sum_const, Finset.filter_ne' Finset.univ c,
    Finset.card_erase_of_mem (Finset.mem_univ _), Finsupp.single_apply, Finsupp.single_apply]
  by_cases hu : u = 0
  · subst hu; rw [if_pos rfl, if_pos rfl]; rfl
  · rw [if_neg (fun h => hu h.symm), if_neg (fun h => hu h.symm)]; rfl

/-- What they owe a device's arrival cells in one stage is one block from each of the others. -/
theorem deal_x (c : Dev nD) (r : ℕ) (a : Fin 4) {t : ℕ} (ht : t / 16 ≠ 0) (hr : payIx t = r) (ha : (if t / 16 % 2 = 1 then 1 else 3 : Fin 4) = a) (hp : peer t = c) :
    (Pipeline.launchCred (fun d => pay d t) c : sProp 𝕄) ⊢ bigSep (Finset.univ.erase c) fun k => cr (F := F) r c k a := by
  unfold Pipeline.launchCred
  have hsub : (Finset.univ.erase c).map ⟨fun k : Dev nD => (SemLoc.dma (xsem a k) : SemLoc sig), fun k k' h => (xsem_inj (SemLoc.dma.inj h)).2⟩ ⊆ Finset.univ := Finset.subset_univ _
  refine (bigSep_subset hsub).trans ?_
  rw [bigSep_map]
  refine bigSep_mono fun k hk => ?_
  show (cred (tallyOn (xCell a k c) (launchCredit (Pipeline.owing fun d => pay d t) 0 (xCell a k c))) : sProp 𝕄) ⊢ _
  refine Entails.of_eq ?_
  have hk : k ≠ c := Finset.ne_of_mem_erase hk
  unfold cr
  refine congrArg cred ?_
  unfold tallyAt
  refine congrArg _ (Finsupp.ext fun u => ?_)
  rw [Pipeline.launchCredit_owing]
  have e : ∀ d : Dev nD, pay d t (xCell a k c) u = if d = k then (Finsupp.single r N : ℕ →₀ ℕ) u else 0 := fun d => by
    unfold pay
    rw [hp]
    by_cases h : d = c
    · rw [if_pos h.symm, if_neg (fun e => hk (e.symm.trans h))]; rfl
    · rw [if_neg (fun e => h e.symm)]
      unfold payCell payAmt
      rw [if_neg ht, if_neg ht, hp, hr, ha, tallyAt_apply, Finsupp.single_apply]
      by_cases hd : d = k
      · subst hd
        rw [if_pos rfl]
        by_cases hu : u = r
        · subst hu; rw [if_pos ⟨rfl, rfl⟩, if_pos rfl]
        · rw [if_neg (fun h => hu h.2), if_neg (fun h => hu h.symm)]
      · rw [if_neg hd, if_neg (fun h => hd (xcell_inj h.1).2.1.symm)]
  rw [Finset.sum_congr rfl fun d _ => e d, Finset.sum_ite_eq' Finset.univ k, if_pos (Finset.mem_univ _)]

/-- The seven payments whose peer is `c`. -/
theorem at_peer (c : Dev nD) (b : ℕ) : (c.val + 16 * b) / 16 = b ∧ peer (c.val + 16 * b) = c := by
  have h : c.val < 16 := c.isLt
  exact ⟨by omega, Fin.ext (show (c.val + 16 * b) % 16 = c.val by omega)⟩

/-- All a device is dealt: the units of its barrier, and per peer and round the two arrivals. -/
theorem creds (c : Dev nD) : (Pipeline.launchCred (fun d => rem d 0) c : sProp 𝕄)
    ⊢ iprop(cred (tallyAt (barCell c) 0 15) ∗ bigSep (Finset.univ.erase c) (crk (F := F) c)) := by
  have hc : c.val < 16 := c.isLt
  have e0 : (Pipeline.launchCred (fun d => rem d 0) c : sProp 𝕄) = bigSep (Finset.Ico 0 112) fun t => Pipeline.launchCred (fun d => pay d t) c :=
    Pipeline.launchCred_sum (Finset.Ico 0 112) (fun t d => pay d t) c
  rw [e0]
  have hsub : (Finset.univ : Finset (Fin 7)).map ⟨fun b : Fin 7 => c.val + 16 * b.val, fun b b' h => Fin.ext (by
      have h : c.val + 16 * b.val = c.val + 16 * b'.val := h
      omega)⟩ ⊆ Finset.Ico 0 112 := by
    intro t ht
    obtain ⟨b, -, rfl⟩ := Finset.mem_map.mp ht
    have hb := b.isLt
    exact Finset.mem_Ico.mpr ⟨Nat.zero_le _, show c.val + 16 * b.val < 112 by omega⟩
  refine (bigSep_subset hsub).trans ?_
  rw [bigSep_map, bigSep_univ_eq_bigSepL [(0 : Fin 7), 1, 2, 3, 4, 5, 6] (by decide) (by decide)]
  show iprop(Pipeline.launchCred (fun d => pay d (c.val + 16 * 0)) c ∗ Pipeline.launchCred (fun d => pay d (c.val + 16 * 1)) c ∗ Pipeline.launchCred (fun d => pay d (c.val + 16 * 2)) c
    ∗ Pipeline.launchCred (fun d => pay d (c.val + 16 * 3)) c ∗ Pipeline.launchCred (fun d => pay d (c.val + 16 * 4)) c ∗ Pipeline.launchCred (fun d => pay d (c.val + 16 * 5)) c
    ∗ Pipeline.launchCred (fun d => pay d (c.val + 16 * 6)) c) ⊢ _
  have hx (b r : ℕ) (a : Fin 4) (hb : b ≠ 0) (hr : (b - 1) / 2 = r) (ha : (if b % 2 = 1 then 1 else 3 : Fin 4) = a) :
      (Pipeline.launchCred (fun d => pay d (c.val + 16 * b)) c : sProp 𝕄) ⊢ bigSep (Finset.univ.erase c) fun k => cr (F := F) r c k a :=
    deal_x c r a (by rw [(at_peer c b).1]; exact hb) (by unfold payIx; rw [(at_peer c b).1]; exact hr) (by rw [(at_peer c b).1]; exact ha) (at_peer c b).2
  iintro ⟨H0, H1, H2, H3, H4, H5, H6⟩
  ihave H0 := (deal_bar (F := F) c (at_peer c 0).1 (at_peer c 0).2) $$ H0
  ihave H1 := (hx 1 0 1 (by decide) (by decide) (by decide)) $$ H1
  ihave H2 := (hx 2 0 3 (by decide) (by decide) (by decide)) $$ H2
  ihave H3 := (hx 3 1 1 (by decide) (by decide) (by decide)) $$ H3
  ihave H4 := (hx 4 1 3 (by decide) (by decide) (by decide)) $$ H4
  ihave H5 := (hx 5 2 1 (by decide) (by decide) (by decide)) $$ H5
  ihave H6 := (hx 6 2 3 (by decide) (by decide) (by decide)) $$ H6
  isplitl [H0]; · iexact H0
  have e (k : Dev nD) : (crk (F := F) c k : sProp 𝕄) = iprop((cr (F := F) 0 c k 1 ∗ cr (F := F) 0 c k 3) ∗ (cr (F := F) 1 c k 1 ∗ cr (F := F) 1 c k 3) ∗ (cr (F := F) 2 c k 1 ∗ cr (F := F) 2 c k 3)) := by
    unfold crk; exact bigSep_univ_eq_bigSepL [(0 : Fin 3), 1, 2] (by decide) (by decide) _
  iapply (Entails.of_eq (bigSep_congr fun k _ => (e k).symm))
  simp only [bsep]
  isplitl [H1 H2]
  · isplitl [H1]; · iexact H1
    iexact H2
  isplitl [H3 H4]
  · isplitl [H3]; · iexact H3
    iexact H4
  isplitl [H5]; · iexact H5
  iexact H6

end Cert.KernelIdeal.Mlp

end
-- ==== Proof.KernelIdeal.Cells.lean ====
/-
# The protocol's cells, set up at launch
-/
module

public import proofs.«01_k».proof.Proof.KernelIdeal.States

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

attribute [local irreducible] wp

variable (D : Data F)

/-! ## The cells and tokens minted at launch -/

/-- The kernel's own transfer semaphores. -/
def osem (ak : Fin 4 × Dev nD) : SemLoc sig := .dma (xsem ak.1 ak.2)

/-- The kernel's own semaphores are scoped and apart. -/
theorem ownSemFacts : Pipeline.OwnSemFacts cfg0.spec osem where
  isScoped := by decide +kernel
  inj := fun x y h => by
    have h := xsem_inj (SemLoc.dma.inj h)
    exact Prod.ext h.1 h.2
  disj := by decide +kernel

/-- A device's cells differ, -/
theorem csem_inj : Function.Injective csem := by
  rintro (_ | ⟨a, k⟩) (_ | ⟨a', k'⟩) h
  · rfl
  · exact absurd h (by unfold csem; exact fun h => by cases h)
  · exact absurd h (by unfold csem; exact fun h => by cases h)
  · have h := xsem_inj (SemLoc.dma.inj h)
    exact congrArg some (Prod.ext h.1 h.2)
/-- and those of all devices. -/
theorem kcell_inj : Function.Injective (kcell : Dev nD × CI → GSem nD τ sig) := by
  rintro ⟨c, x⟩ ⟨c', x'⟩ h
  have h1 : c = c' := congrArg (fun g : GSem nD τ sig => g.1.1) h
  have h2 : x = x' := csem_inj (congrArg Prod.snd h)
  rw [h1, h2]
def allCells : Finset (GSem nD τ sig) := Finset.univ.map ⟨kcell, kcell_inj⟩

/-- The duties of the cells of device `c` that concern peer `k`: its barrier's unit from `k`, and per family and round
    the one block. -/
abbrev TI : Type := (Dev nD × Dev nD) × Option (Fin 4 × Fin 3)
def tokOf : TI → GSem nD τ sig × ℕ × Dev nD
  | ((c, k), none) => (barCell c, 0, k)
  | ((c, k), some (a, r)) => (xCell a k c, r.val, 0)
/-- The payments' tokens differ. -/
theorem tokOf_inj : Function.Injective tokOf := by
  rintro ⟨⟨c, k⟩, _ | ⟨a, r⟩⟩ ⟨⟨c', k'⟩, _ | ⟨a', r'⟩⟩ h
  · have h1 : c = c' := congrArg (fun x : GSem nD τ sig × ℕ × Dev nD => x.1.1.1) h
    have h2 : k = k' := congrArg (fun x : GSem nD τ sig × ℕ × Dev nD => x.2.2) h
    rw [h1, h2]
  · exact absurd (congrArg (fun x : GSem nD τ sig × ℕ × Dev nD => x.1.2) h) (fun h => by cases h)
  · exact absurd (congrArg (fun x : GSem nD τ sig × ℕ × Dev nD => x.1.2) h) (fun h => by cases h)
  · have h1 : c = c' := congrArg (fun x : GSem nD τ sig × ℕ × Dev nD => x.1.1.1) h
    have h2 : (SemLoc.dma (xsem a k) : SemLoc sig) = .dma (xsem a' k') := congrArg (fun x : GSem nD τ sig × ℕ × Dev nD => x.1.2) h
    have h3 : r.val = r'.val := congrArg (fun x : GSem nD τ sig × ℕ × Dev nD => x.2.1) h
    have h4 := xsem_inj (SemLoc.dma.inj h2)
    rw [h1, h4.1, h4.2, Fin.ext h3]
def allToks : Finset (GSem nD τ sig × ℕ × Dev nD) := Finset.univ.map ⟨tokOf, tokOf_inj⟩

/-- A family over an option is its value at none and the rest. -/
theorem opt_split {α : Type} [Fintype α] [DecidableEq α] (Φ : Option α → sProp 𝕄) :
    bigSep Finset.univ Φ = iprop(Φ none ∗ bigSep Finset.univ fun a => Φ (some a)) := by
  rw [bigSep_univ_at Φ none]
  have e : (Finset.univ : Finset (Option α)).erase none = Finset.univ.map ⟨some, Option.some_injective α⟩ := by
    ext x
    rw [Finset.mem_erase, Finset.mem_map]
    constructor
    · rintro ⟨h, -⟩
      obtain ⟨a, rfl⟩ := Option.ne_none_iff_exists'.mp h
      exact ⟨a, Finset.mem_univ _, rfl⟩
    · rintro ⟨a, -, rfl⟩
      exact ⟨fun h => (by cases h), Finset.mem_univ _⟩
  rw [e, bigSep_map]; rfl

/-- Two nested families commute. -/
theorem nest_comm {α β : Type} [Fintype α] [Fintype β] (Φ : α → β → sProp 𝕄) :
    (bigSep Finset.univ fun a => bigSep Finset.univ fun b => Φ a b) = bigSep Finset.univ fun b => bigSep Finset.univ fun a => Φ a b := by
  rw [← bigSep_univ_prod (fun x : α × β => Φ x.1 x.2), bigSep_univ_equiv (Equiv.prodComm β α), bigSep_univ_prod]; rfl

/-- The tokens of `c`'s own departures to `k`, -/
def tkOwn (c k : Dev nD) : sProp 𝕄 := bigSep Finset.univ fun r : Fin 3 =>
  iprop(dutyTok ER (xCell 0 k c) r.val (0 : Dev nD) ∗ dutyTok ER (xCell 2 k c) r.val (0 : Dev nD))
/-- and those of `c`'s cells that `k` pays. -/
def tkOth (c k : Dev nD) : sProp 𝕄 := iprop(dutyTok ER (barCell c) 0 k ∗ bigSep Finset.univ fun r : Fin 3 =>
  iprop(dutyTok ER (xCell 1 k c) r.val (0 : Dev nD) ∗ dutyTok ER (xCell 3 k c) r.val (0 : Dev nD)))

/-- A pair's tokens: departures, and what a peer pays. -/
theorem tok_split (c k : Dev nD) : bigSep Finset.univ (fun x => (dutyTok ER (tokOf ((c, k), x)).1 (tokOf ((c, k), x)).2.1 (tokOf ((c, k), x)).2.2 : sProp 𝕄))
    ⊢ iprop(tkOwn (F := F) c k ∗ tkOth (F := F) c k) := by
  rw [opt_split, bigSep_univ_prod, bigSep_univ_eq_bigSepL [(0 : Fin 4), 1, 2, 3] (by decide) (by decide)]
  unfold tkOwn tkOth
  show iprop(dutyTok ER (barCell c) 0 k ∗ (bigSep Finset.univ fun r : Fin 3 => dutyTok ER (xCell 0 k c) r.val (0 : Dev nD))
    ∗ (bigSep Finset.univ fun r : Fin 3 => dutyTok ER (xCell 1 k c) r.val (0 : Dev nD)) ∗ (bigSep Finset.univ fun r : Fin 3 => dutyTok ER (xCell 2 k c) r.val (0 : Dev nD))
    ∗ (bigSep Finset.univ fun r : Fin 3 => dutyTok ER (xCell 3 k c) r.val (0 : Dev nD))) ⊢ _
  rw [bigSep_sep', bigSep_sep']
  iintro ⟨HB, H0, H1, H2, H3⟩
  isplitl [H0 H2]
  · isplitl [H0]; · iexact H0
    iexact H2
  isplitl [HB]; · iexact HB
  isplitl [H1]; · iexact H1
  iexact H3

/-- What the launch deals a device before the invariants are allocated. -/
def G0 (c : Dev nD) : sProp 𝕄 := iprop((bigSep Finset.univ fun x : CI => roundState ER (sched D) (kcell (c, x)) 0)
  ∗ (bigSep Finset.univ fun x : CI => iprop(atPos ER (kcell (c, x)) 0 ∅ 0 ∗ reached ER (kcell (c, x)) 0))
  ∗ bigSep Finset.univ fun k : Dev nD => iprop(tkOwn (F := F) c k ∗ tkOth (F := F) c k))

/-- The launch's element gives every device that. -/
theorem fund_all : BI.own (ER (initOf allCells allToks)) ⊢ (|==> bigSep Finset.univ (G0 D) : sProp 𝕄) := by
  have hX (Φ : GSem nD τ sig → sProp 𝕄) : bigSep allCells Φ = bigSep Finset.univ fun c : Dev nD => bigSep Finset.univ fun x : CI => Φ (kcell (c, x)) := by
    unfold allCells; rw [bigSep_map, bigSep_univ_prod]; rfl
  have hT : bigSep allToks (fun x => (dutyTok ER x.1 x.2.1 x.2.2 : sProp 𝕄))
      ⊢ bigSep Finset.univ fun c : Dev nD => bigSep Finset.univ fun k : Dev nD => iprop(tkOwn (F := F) c k ∗ tkOth (F := F) c k) := by
    unfold allToks; rw [bigSep_map, bigSep_univ_prod, bigSep_univ_prod]
    exact bigSep_mono fun c _ => bigSep_mono fun k _ => tok_split c k
  iintro HX
  imod (Rounds.fund ER (sched D) allCells allToks) $$ HX with ⟨Hst, Hr, Hat, Htok⟩
  imodintro
  ihave Hst' := (Entails.of_eq (hX fun g => roundState ER (sched D) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G0
  iapply (Entails.of_eq (bigSep_sep' _ _ _).symm)
  isplitl [Hst']; · iexact Hst'
  iapply (Entails.of_eq (bigSep_sep' _ _ _).symm)
  isplitl [Hat' Hr']
  · iapply (Entails.of_eq (bigSep_congr fun c _ => (bigSep_sep' _ _ _).symm))
    iapply (Entails.of_eq (bigSep_sep' _ _ _).symm)
    isplitl [Hat'] <;> iassumption
  iexact Htok'

/-! ## The invariants -/

/-- The barrier is the one counter outside the scope. -/
theorem unscoped_eq (c : Dev nD) : (unscopedSems0 c : sProp 𝕄) = semVal (barCell c) 0 := by
  unfold unscopedSems0
  rw [bigSep_eq_bigSepL_of_eq [SemLoc.reg barS] (by decide +kernel) (by decide)]; rfl

/-- All counters of a device's cells at zero. -/
theorem sems_all (c : Dev nD) : iprop(Pipeline.ownSems0 (Ix := ℕ) (Name := ℕ) (U := UU) (Lvl := ℕ) (Val := Elt F) (τ := τ) osem c ∗ unscopedSems0 c)
    ⊢ (bigSep Finset.univ fun x : CI => semVal (kcell (c, x)) 0 : sProp 𝕄) := by
  rw [unscoped_eq, opt_split]
  iintro ⟨HO, HB⟩
  isplitl [HB]; · iexact HB
  unfold Pipeline.ownSems0
  iexact HO

/-- Every cell gets its invariant. -/
theorem alloc (c : Dev nD) :
    iprop(Pipeline.ownSems0 (Ix := ℕ) (Name := ℕ) (U := UU) (Lvl := ℕ) (Val := Elt F) (τ := τ) osem c ∗ unscopedSems0 c ∗ G0 D c)
      ⊢ |={Set.univ}=> iprop((bigSep Finset.univ fun x : CI => iprop(∃ κ : ℕ, cellInv ER (sched D) κ (kcell (c, x))))
          ∗ (bigSep Finset.univ fun x : CI => iprop(atPos ER (kcell (c, x)) 0 ∅ 0 ∗ reached ER (kcell (c, x)) 0))
          ∗ bigSep Finset.univ fun k : Dev nD => iprop(tkOwn (F := F) c k ∗ tkOth (F := F) c k)) := by
  unfold G0
  iintro ⟨Hos, Hus, Hst, Hat, Htok⟩
  ihave Hv := (sems_all (F := F) c) $$ [Hos Hus]
  · isplitl [Hos] <;> iassumption
  imod (show iprop((bigSep Finset.univ fun x : CI => semVal (kcell (c, x)) 0) ∗ bigSep Finset.univ fun x : CI => roundState ER (sched D) (kcell (c, x)) 0)
      ⊢ (|={Set.univ}=> bigSep Finset.univ fun x : CI => iprop(∃ κ : ℕ, cellInv ER (sched D) κ (kcell (c, x))) : sProp 𝕄) from by
        rw [← bigSep_sep']
        exact (bigSep_mono fun x _ => (Rounds.body_intro ER (sched D) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

/-- The invariants and marks, before the level facts join them. -/
def recs (K : Dev nD × CI → ℕ) : sProp 𝕄 :=
  iprop((bigSep Finset.univ fun ck : Dev nD × CI => cellInv ER (sched D) (K ck) (kcell ck))
    ∗ bigSep Finset.univ fun ck : Dev nD × CI => reached ER (kcell ck) 0)
instance recs_persistent (K : Dev nD × CI → ℕ) : BI.Persistent (recs D K) := by unfold recs; infer_instance

/-- The positions in the four cells of peer `k`. -/
def posK (c k : Dev nD) : sProp 𝕄 := bigSep Finset.univ fun a : Fin 4 => atPos ER (xCell a k c) 0 ∅ 0
/-- The tokens device `c` pays with towards `k`. -/
def tk (c k : Dev nD) : sProp 𝕄 := iprop(tkOwn (F := F) c k ∗ tkOth (F := F) k c)
/-- What device `c` alone holds of the protocol. -/
def lin (c : Dev nD) : sProp 𝕄 := iprop(atPos ER (barCell c) 0 ∅ 0 ∗ M (posK (F := F) c) ∗ M (tk (F := F) c))
def G1 (c : Dev nD) : sProp 𝕄 := iprop(∃ K, recs D K ∗ lin (F := F) c)

/-- A device's positions: the barrier's, and by peer. -/
theorem pos_split (c : Dev nD) : (bigSep Finset.univ fun x : CI => (atPos ER (kcell (c, x)) 0 ∅ 0 : sProp 𝕄)) ⊢ iprop(atPos ER (barCell c) 0 ∅ 0 ∗ M (posK (F := F) c)) := by
  rw [opt_split, bigSep_univ_prod, nest_comm]
  unfold M posK
  iintro ⟨HB, H⟩
  isplitl [HB]; · iexact HB
  iexact H

/-- Every pair of devices exchanges the tokens they pay each other with. -/
theorem tok_swap : (bigSep Finset.univ fun c : Dev nD => bigSep Finset.univ fun k : Dev nD => (iprop(tkOwn (F := F) c k ∗ tkOth (F := F) c k) : sProp 𝕄))
    ⊢ bigSep Finset.univ fun c : Dev nD => M (tk (F := F) c) := by
  have e1 : (bigSep Finset.univ fun c : Dev nD => bigSep Finset.univ fun k : Dev nD => (iprop(tkOwn (F := F) c k ∗ tkOth (F := F) c k) : sProp 𝕄))
      = iprop((bigSep Finset.univ fun c : Dev nD => bigSep Finset.univ fun k : Dev nD => tkOwn (F := F) c k) ∗ bigSep Finset.univ fun c : Dev nD => bigSep Finset.univ fun k : Dev nD => tkOth (F := F) c k) := by
    rw [← bigSep_sep']; exact bigSep_congr fun c _ => bigSep_sep' _ _ _
  have e2 : (bigSep Finset.univ fun c : Dev nD => (M (tk (F := F) c) : sProp 𝕄))
      = iprop((bigSep Finset.univ fun c : Dev nD => bigSep Finset.univ fun k : Dev nD => tkOwn (F := F) c k) ∗ bigSep Finset.univ fun c : Dev nD => bigSep Finset.univ fun k : Dev nD => tkOth (F := F) k c) := by
    rw [← bigSep_sep']; exact bigSep_congr fun c _ => bigSep_sep' _ _ _
  rw [e1, e2]
  exact sep_mono_right (Entails.of_eq (nest_comm _))

/-- The records and a device's share make its start; -/
theorem G1_intro (K : Dev nD × CI → ℕ) (c : Dev nD) : iprop(recs D K ∗ lin (F := F) c) ⊢ G1 D c := by
  unfold G1; iintro H; iexists K; iexact H
/-- its positions and tokens make its share. -/
theorem lin_intro (c : Dev nD) : iprop((atPos ER (barCell c) 0 ∅ 0 ∗ M (posK (F := F) c)) ∗ M (tk (F := F) c)) ⊢ lin (F := F) c := by
  unfold lin
  iintro ⟨⟨H1, H2⟩, H3⟩
  isplitl [H1]; · iexact H1
  isplitl [H2]; · iexact H2
  iexact H3

/-- What was allotted by cell, by device. -/
theorem regroup :
    (bigSep Finset.univ fun c : Dev nD => iprop((bigSep Finset.univ fun x : CI => iprop(∃ κ : ℕ, cellInv ER (sched D) κ (kcell (c, x))))
          ∗ (bigSep Finset.univ fun x : CI => iprop(atPos ER (kcell (c, x)) 0 ∅ 0 ∗ reached ER (kcell (c, x)) 0))
          ∗ bigSep Finset.univ fun k : Dev nD => iprop(tkOwn (F := F) c k ∗ tkOth (F := F) c k)) : sProp 𝕄)
      ⊢ bigSep Finset.univ (G1 D) := by
  rw [bigSep_sep', bigSep_sep', ← bigSep_univ_prod (fun ck : Dev nD × CI => iprop(∃ κ : ℕ, cellInv ER (sched D) κ (kcell ck))),
    bigSep_congr (s := Finset.univ) (fun (c : Dev nD) _ => bigSep_sep' Finset.univ (fun x : CI => (atPos ER (kcell (c, x)) 0 ∅ 0 : sProp 𝕄)) (fun x => reached ER (kcell (c, x)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (sched D) κ (kcell ck) : sProp 𝕄))) $$ HI
  icases HK with ⟨%K, #HI⟩
  ihave Htk := (tok_swap (F := F)) $$ Htok
  have hpos : (bigSep Finset.univ fun c : Dev nD => bigSep Finset.univ fun x : CI => (atPos ER (kcell (c, x)) 0 ∅ 0 : sProp 𝕄))
      ⊢ bigSep Finset.univ fun c : Dev nD => iprop(atPos ER (barCell c) 0 ∅ 0 ∗ M (posK (F := F) c)) := bigSep_mono fun c _ => pos_split (F := F) c
  ihave Hat := hpos $$ Hat
  ihave HA := (bigSep_intro_persistent (S := Finset.univ) (R := recs D K) (Φ := fun _ : Dev nD => recs D K) fun _ _ => Entails.refl _) $$ []
  · unfold recs; isplitr; · iexact HI
    iexact HR
  have e : (bigSep Finset.univ (fun c : Dev nD => iprop(recs D K ∗ lin (F := F) c)) : sProp 𝕄) ⊢ bigSep Finset.univ (G1 D) :=
    bigSep_mono fun c _ => G1_intro D K c
  iapply e
  iapply (Entails.of_eq (bigSep_sep' _ _ _).symm)
  isplitl [HA]; · iexact HA
  have e' : iprop((bigSep Finset.univ fun c : Dev nD => iprop(atPos ER (barCell c) 0 ∅ 0 ∗ M (posK (F := F) c))) ∗ bigSep Finset.univ fun c : Dev nD => M (tk (F := F) c))
      ⊢ (bigSep Finset.univ fun c : Dev nD => lin (F := F) c : sProp 𝕄) := by
    rw [← bigSep_sep']
    exact bigSep_mono fun c _ => lin_intro c
  iapply e'
  isplitl [Hat]; · iexact Hat
  iexact Htk

/-- The one update over all devices at launch. -/
theorem glob : (bigSep Finset.univ fun c => iprop(Pipeline.ownSems0 (Ix := ℕ) (Name := ℕ) (U := UU) (Lvl := ℕ) (Val := Elt F) (τ := τ) osem c ∗ unscopedSems0 c ∗ G0 D c) : sProp 𝕄)
    ⊢ |={Set.univ}=> bigSep Finset.univ (G1 D) :=
  ((bigSep_mono fun c _ => alloc D c).trans (bigSep_fupd _ _)).trans (BI.fupd_mono (regroup D))

end Cert.KernelIdeal.Mlp

end
-- ==== Proof.KernelIdeal.Start.lean ====
/-
# A device's run from the launch to its end
-/
module

public import proofs.«01_k».proof.Proof.KernelIdeal.Body
public import proofs.«01_k».proof.Proof.KernelIdeal.Vals
public import proofs.«01_k».proof.Proof.KernelIdeal.Bufs
public import proofs.«01_k».proof.Proof.KernelIdeal.Creds
public import proofs.«01_k».proof.Proof.KernelIdeal.Cells

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

attribute [local irreducible] wp

variable (D : Data F) (K : Dev nD × CI → ℕ)

/-! ## Before and after the body -/

/-- What device `c` starts from, but for its buffers. -/
def start (c : Dev nD) : sProp 𝕄 := iprop((∃ K, records D K ∗ lin (F := F) c) ∗ cred (tallyAt (barCell c) 0 15) ∗ bigSep (Finset.univ.erase c) (crk (F := F) c))

/-- The scratch buffers with any contents. -/
def scratch (c : Dev nD) : sProp 𝕄 := iprop((∃ f : Mat F, pAll c f) ∗ (∃ f : Slots F, rsAll c f) ∗ (∃ f : Mat F, agAll c f) ∗ (∃ f : Pair F, rAll c f) ∗ (∃ f : M512x256 F .bf16, own (F := F) actM c f))

/-- Every counter of the device's cells at zero, the scratch buffers whole. -/
def done (c : Dev nD) : sProp 𝕄 := iprop(scratch (F := F) c ∗ semVal (barCell c) 0 ∗ M fun k => bigSep Finset.univ fun a : Fin 4 => semVal (xCell a k c) 0)

/-- The four positions of peer `k`, one by one. -/
theorem posK_eq (c k : Dev nD) : (posK (F := F) c k : sProp 𝕄) = iprop(atPos ER (xCell 0 k c) 0 ∅ 0 ∗ atPos ER (xCell 1 k c) 0 ∅ 0 ∗ atPos ER (xCell 2 k c) 0 ∅ 0 ∗ atPos ER (xCell 3 k c) 0 ∅ 0) :=
  bigSep_univ_eq_bigSepL [(0 : Fin 4), 1, 2, 3] (by decide) (by decide) _
/-- The credits of a peer, written out; -/
theorem crk_eq (c k : Dev nD) : (crk (F := F) c k : sProp 𝕄) = iprop((cr (F := F) 0 c k 1 ∗ cr (F := F) 0 c k 3) ∗ (cr (F := F) 1 c k 1 ∗ cr (F := F) 1 c k 3) ∗ (cr (F := F) 2 c k 1 ∗ cr (F := F) 2 c k 3)) :=
  bigSep_univ_eq_bigSepL [(0 : Fin 3), 1, 2] (by decide) (by decide) _
/-- the departures' tokens; -/
theorem tkOwn_eq (c k : Dev nD) : (tkOwn (F := F) c k : sProp 𝕄) = iprop((dutyTok ER (xCell 0 k c) 0 (0 : Dev nD) ∗ dutyTok ER (xCell 2 k c) 0 (0 : Dev nD))
    ∗ (dutyTok ER (xCell 0 k c) 1 (0 : Dev nD) ∗ dutyTok ER (xCell 2 k c) 1 (0 : Dev nD)) ∗ (dutyTok ER (xCell 0 k c) 2 (0 : Dev nD) ∗ dutyTok ER (xCell 2 k c) 2 (0 : Dev nD))) :=
  bigSep_univ_eq_bigSepL [(0 : Fin 3), 1, 2] (by decide) (by decide) _
/-- the arrivals' tokens. -/
theorem tkOth_eq (c k : Dev nD) : (tkOth (F := F) k c : sProp 𝕄) = iprop(dutyTok ER (barCell k) 0 c ∗ (dutyTok ER (xCell 1 c k) 0 (0 : Dev nD) ∗ dutyTok ER (xCell 3 c k) 0 (0 : Dev nD))
    ∗ (dutyTok ER (xCell 1 c k) 1 (0 : Dev nD) ∗ dutyTok ER (xCell 3 c k) 1 (0 : Dev nD)) ∗ (dutyTok ER (xCell 1 c k) 2 (0 : Dev nD) ∗ dutyTok ER (xCell 3 c k) 2 (0 : Dev nD))) := by
  unfold tkOth
  rw [bigSep_univ_eq_bigSepL [(0 : Fin 3), 1, 2] (by decide) (by decide)]; rfl

/-- A position with its mark. -/
theorem ps_intro (c k : Dev nD) (a : Fin 4) : iprop(records D K ∗ atPos ER (xCell a k c) 0 ∅ 0) ⊢ (ps (F := F) 0 c k a : sProp 𝕄) := by
  iintro ⟨#HR, H⟩
  unfold ps
  isplitl [H]; · iexact H
  iapply (rec_reached D K (c, some (a, k))) $$ HR

/-- What a round with `k` uses, put together. -/
theorem round_intro (r : ℕ) (c k : Dev nD) : iprop((dutyTok ER (xCell 0 k c) r (0 : Dev nD) ∗ dutyTok ER (xCell 2 k c) r (0 : Dev nD))
      ∗ (dutyTok ER (xCell 1 c k) r (0 : Dev nD) ∗ dutyTok ER (xCell 3 c k) r (0 : Dev nD)) ∗ cr (F := F) r c k 1 ∗ cr (F := F) r c k 3) ⊢ (round (F := F) r c k : sProp 𝕄) := by
  iintro ⟨⟨H0, H2⟩, ⟨H1, H3⟩, HC1, HC3⟩
  unfold round tokA tokB
  isplitl [H0 H1]
  · isplitl [H0] <;> iassumption
  isplitl [HC1]; · iexact HC1
  isplitl [H2 H3]
  · isplitl [H2] <;> iassumption
  iexact HC3

/-- What concerns peer `k` before the handshake. -/
theorem EI_intro (c k : Dev nD) : iprop(records D K ∗ (posK (F := F) c k ∗ tk (F := F) c k ∗ crk (F := F) c k) ∗ slotE (F := F) c k ∗ prowE (F := F) c k ∗ agrowE (F := F) c k) ⊢ (EI (F := F) c k : sProp 𝕄) := by
  unfold tk
  rw [posK_eq, crk_eq, tkOwn_eq, tkOth_eq]
  iintro ⟨#HR, ⟨⟨P0, P1, P2, P3⟩, ⟨⟨A0, A1, A2⟩, ⟨HB, B0, B1, B2⟩⟩, ⟨C0, C1, C2⟩⟩, HS, HP, HA⟩
  unfold EI
  isplitl [HB]; · iexact HB
  isplitl [HS]; · iexact HS
  isplitl [HP]; · iexact HP
  isplitl [HA]; · iexact HA
  isplitl [P0]; · iapply (ps_intro D K c k 0) $$ [P0]; isplitr; · iexact HR
                  iexact P0
  isplitl [P1]; · iapply (ps_intro D K c k 1) $$ [P1]; isplitr; · iexact HR
                  iexact P1
  isplitl [P3]; · iapply (ps_intro D K c k 3) $$ [P3]; isplitr; · iexact HR
                  iexact P3
  isplitl [P2]; · iapply (ps_intro D K c k 2) $$ [P2]; isplitr; · iexact HR
                  iexact P2
  isplitl [A0 B0 C0]
  · iapply (round_intro (F := F) 0 c k)
    isplitl [A0]; · iexact A0
    isplitl [B0]; · iexact B0
    iexact C0
  unfold fut
  rw [if_pos rfl]
  isplitl [A1 B1 C1]
  · iapply (round_intro (F := F) 1 c k)
    isplitl [A1]; · iexact A1
    isplitl [B1]; · iexact B1
    iexact C1
  iapply (round_intro (F := F) 2 c k)
  isplitl [A2]; · iexact A2
  isplitl [B2]; · iexact B2
  iexact C2

/-- The pieces of all the peers before the handshake; the positions in the device's own transfer cells stay apart. -/
theorem sI_intro (c : Dev nD) : iprop(records D K ∗ M (posK (F := F) c) ∗ M (tk (F := F) c) ∗ bigSep (Finset.univ.erase c) (crk (F := F) c)
      ∗ M (slotE (F := F) c) ∗ M (prowE (F := F) c) ∗ M (agrowE (F := F) c)) ⊢ (iprop(M (sI (F := F) c) ∗ posK (F := F) c c) : sProp 𝕄) := by
  unfold M
  rw [bigSep_univ_at (posK (F := F) c) c, bigSep_univ_at (tk (F := F) c) c, bigSep_univ_at (slotE (F := F) c) c, bigSep_univ_at (prowE (F := F) c) c,
    bigSep_univ_at (agrowE (F := F) c) c, bigSep_univ_at (sI (F := F) c) c]
  iintro ⟨#HR, ⟨Pc, HP⟩, ⟨-, HT⟩, HC, ⟨Sc, HS⟩, ⟨Qc, HQ⟩, ⟨Ac, HA⟩⟩
  isplitr [Pc]
  · isplitl [Sc Qc Ac]
    · unfold sI; rw [mix_self]; unfold ownI
      isplitl [Qc]; · iexact Qc
      isplitl [Sc]; · iexact Sc
      iexact Ac
    · ihave HRR := (bigSep_intro_persistent (S := Finset.univ.erase c) (R := records D K) (Φ := fun _ : Dev nD => records D K) fun _ _ => Entails.refl _) $$ HR
      have e : bigSep (Finset.univ.erase c) (fun k => iprop(records D K ∗ (posK (F := F) c k ∗ tk (F := F) c k ∗ crk (F := F) c k) ∗ slotE (F := F) c k ∗ prowE (F := F) c k ∗ agrowE (F := F) c k))
          ⊢ (bigSep (Finset.univ.erase c) (sI (F := F) c) : sProp 𝕄) := bmono fun k hk => by
        unfold sI; rw [mix_ne _ _ (Finset.ne_of_mem_erase hk)]; exact EI_intro D K c k
      iapply e
      simp only [bsep]
      isplitl [HRR]; · iexact HRR
      isplitl [HP HT HC]
      · isplitl [HP]; · iexact HP
        isplitl [HT]; · iexact HT
        iexact HC
      isplitl [HS]; · iexact HS
      isplitl [HQ]; · iexact HQ
      iexact HA
  · iexact Pc

/-! ## Closing the cells -/

/-- A transfer cell past its rounds gives its counter back, zero. -/
theorem close_x (c k : Dev nD) (a : Fin 4) {R : ℕ} (h : ∀ r, R ≤ r → (sched (F := F) D).duties (xCell a k c) r = ∅) :
    iprop(records D K ∗ atPos ER (xCell a k c) R ∅ 0) ⊢ (|={Set.univ}=> semVal (xCell a k c) 0 : sProp 𝕄) := by
  iintro ⟨#HR, H⟩
  iapply (Rounds.cell_close ER (sched D) (Set.mem_univ (K (c, some (a, k)))) (fun h => h) (R := R) h)
  isplitr; · iapply (rec_inv D K (c, some (a, k))) $$ HR
  iexact H

/-- The four counters of a peer, written out. -/
theorem sem4 (c k : Dev nD) : (bigSep Finset.univ fun a : Fin 4 => (semVal (xCell a k c) 0 : sProp 𝕄)) = iprop(semVal (xCell 0 k c) 0 ∗ semVal (xCell 1 k c) 0 ∗ semVal (xCell 2 k c) 0 ∗ semVal (xCell 3 k c) 0) :=
  bigSep_univ_eq_bigSepL [(0 : Fin 4), 1, 2, 3] (by decide) (by decide) _

/-- The four cells of a peer close after the third round, -/
theorem close_peer (c k : Dev nD) : iprop(records D K ∗ ps (F := F) 3 c k 0 ∗ ps (F := F) 3 c k 1 ∗ ps (F := F) 3 c k 3 ∗ ps (F := F) 3 c k 2)
    ⊢ (|={Set.univ}=> bigSep Finset.univ fun a : Fin 4 => (semVal (xCell a k c) 0 : sProp 𝕄)) := by
  rw [sem4]
  unfold ps
  iintro ⟨#HR, ⟨H0, -⟩, ⟨H1, -⟩, ⟨H3, -⟩, ⟨H2, -⟩⟩
  imod (close_x D K c k 0 (R := 3) fun r h => duties_x_later D c k 0 r h) $$ [H0] with H0
  · isplitr; · iexact HR
    iexact H0
  imod (close_x D K c k 1 (R := 3) fun r h => duties_x_later D c k 1 r h) $$ [H1] with H1
  · isplitr; · iexact HR
    iexact H1
  imod (close_x D K c k 2 (R := 3) fun r h => duties_x_later D c k 2 r h) $$ [H2] with H2
  · isplitr; · iexact HR
    iexact H2
  imod (close_x D K c k 3 (R := 3) fun r h => duties_x_later D c k 3 r h) $$ [H3] with H3
  · isplitr; · iexact HR
    iexact H3
  imodintro
  isplitl [H0]; · iexact H0
  isplitl [H1]; · iexact H1
  isplitl [H2]; · iexact H2
  iexact H3

/-- and the device's own four, never used, at once. -/
theorem close_self (c : Dev nD) : iprop(records D K ∗ posK (F := F) c c) ⊢ (|={Set.univ}=> bigSep Finset.univ fun a : Fin 4 => (semVal (xCell a c c) 0 : sProp 𝕄)) := by
  rw [sem4, posK_eq]
  iintro ⟨#HR, H0, H1, H2, H3⟩
  imod (close_x D K c c 0 (R := 0) fun r _ => duties_x_self D c 0 r) $$ [H0] with H0
  · isplitr; · iexact HR
    iexact H0
  imod (close_x D K c c 1 (R := 0) fun r _ => duties_x_self D c 1 r) $$ [H1] with H1
  · isplitr; · iexact HR
    iexact H1
  imod (close_x D K c c 2 (R := 0) fun r _ => duties_x_self D c 2 r) $$ [H2] with H2
  · isplitr; · iexact HR
    iexact H2
  imod (close_x D K c c 3 (R := 0) fun r _ => duties_x_self D c 3 r) $$ [H3] with H3
  · isplitr; · iexact HR
    iexact H3
  imodintro
  isplitl [H0]; · iexact H0
  isplitl [H1]; · iexact H1
  isplitl [H2]; · iexact H2
  iexact H3

/-- The barrier's counter back, zero. -/
theorem close_bar (c : Dev nD) : iprop(records D K ∗ barEnd (F := F) c) ⊢ (|={Set.univ}=> semVal (barCell c) 0 : sProp 𝕄) := by
  unfold barEnd
  iintro ⟨#HR, H⟩
  iapply (Rounds.cell_close ER (sched D) (Set.mem_univ (K (c, none))) (fun h => h) (R := 1) fun r h => duties_bar_later D c r h)
  isplitr; · iapply (rec_inv D K (c, none)) $$ HR
  iexact H

/-- What is left after the last round, per peer: the closed cells and the pieces of the scratch buffers. -/
theorem end_peer (c k : Dev nD) : iprop(records D K ∗ mix c (iprop(posK (F := F) c c ∗ prowE (F := F) c c ∗ slotE (F := F) c c ∗ agrowE (F := F) c c))
      (fun k => iprop((ps (F := F) 3 c k 0 ∗ ps (F := F) 3 c k 1 ∗ ps (F := F) 3 c k 3 ∗ ps (F := F) 3 c k 2) ∗ prowE (F := F) c k ∗ slotE (F := F) c k ∗ agrowE (F := F) c k)) k)
    ⊢ (|={Set.univ}=> ((bigSep Finset.univ fun a : Fin 4 => semVal (xCell a k c) 0) ∗ prowE (F := F) c k ∗ slotE (F := F) c k ∗ agrowE (F := F) c k) : sProp 𝕄) := by
  by_cases h : k = c
  · subst h
    rw [mix_self]
    iintro ⟨#HR, HP, HE⟩
    imod (close_self D K k) $$ [HP] with HZ
    · isplitr; · iexact HR
      iexact HP
    imodintro
    isplitl [HZ]; · iexact HZ
    iexact HE
  · rw [mix_ne _ _ h]
    iintro ⟨#HR, HP, HE⟩
    imod (close_peer D K c k) $$ [HP] with HZ
    · isplitr; · iexact HR
      iexact HP
    imodintro
    isplitl [HZ]; · iexact HZ
    iexact HE

/-- After the walk: counters at zero, scratch buffers whole. -/
theorem end_all (c : Dev nD) (f₀ : Mat F) (g₀ : Slots F) (fa : M512x256 F .bf16) : iprop(records D K ∗ posK (F := F) c c ∗ M (s8 D 2 c) ∗ barEnd (F := F) c ∗ dropR D 2 c ∗ newR (F := F) 3 c ∗ own (F := F) actM c fa)
    ⊢ (|={Set.univ}=> done (F := F) c : sProp 𝕄) := by
  iintro ⟨#HR, HP, HM, HB, HD, HN, HA⟩
  ihave ⟨HN2, HM⟩ := (close_swap D c) $$ [HM HD]
  · isplitl [HM] <;> iassumption
  ihave ⟨HO, HW⟩ := (M_own (F := F) c _ (iprop(posK (F := F) c c ∗ prowE (F := F) c c ∗ slotE (F := F) c c ∗ agrowE (F := F) c c)) _) $$ HM
  ihave HM := HW $$ [HO HP]
  · isplitl [HP]; · iexact HP
    iexact HO
  ihave HRR := (bigSep_intro_persistent (S := Finset.univ) (R := records D K) (Φ := fun _ : Dev nD => records D K) fun _ _ => Entails.refl _) $$ HR
  imod (show iprop((bigSep Finset.univ fun _ : Dev nD => records D K) ∗ M (mix c (iprop(posK (F := F) c c ∗ prowE (F := F) c c ∗ slotE (F := F) c c ∗ agrowE (F := F) c c))
      (fun k => iprop((ps (F := F) 3 c k 0 ∗ ps (F := F) 3 c k 1 ∗ ps (F := F) 3 c k 3 ∗ ps (F := F) 3 c k 2) ∗ prowE (F := F) c k ∗ slotE (F := F) c k ∗ agrowE (F := F) c k))))
      ⊢ (|={Set.univ}=> M fun k => iprop((bigSep Finset.univ fun a : Fin 4 => semVal (xCell a k c) 0) ∗ prowE (F := F) c k ∗ slotE (F := F) c k ∗ agrowE (F := F) c k) : sProp 𝕄) from by
        unfold M
        rw [← bsep]
        exact (bmono fun k _ => end_peer D K c k).trans (bigSep_fupd _ _)) $$ [HRR HM] with HM
  · isplitl [HRR] <;> iassumption
  imod (close_bar D K c) $$ [HB] with HB
  · isplitr; · iexact HR
    iexact HB
  imodintro
  unfold done scratch
  simp only [M_sep]
  icases HM with ⟨HZ, HPr, HSl, HAg⟩
  isplitr [HZ HB]
  · isplitl [HPr]; · iapply (p_some (F := F) c f₀) $$ HPr
    isplitl [HSl]; · iapply (rs_some (F := F) c g₀) $$ HSl
    isplitl [HAg]; · iapply (ag_some (F := F) c f₀) $$ HAg
    isplitl [HN2 HN]
    · iapply (r_join (F := F) c)
      isplitl [HN2] <;> iassumption
    iexists fa; iexact HA
  isplitl [HB]; · iexact HB
  iexact HZ

/-- The whole body of device `c`: from what it starts with, whatever its scratch and result buffers hold, to all its
    counters at zero and its result. -/
theorem dev_walk (c : Dev nD) {I : Ins F} {G : M512x256 F .f32} (hG : Good D I c G) :
    iprop(start D c ∗ scratch (F := F) c ∗ ow (F := F) c 0 ∗ (own (F := F) w0M c I.x ∗ own (F := F) w1M c I.a1 ∗ own (F := F) w2M c I.a2 ∗ own (F := F) w3M c I.a3
        ∗ own (F := F) w4M c I.a4 ∗ own (F := F) w5M c I.a5 ∗ own (F := F) w6M c I.a6) ∗ (∃ f : M512x256 F .f32, own (F := F) oM c f))
      ⊢ wpc c (inst (cc0_body (F := F))) (fun _ => iprop(done (F := F) c ∗ ow (F := F) c 112 ∗ (own (F := F) w0M c I.x ∗ own (F := F) w1M c I.a1 ∗ own (F := F) w2M c I.a2 ∗ own (F := F) w3M c I.a3
        ∗ own (F := F) w4M c I.a4 ∗ own (F := F) w5M c I.a5 ∗ own (F := F) w6M c I.a6) ∗ own (F := F) oM c G)) := by
  unfold start lin scratch
  iintro ⟨⟨⟨%K, #HR, HB, HP, HT⟩, HCB, HC⟩, ⟨⟨%f0, H0⟩, ⟨%g0, H1⟩, ⟨%f2, H2⟩, ⟨%f3, H3⟩, ⟨%fa, HA⟩⟩, HO, ⟨W0, W1, W2, W3, W4, W5, W6⟩, ⟨%fo, HOut⟩⟩
  ihave H0 := (p_cut (F := F) c f0) $$ H0
  ihave H1 := (rs_cut (F := F) c g0) $$ H1
  ihave H2 := (ag_cut (F := F) c f2) $$ H2
  ihave ⟨HN0, HN1⟩ := (r_cut (F := F) c f3) $$ H3
  ihave ⟨HM, HPc⟩ := (sI_intro D K c) $$ [HP HT HC H0 H1 H2]
  · isplitr; · iexact HR
    isplitl [HP]; · iexact HP
    isplitl [HT]; · iexact HT
    isplitl [HC]; · iexact HC
    isplitl [H1]; · iexact H1
    isplitl [H0]; · iexact H0
    iexact H2
  iapply (wp_fupd frame (wpE (defs₀ (F := F)) 𝒱₀ (c : Thread nD τ) none) Set.univ)
  iapply (body_walk D K hG) $$ HR HM HO [HB HCB] HN0 HN1 W0 W1 W2 W3 W4 W5 W6 HA [HOut]
  · unfold barPos; isplitl [HB] <;> iassumption
  · unfold outp; iexists fo
    isplitr; · ipureintro; intro i hi; exact absurd hi (by omega)
    iexact HOut
  iintro HM HO HB HD HN W0 W1 W2 W3 W4 W5 W6 HA HOut
  imod (end_all D K c f0 g0 (k0_pay1 I.x)) $$ [HPc HM HB HD HN HA] with HE
  · isplitr; · iexact HR
    isplitl [HPc]; · iexact HPc
    isplitl [HM]; · iexact HM
    isplitl [HB]; · iexact HB
    isplitl [HD]; · iexact HD
    isplitl [HN]; · iexact HN
    iexact HA
  imodintro
  isplitl [HE]; · iexact HE
  isplitl [HO]; · iexact HO
  isplitr [HOut]
  · isplitl [W0]; · iexact W0
    isplitl [W1]; · iexact W1
    isplitl [W2]; · iexact W2
    isplitl [W3]; · iexact W3
    isplitl [W4]; · iexact W4
    isplitl [W5]; · iexact W5
    iexact W6
  unfold outp
  icases HOut with ⟨%f, %hf, HOut⟩
  have e : f = G := funext fun i => hf i (i 0).isLt
  subst e
  iexact HOut

end Cert.KernelIdeal.Mlp

end
-- ==== Proof.KernelIdeal.Launch.lean ====
/-
# The launch
-/
module

public import proofs.«01_k».proof.Proof.KernelIdeal.Start
public import proofs.«01_k».proof.Proof.Gen.KernelIdeal.Frame
public import Idealize.ShloMosaic.Lib.Pipeline.ValueKit.Point
public import Idealize.ShloMosaic.Lib.Pipeline.CollectiveSegs

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

open Idealize.ShloMosaic.Pipeline (Dat Cfg Window BodyObligation cellOf)

attribute [local irreducible] wp

variable (m : (ℓ : Loc nD τ sig) → Buf (Elt F) ℓ) (ρ : Dev nD → PrngReg)

/-! ## The contents at the launch -/

/-- The argument arrays of device `c`, in the order of the windows. -/
def Im (c : Dev nD) : Ins F where
  x := m ((c : Thread nD τ).loc main_arg0)
  a1 := m ((c : Thread nD τ).loc main_arg1)
  a2 := m ((c : Thread nD τ).loc main_arg4)
  a3 := m ((c : Thread nD τ).loc main_arg2)
  a4 := m ((c : Thread nD τ).loc main_arg5)
  a5 := m ((c : Thread nD τ).loc main_arg3)
  a6 := m ((c : Thread nD τ).loc main_arg6)

/-- Every window's block is its whole array. -/
theorem blk0 (c : Dev nD) : iblk m c 0 t0_0 = (Im m c).x := by funext y; blk_ext [iblk, show ∀ a, win0_0.index t0_0 a = 0 from fun _ => rfl]
/-- The same of window 1, -/
theorem blk1 (c : Dev nD) : iblk m c 1 t0_0 = (Im m c).a1 := by funext y; blk_ext [iblk, show ∀ a, win0_1.index t0_0 a = 0 from fun _ => rfl]
/-- window 2, -/
theorem blk2 (c : Dev nD) : iblk m c 2 t0_0 = (Im m c).a2 := by funext y; blk_ext [iblk, show ∀ a, win0_2.index t0_0 a = 0 from fun _ => rfl]
/-- window 3, -/
theorem blk3 (c : Dev nD) : iblk m c 3 t0_0 = (Im m c).a3 := by funext y; blk_ext [iblk, show ∀ a, win0_3.index t0_0 a = 0 from fun _ => rfl]
/-- window 4, -/
theorem blk4 (c : Dev nD) : iblk m c 4 t0_0 = (Im m c).a4 := by funext y; blk_ext [iblk, show ∀ a, win0_4.index t0_0 a = 0 from fun _ => rfl]
/-- window 5, -/
theorem blk5 (c : Dev nD) : iblk m c 5 t0_0 = (Im m c).a5 := by funext y; blk_ext [iblk, show ∀ a, win0_5.index t0_0 a = 0 from fun _ => rfl]
/-- window 6. -/
theorem blk6 (c : Dev nD) : iblk m c 6 t0_0 = (Im m c).a6 := by funext y; blk_ext [iblk, show ∀ a, win0_6.index t0_0 a = 0 from fun _ => rfl]

/-- The contents of the transfers and results, from the arguments. -/
abbrev Dm : Data F := mkD (Im m)

/-- What the launch computes on device `c`. -/
abbrev Om (c : Dev nD) : M512x256 F .f32 := OUT (Im m) c

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (Im m c).x
    | ⟨1, _⟩ => (Im m c).a1
    | ⟨2, _⟩ => (Im m c).a2
    | ⟨3, _⟩ => (Im m c).a3
    | ⟨4, _⟩ => (Im m c).a4
    | ⟨5, _⟩ => (Im m c).a5
    | ⟨6, _⟩ => (Im m c).a6
    | ⟨7, _⟩ => Om m c
    | ⟨_ + 8, h⟩ => absurd h (Nat.not_lt.2 (Nat.le_add_left _ _))
  Φ t := match t with
    | ⟨0, _⟩ => iprop(start (Dm m) c ∗ scratch (F := F) c)
    | ⟨_ + 1, _⟩ => done (F := F) c
  q _ := fullShare
  owed t := match t with
    | ⟨0, _⟩ => rem c 0
    | ⟨_ + 1, _⟩ => rem c 112

/-! ## The body at the launch's contents -/

/-- A staging buffer whole at `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The body finds its argument in window 0, -/
theorem before_0 (c : Dev nD) (d) : (dats m ρ 0 c).before (0 : Fin 8) t0_0 d = (Im m c).x := by
  unfold Dat.before; rw [if_pos (fetch0_0 t0_0)]; exact blk0 m c
/-- window 1, -/
theorem before_1 (c : Dev nD) (d) : (dats m ρ 0 c).before (1 : Fin 8) t0_0 d = (Im m c).a1 := by
  unfold Dat.before; rw [if_pos (fetch0_1 t0_0)]; exact blk1 m c
/-- window 2, -/
theorem before_2 (c : Dev nD) (d) : (dats m ρ 0 c).before (2 : Fin 8) t0_0 d = (Im m c).a2 := by
  unfold Dat.before; rw [if_pos (fetch0_2 t0_0)]; exact blk2 m c
/-- window 3, -/
theorem before_3 (c : Dev nD) (d) : (dats m ρ 0 c).before (3 : Fin 8) t0_0 d = (Im m c).a3 := by
  unfold Dat.before; rw [if_pos (fetch0_3 t0_0)]; exact blk3 m c
/-- window 4, -/
theorem before_4 (c : Dev nD) (d) : (dats m ρ 0 c).before (4 : Fin 8) t0_0 d = (Im m c).a4 := by
  unfold Dat.before; rw [if_pos (fetch0_4 t0_0)]; exact blk4 m c
/-- window 5, -/
theorem before_5 (c : Dev nD) (d) : (dats m ρ 0 c).before (5 : Fin 8) t0_0 d = (Im m c).a5 := by
  unfold Dat.before; rw [if_pos (fetch0_5 t0_0)]; exact blk5 m c
/-- window 6. -/
theorem before_6 (c : Dev nD) (d) : (dats m ρ 0 c).before (6 : Fin 8) t0_0 d = (Im m c).a6 := by
  unfold Dat.before; rw [if_pos (fetch0_6 t0_0)]; exact blk6 m c

def bodyPre (c : Dev nD) : sProp 𝕄 :=
  iprop((start (Dm m) c ∗ scratch (F := F) c) ∗ (dats m ρ 0 c).owesAt 0 t0_0.castSucc
    ∗ (∃ d, stg c cc0_stg0_0 ((dats m ρ 0 c).before (0 : Fin 8) t0_0 d))
    ∗ (∃ d, stg c cc0_stg1_0 ((dats m ρ 0 c).before (1 : Fin 8) t0_0 d))
    ∗ (∃ d, stg c cc0_stg2_0 ((dats m ρ 0 c).before (2 : Fin 8) t0_0 d))
    ∗ (∃ d, stg c cc0_stg3_0 ((dats m ρ 0 c).before (3 : Fin 8) t0_0 d))
    ∗ (∃ d, stg c cc0_stg4_0 ((dats m ρ 0 c).before (4 : Fin 8) t0_0 d))
    ∗ (∃ d, stg c cc0_stg5_0 ((dats m ρ 0 c).before (5 : Fin 8) t0_0 d))
    ∗ (∃ d, stg c cc0_stg6_0 ((dats m ρ 0 c).before (6 : Fin 8) t0_0 d))
    ∗ (∃ d, stg c cc0_stg7_0 ((dats m ρ 0 c).before (7 : Fin 8) t0_0 d)))

def bodyPost (c : Dev nD) : sProp 𝕄 :=
  iprop(done (F := F) c ∗ (dats m ρ 0 c).owesAt 0 t0_0.succ ∗ stg c cc0_stg0_0 (Im m c).x ∗ stg c cc0_stg1_0 (Im m c).a1 ∗ stg c cc0_stg2_0 (Im m c).a2 ∗ stg c cc0_stg3_0 (Im m c).a3
    ∗ stg c cc0_stg4_0 (Im m c).a4 ∗ stg c cc0_stg5_0 (Im m c).a5 ∗ stg c cc0_stg6_0 (Im m c).a6 ∗ stg c cc0_stg7_0 (Om m c))

/-- A whole staging buffer, in the two ways it is written. -/
theorem stg_own (c : Dev nD) (b : Ref sig .tc) (X : b.ty.Contents (Elt F)) :
    (stg c b X : sProp 𝕄) = (((c : Thread nD τ).loc b) ↦{fullShare} X) :=
  Entails.antisymm
    (show (stg c b X : sProp 𝕄) ⊢ (((c : Thread nD τ).loc b) ↦{fullShare} X) from by iintro ⟨%f, %hf, H⟩; subst hf; iexact H)
    (show (((c : Thread nD τ).loc b) ↦{fullShare} X : sProp 𝕄) ⊢ stg c b X from by iintro H; iexists X; isplitr [H]; (ipureintro; rfl); iexact H)

/-- The body, from the launch's pieces to the launch's pieces. -/
theorem sound_body (c : Dev nD) : bodyPre m ρ c ⊢ wpc c (inst (cc0_body (F := F))) (fun _ => bodyPost m ρ c) := by
  unfold bodyPre
  simp only [stg_own, before_0, before_1, before_2, before_3, before_4, before_5, before_6]
  iintro ⟨⟨HS, HC⟩, Ho, ⟨%d0, W0⟩, ⟨%d1, W1⟩, ⟨%d2, W2⟩, ⟨%d3, W3⟩, ⟨%d4, W4⟩, ⟨%d5, W5⟩, ⟨%d6, W6⟩, ⟨%d7, W7⟩⟩
  unfold Dat.owesAt Pipeline.owesWithin
  icases Ho with ⟨%W, %hW, HO⟩
  have hwalk := dev_walk (Dm m) c (good (Im m) c)
  have hpost : iprop(done (F := F) c ∗ ow (F := F) c 112 ∗ (own (F := F) w0M c (Im m c).x ∗ own (F := F) w1M c (Im m c).a1 ∗ own (F := F) w2M c (Im m c).a2 ∗ own (F := F) w3M c (Im m c).a3
        ∗ own (F := F) w4M c (Im m c).a4 ∗ own (F := F) w5M c (Im m c).a5 ∗ own (F := F) w6M c (Im m c).a6) ∗ own (F := F) oM c (Om m c)) ⊢ bodyPost m ρ c := by
    unfold bodyPost ow own Dat.owesAt Pipeline.owesWithin
    simp only [stg_own]
    iintro ⟨HD, ⟨%W', HO⟩, ⟨W0, W1, W2, W3, W4, W5, W6⟩, HOut⟩
    isplitl [HD]; · iexact HD
    isplitl [HO]
    · iexists W'
      isplitr; · ipureintro; exact fun _ _ => Or.inl trivial
      iexact HO
    isplitl [W0]; · iexact W0
    isplitl [W1]; · iexact W1
    isplitl [W2]; · iexact W2
    isplitl [W3]; · iexact W3
    isplitl [W4]; · iexact W4
    isplitl [W5]; · iexact W5
    isplitl [W6]; · iexact W6
    iexact HOut
  iapply (hwalk.trans (wp_mono frame (wpE (defs₀ (F := F)) 𝒱₀ (c : Thread nD τ) none) Set.univ fun _ => hpost))
  isplitl [HS]; · iexact HS
  isplitl [HC]; · iexact HC
  isplitl [HO]; · unfold ow; iexists W; iexact HO
  unfold own
  isplitr [W7]
  · isplitl [W0]; · iexact W0
    isplitl [W1]; · iexact W1
    isplitl [W2]; · iexact W2
    isplitl [W3]; · iexact W3
    isplitl [W4]; · iexact W4
    isplitl [W5]; · iexact W5
    iexact W6
  · iexists ((dats m ρ 0 c).before (7 : Fin 8) t0_0 d7); iexact W7

set_option maxRecDepth 4000 in
/-- The library's body obligation on core `c`. -/
theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  show bodyPre m ρ c ⊢ wpc c (inst (cc0_body (F := F))) (fun _ => bodyPost m ρ c)
  exact sound_body m ρ c

/-! ## The launch -/

/-- Every window is held whole. -/
theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf allCells allToks)

/-- What the launch deals makes a device's start; -/
theorem start_intro (c : Dev nD) :
    iprop(Pipeline.unscopedRestP Pipeline.Prefetch.none cfg0.spec c (fun b => m ((c : Thread nD τ).loc b)) ∗ levAts L lv
        ∗ Pipeline.launchCred (fun d => rem d 0) c ∗ prngReg c (ρ c) ∗ G1 (Dm m) c)
      ⊢ (|={Set.univ}=> iprop(start (Dm m) c ∗ emp) : sProp 𝕄) := by
  unfold G1 recs
  iintro ⟨-, #Hlev, Hcr, -, ⟨%K, ⟨HI, HR⟩, HL⟩⟩
  ihave ⟨H1, HN⟩ := (creds (F := F) c) $$ Hcr
  imodintro
  unfold start records
  isplitl
  · isplitl [HI HR HL]
    · iexists K
      isplitl [HI HR]
      · isplitl [HI]; · iexact HI
        isplitl [HR]; · iexact HR
        iexact Hlev
      · iexact HL
    isplitl [H1] <;> iassumption
  · iempintro

/-- with the scratch buffers, the body's; -/
theorem phi0_intro (c : Dev nD) :
    iprop(start (Dm m) c ∗ Pipeline.prefHeld Pipeline.Prefetch.none c (fun _ => fullShare.right) (fun k => k.elim0) ∗ Pipeline.scopedRest cfg0.spec c)
      ⊢ ((dats m ρ 0 c).Φ 0 : sProp 𝕄) := by
  rw [show (dats m ρ 0 c).Φ 0 = iprop(start (Dm m) c ∗ scratch (F := F) c) from rfl, scopedRest0_eq]
  unfold scratch
  iintro ⟨Hs, -, H0, H1, H2, H3, H4⟩
  isplitl [Hs]; · iexact Hs
  isplitl [H0]; · iexact H0
  isplitl [H1]; · iexact H1
  isplitl [H2]; · iexact H2
  isplitl [H3]; · iexact H3
  iexact H4

/-- The transfers' counters of a device, by peer and by kind. -/
theorem own_sems (c : Dev nD) : (M (fun k => bigSep Finset.univ fun a : Fin 4 => semVal (xCell a k c) 0) : sProp 𝕄)
    ⊢ Pipeline.ownSems0 (Ix := ℕ) (Name := ℕ) (U := UU) (Lvl := ℕ) (Val := Elt F) (τ := τ) osem c := by
  unfold M Pipeline.ownSems0
  rw [bigSep_univ_prod, nest_comm]
  exact Entails.refl _

/-- what the body leaves goes back to the launch. -/
theorem phi1_exit (c : Dev nD) :
    ((dats m ρ 0 c).Φ (Fin.last cfg0.N) : sProp 𝕄) ⊢ iprop(unscopedSems0 c ∗ Pipeline.ownSems0 osem c ∗ Pipeline.scopedRest cfg0.spec c) := by
  rw [show (dats m ρ 0 c).Φ (Fin.last cfg0.N) = done (F := F) c from rfl, scopedRest0_eq, unscoped_eq]
  unfold done scratch
  iintro ⟨⟨H0, H1, H2, H3, H4⟩, HB, HZ⟩
  isplitl [HB]; · iexact HB
  isplitl [HZ]; · iapply (own_sems (F := F) c) $$ HZ
  isplitl [H0]; · iexact H0
  isplitl [H1]; · iexact H1
  isplitl [H2]; · iexact H2
  isplitl [H3]; · iexact H3
  iexact H4

/-- The launch's own waits are below all that is owed. -/
theorem waits (c : Dev nD) : (levAts L lv : sProp 𝕄) ⊢ Pipeline.cellsWaits cfgs (dats m ρ) 0 0 c :=
  Pipeline.cellsWaits_intro cfgs (dats m ρ) 0 0 c fun w s t => by
    have h : lv ((c : Thread nD τ), SemLoc.dma (((cfgs 0).win w).sem s)) 0 = 0 := by fin_cases w <;> fin_cases s <;> rfl
    rcases t with ⟨_ | _, ht⟩
    · exact mayWait c _ (ι := 0) (t := 0) (by decide) (by rw [h]; decide)
    · exact mayWait c _ (ι := 0) (t := 112) (by decide) (by rw [h]; decide)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every fair execution on the sixteen devices ends, with each device's arrays as the
    body leaves them and every counter at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => rem d 0) (howed₀ := fun _ => rfl) (howedN := fun c => rem_end c)
    (L := L) (lv := lv) (hL := L_of_ne) (hwaits := waits m ρ)
    (G := G0 (Dm m)) (G' := G1 (Dm m)) (u₀ := u₀)
    (hu₀ := by
      unfold u₀
      iintro Hu
      ihave H := (ownU_pair _ _) $$ Hu
      icases H with ⟨HP, HX⟩
      imod (fund_all (Dm m)) $$ HX with HG
      imodintro
      isplitl [HP] <;> iassumption)
    (hglob := glob (Dm m))
    (hA := fun _ _ => rfl) (hpf := fun _ k => k.elim0)
    (X := start (Dm m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the run leaves -/

/-- The result array is the body's result. -/
theorem final_out (c : Dev nD) : finalA m ρ c (7 : Fin 8) = Om m c := by
  refine (dats m ρ 0 c).arrAt_eq_of_cover (7 : Fin 8) (Om m c) (fun t _ => ?_) (fun i => ⟨t0_0, flush0_7 t0_0, ?_⟩)
  · rw [fin_N0 t]
    funext y
    blk_ext [Dat.flushed, dats, show ∀ a, win0_7.index t0_0 a = 0 from fun _ => rfl]
  · mem_blk [show ∀ a, win0_7.index t0_0 a = 0 from fun _ => rfl]
    exact ⟨⟨Nat.zero_le _, (i 0).isLt⟩, Nat.zero_le _, (i 1).isLt⟩

/-- The run, read at the result and at the arguments. -/
theorem run : θ_run defs (onTc (τ := τ) (main (F := F))) ⟨m, fun _ => 0, ρ⟩ (fun r => (∀ c : Dev nD,
      r.2.mem ((c.tc : Thread nD τ).loc main_v1) = Om m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c 7).trans (final_out m ρ c), (h.1 c 0).trans ((dats m ρ 0 c).arrAt_in 0 rfl _), (h.1 c 1).trans ((dats m ρ 0 c).arrAt_in 1 rfl _),
    (h.1 c 3).trans ((dats m ρ 0 c).arrAt_in 3 rfl _), (h.1 c 5).trans ((dats m ρ 0 c).arrAt_in 5 rfl _), (h.1 c 2).trans ((dats m ρ 0 c).arrAt_in 2 rfl _),
    (h.1 c 4).trans ((dats m ρ 0 c).arrAt_in 4 rfl _), (h.1 c 6).trans ((dats m ρ 0 c).arrAt_in 6 rfl _)⟩, h.2⟩) (run_main m ρ)

end Cert.KernelIdeal.Mlp

end
-- ==== Proof.KernelIdeal.Value.lean ====
/-
# The value
-/
module

public import proofs.«01_k».proof.Proof.KernelIdeal.Launch
public import proofs.«01_k».proof.Proof.Gen.ReferenceIdeal.Run
public import Idealize.ShloMosaic.Lib.Pointwise

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The whole matrices, over the extended reals -/

/-- A matrix of activations, of weights into and of weights out of the hidden width, and of hidden values. -/
abbrev Wide : Type := (⟨2, ![512, 4096]⟩ : Shape).Idx → EReal
abbrev Tall : Type := (⟨2, ![4096, 512]⟩ : Shape).Idx → EReal
abbrev Hid : Type := (⟨2, ![512, 512]⟩ : Shape).Idx → EReal

/-- Activations by a matrix into the hidden width, and hidden values by a matrix out of it. -/
def mulIn (X : Wide) (W : Tall) : Hid := fun i => ∑ k : Fin 4096, X (ix2 (i 0 : Fin 512) k) * W (ix2 k (i 1 : Fin 512))
def mulOut (H : Hid) (V : Wide) : Wide := fun i => ∑ k : Fin 512, H (ix2 (i 0 : Fin 512) k) * V (ix2 k (i 1 : Fin 4096))
def relu (H : Hid) : Hid := fun i => max (H i) 0

/-- A column of device `c`'s 256 is below 4096. -/
theorem col_lt (c : Fin 16) (n : Fin 256) : 256 * c.val + n.val < 4096 := by omega

/-- A sum over the long axis, by devices. -/
theorem sum_blocks (f : Fin 4096 → EReal) : ∑ k, f k = ∑ c : Fin 16, ∑ n : Fin 256, f ⟨256 * c.val + n.val, col_lt c n⟩ := by
  rw [← Equiv.sum_comp (finProdFinEquiv : Fin 16 × Fin 256 ≃ Fin 4096) f, Fintype.sum_prod_type]
  refine Finset.sum_congr rfl fun c _ => Finset.sum_congr rfl fun n _ => congrArg f (Fin.ext ?_)
  exact Nat.add_comm _ _

/-! ## The kernel's blocks -/

/-- The activations are the window's. -/
theorem pay1_val (x : M512x256 Ideal .bf16) : k0_pay1 x = x := by
  funext i; pointwise [k0_pay1]
/-- The first partial sums: a product. -/
theorem pay2_val (x : M512x256 Ideal .bf16) (a : M256x512 Ideal) (i : Fin 512) (j : Fin 512) :
    (k0_pay2 x a (ix2 i j) : EReal) = ∑ k : Fin 256, (x (ix2 i k) : EReal) * a (ix2 k j) := by
  pointwise [k0_pay2]
/-- Finished rows: the sum of the slots, then `relu`. -/
theorem pay4_val (s : Slots Ideal) (b : Fin 32) (j : Fin 512) :
    (k0_pay4 s (ix3 (0 : Fin 1) b j) : EReal) = max (∑ d : Fin 16, (s (ix3 d b j) : EReal)) 0 := by
  pointwise [k0_pay4]
/-- A group's partial sums: two products. -/
theorem pay8_val (g : S128x512.Idx → Elt Ideal .bf16) (w : M512x256 Ideal .bf16) (v : M256x512 Ideal) (b : Fin 128) (j : Fin 512) :
    (k0_pay8 g w v (ix2 b j) : EReal) = ∑ n : Fin 256, (∑ k : Fin 512, (g (ix2 b k) : EReal) * w (ix2 k n)) * v (ix2 n j) := by
  pointwise [k0_pay8]
/-- A group of the result: a product. -/
theorem pay25_val (g : S128x512.Idx → Elt Ideal .bf16) (w : M512x256 Ideal .bf16) (b : Fin 128) (n : Fin 256) :
    (k0_pay25 g w (ix2 b n) : EReal) = ∑ k : Fin 512, (g (ix2 b k) : EReal) * w (ix2 k n) := by
  pointwise [k0_pay25]

/-! ## The rows the devices reduce, the groups they multiply -/

/-- The finished matrix at an entry. -/
theorem fin_val (P : Dev nD → Mat Ideal) (i j : Fin 512) : (fin P (ix2 i j) : EReal) = max (∑ d : Fin 16, (P d (ix2 i j) : EReal)) 0 := by
  refine (pay4_val (recv P ⟨i.val / 32, quot32 i⟩) ⟨i.val % 32, Nat.mod_lt _ (by decide)⟩ j).trans ?_
  refine congrArg (max · 0) (Finset.sum_congr rfl fun d _ => ?_)
  show P d _ = P d _
  congr 1
  funext a; apply Fin.ext
  match a with
  | ⟨0, _⟩ => exact Nat.div_add_mod _ _
  | ⟨1, _⟩ => rfl

/-- A group's rows are the matrix's rows. -/
theorem grp_val (H : Mat Ideal) (i k : Fin 512) :
    grpOf ⟨i.val / 128, quot128 i⟩ H (ix2 (⟨i.val % 128, Nat.mod_lt _ (by decide)⟩ : Fin 128) k) = H (ix2 i k) := by
  show H ((grpR ⟨i.val / 128, quot128 i⟩).emb (ValueIdx.ix2 (⟨i.val % 128, Nat.mod_lt _ (by decide)⟩ : Fin 128) k)) = _
  rw [grpR_emb]
  congr 1
  funext a; apply Fin.ext
  match a with
  | ⟨0, _⟩ => exact Nat.div_add_mod _ _
  | ⟨1, _⟩ => rfl

/-- The next partial sums at an entry. -/
theorem next_val (H : Mat Ideal) (w : M512x256 Ideal .bf16) (v : M256x512 Ideal) (i j : Fin 512) :
    (nextP H w v (ix2 i j) : EReal) = ∑ n : Fin 256, (∑ k : Fin 512, (H (ix2 i k) : EReal) * w (ix2 k n)) * v (ix2 n j) := by
  refine (pay8_val (grpOf ⟨i.val / 128, quot128 i⟩ H) w v ⟨i.val % 128, Nat.mod_lt _ (by decide)⟩ j).trans ?_
  simp only [grp_val]

/-- The result at an entry. -/
theorem out_val (H : Mat Ideal) (w : M512x256 Ideal .bf16) (i : Fin 512) (n : Fin 256) :
    (outOf H w (ix2 i n) : EReal) = ∑ k : Fin 512, (H (ix2 i k) : EReal) * w (ix2 k n) := by
  refine (pay25_val (grpOf ⟨i.val / 128, quot128 i⟩ H) w ⟨i.val % 128, Nat.mod_lt _ (by decide)⟩ n).trans ?_
  simp only [grp_val]

/-! ## Layer by layer -/

/-- The contents of the windows are the devices' blocks of the whole arrays. -/
structure Blocks (I : Dev nD → Ins Ideal) (X : Wide) (W0 W1 W2 : Tall) (V0 V1 V2 : Wide) : Prop where
  x : ∀ (c : Dev nD) (i : Fin 512) (n : Fin 256), ((I c).x (ix2 i n) : EReal) = X (ix2 i ⟨256 * c.val + n.val, col_lt c n⟩)
  a1 : ∀ (c : Dev nD) (n : Fin 256) (j : Fin 512), ((I c).a1 (ix2 n j) : EReal) = W0 (ix2 ⟨256 * c.val + n.val, col_lt c n⟩ j)
  a3 : ∀ (c : Dev nD) (n : Fin 256) (j : Fin 512), ((I c).a3 (ix2 n j) : EReal) = W1 (ix2 ⟨256 * c.val + n.val, col_lt c n⟩ j)
  a5 : ∀ (c : Dev nD) (n : Fin 256) (j : Fin 512), ((I c).a5 (ix2 n j) : EReal) = W2 (ix2 ⟨256 * c.val + n.val, col_lt c n⟩ j)
  a2 : ∀ (c : Dev nD) (i : Fin 512) (n : Fin 256), ((I c).a2 (ix2 i n) : EReal) = V0 (ix2 i ⟨256 * c.val + n.val, col_lt c n⟩)
  a4 : ∀ (c : Dev nD) (i : Fin 512) (n : Fin 256), ((I c).a4 (ix2 i n) : EReal) = V1 (ix2 i ⟨256 * c.val + n.val, col_lt c n⟩)
  a6 : ∀ (c : Dev nD) (i : Fin 512) (n : Fin 256), ((I c).a6 (ix2 i n) : EReal) = V2 (ix2 i ⟨256 * c.val + n.val, col_lt c n⟩)

/-- What a layer makes of its hidden values: the next hidden values. -/
theorem layer (P : Dev nD → Mat Ideal) (X : Wide) (W : Tall)
    (hP : ∀ (c : Dev nD) (i j : Fin 512), (P c (ix2 i j) : EReal) = ∑ n : Fin 256, X (ix2 i ⟨256 * c.val + n.val, col_lt c n⟩) * W (ix2 ⟨256 * c.val + n.val, col_lt c n⟩ j)) :
    (fin P : Hid) = relu (mulIn X W) := by
  funext i
  rw [← ix2_eta i]
  refine (fin_val P (i 0) (i 1)).trans ?_
  unfold relu mulIn
  rw [sum_blocks]
  exact congrArg (max · 0) (Finset.sum_congr rfl fun d _ => hP d (i 0) (i 1))

variable {I : Dev nD → Ins Ideal} {X : Wide} {W0 W1 W2 : Tall} {V0 V1 V2 : Wide}

/-- The finished matrix of layer 0, -/
theorem layer0 (h : Blocks I X W0 W1 W2 V0 V1 V2) : (fin (Ps I 0) : Hid) = relu (mulIn X W0) := by
  refine layer _ _ _ fun c i j => ?_
  show (k0_pay2 (k0_pay1 (I c).x) (I c).a1 (ix2 i j) : EReal) = _
  rw [pay1_val, pay2_val]
  simp only [h.x, h.a1]

/-- of layer 1, -/
theorem layer1 (h : Blocks I X W0 W1 W2 V0 V1 V2) : (fin (Ps I 1) : Hid) = relu (mulIn (mulOut (relu (mulIn X W0)) V0) W1) := by
  refine layer _ _ _ fun c i j => ?_
  show (nextP (fin (Ps I 0)) (I c).a2 (I c).a3 (ix2 i j) : EReal) = _
  rw [next_val, layer0 h]
  simp only [h.a2, h.a3]
  rfl

/-- and of layer 2, from the whole arrays. -/
theorem layer2 (h : Blocks I X W0 W1 W2 V0 V1 V2) :
    (fin (Ps I 2) : Hid) = relu (mulIn (mulOut (relu (mulIn (mulOut (relu (mulIn X W0)) V0) W1)) V1) W2) := by
  refine layer _ _ _ fun c i j => ?_
  show (nextP (fin (Ps I 1)) (I c).a4 (I c).a5 (ix2 i j) : EReal) = _
  rw [next_val, layer1 h]
  simp only [h.a4, h.a5]
  rfl

/-- The whole result. -/
def whole (X : Wide) (W0 W1 W2 : Tall) (V0 V1 V2 : Wide) : Wide :=
  mulOut (relu (mulIn (mulOut (relu (mulIn (mulOut (relu (mulIn X W0)) V0) W1)) V1) W2)) V2

/-- Device `c`'s result is its columns of the whole result. -/
theorem out_block (h : Blocks I X W0 W1 W2 V0 V1 V2) (c : Dev nD) (i : Fin 512) (n : Fin 256) :
    (OUT I c (ix2 i n) : EReal) = whole X W0 W1 W2 V0 V1 V2 (ix2 i ⟨256 * c.val + n.val, col_lt c n⟩) := by
  unfold OUT
  rw [out_val, layer2 h]
  simp only [h.a6]
  rfl

end Cert.KernelIdeal.Mlp

end
-- ==== Proof.KernelIdeal.Whole.lean ====
/-
# The reference's result, and the devices' blocks of it
-/
module

public import proofs.«01_k».proof.Proof.KernelIdeal.Value

@[expose] public section

noncomputable section

namespace Cert.KernelIdeal.Mlp

open Idealize.ShloMosaic Idealize.ShloMosaic.TcCoe

/-! ## The reference's operations -/

section Reference

open Cert.ReferenceIdeal Cert.ReferenceIdeal.Gen

/-- The reference's rounded product into the hidden width followed by its `relu`: over the reals, `relu` of `mulIn`. -/
theorem ref_in (X : FVec Ideal S512x4096 .bf16) (W : FVec Ideal S4096x512 .bf16) :
    (maximumf (truncf .bf16 (Host.dotGeneral dot_S512x4096_S4096x512_S512x512_1_0_0_1_n_n none X W) bitsLt_bf16_f32)
      (broadcastInDim Cert.ReferenceIdeal.S512x512 ![] bcast_S_S512x512 (constant Cert.ReferenceIdeal.S_ .bf16 0x0000#16)) : FVec Ideal Cert.ReferenceIdeal.S512x512 .bf16) = relu (mulIn X W) := by
  funext i; pointwise [relu, mulIn]

/-- The reference's rounded product out of the hidden width: over the reals, `mulOut`. -/
theorem ref_out (H : FVec Ideal Cert.ReferenceIdeal.S512x512 .bf16) (V : FVec Ideal S512x4096 .bf16) :
    (truncf .bf16 (Host.dotGeneral dot_S512x512_S512x4096_S512x4096_1_0_0_1_n_n none H V) bitsLt_bf16_f32 : FVec Ideal S512x4096 .bf16) = mulOut H V := by
  funext i; pointwise [mulOut]

/-- A layer of the reference, of an input that is known. -/
theorem ref_layer {X : FVec Ideal Cert.ReferenceIdeal.S512x4096 .bf16} {Y : Wide} {W : FVec Ideal S4096x512 .bf16} {V : FVec Ideal S512x4096 .bf16} (h : X = Y) :
    (truncf .bf16 (Host.dotGeneral dot_S512x512_S512x4096_S512x4096_1_0_0_1_n_n none
      (maximumf (truncf .bf16 (Host.dotGeneral dot_S512x4096_S4096x512_S512x512_1_0_0_1_n_n none X W) bitsLt_bf16_f32)
        (broadcastInDim Cert.ReferenceIdeal.S512x512 ![] bcast_S_S512x512 (constant Cert.ReferenceIdeal.S_ .bf16 0x0000#16))) V) bitsLt_bf16_f32 : FVec Ideal S512x4096 .bf16)
      = mulOut (relu (mulIn Y W)) V :=
  (ref_out _ _).trans (congrArg (mulOut · V) ((ref_in X W).trans (congrArg (fun Z => relu (mulIn Z W)) h)))

/-- Widening the last product changes nothing over the reals. -/
theorem ref_wide (X : FVec Ideal S512x4096 .bf16) : (extf .f32 X bitsLt_bf16_f32 : Wide) = X := by
  funext i; pointwise

/-- From any memory the reference ends with the whole result, its arguments unchanged. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v18) = whole (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6) :=
  (θ_run Cert.ReferenceIdeal.defs _ _).mono (fun r h c => ⟨(h c).1.trans ((ref_wide _).trans (ref_layer (ref_layer (ref_layer rfl)))), (h c).2⟩) (Cert.ReferenceIdeal.Value.run m ρ)

end Reference

/-! ## Blocks, by coordinates -/

open Cert.KernelIdeal

/-- A block of columns, at a row and a column. -/
theorem block_cols (c : Dev nD) (v : Wide) (i : Fin 512) (n : Fin 256) :
    Layout.block ⟨2, ![512, 256]⟩ ⟨2, ![512, 4096]⟩ 1 16 c v (by decide) (ix2 i n) = v (ix2 i ⟨256 * c.val + n.val, col_lt c n⟩) := by
  rw [Layout.block_apply]
  congr 1
  funext a; apply Fin.ext
  match a with
  | ⟨0, _⟩ => rfl
  | ⟨1, _⟩ => exact congrArg (· + n.val) (Nat.mul_comm _ _)

/-- A block of rows, at a row and a column. -/
theorem block_rows (c : Dev nD) (v : Tall) (n : Fin 256) (j : Fin 512) :
    Layout.block ⟨2, ![256, 512]⟩ ⟨2, ![4096, 512]⟩ 0 16 c v (by decide) (ix2 n j) = v (ix2 ⟨256 * c.val + n.val, col_lt c n⟩ j) := by
  rw [Layout.block_apply]
  congr 1
  funext a; apply Fin.ext
  match a with
  | ⟨0, _⟩ => exact congrArg (· + n.val) (Nat.mul_comm _ _)
  | ⟨1, _⟩ => rfl

/-- Where the windows hold the blocks, device `c`'s result is block `c` of the whole result. -/
theorem out_layout {I : Dev nD → Ins Ideal} {X : Wide} {W0 W1 W2 : Tall} {V0 V1 V2 : Wide} (h : Blocks I X W0 W1 W2 V0 V1 V2) (c : Dev nD) :
    (OUT I c : S512x256.Idx → EReal) = Layout.block ⟨2, ![512, 256]⟩ ⟨2, ![512, 4096]⟩ 1 16 c (whole X W0 W1 W2 V0 V1 V2) := by
  funext y
  rw [← ix2_eta y]
  exact (out_block h c (y 0) (y 1)).trans (block_cols c _ (y 0) (y 1)).symm

end Cert.KernelIdeal.Mlp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Whole
public import Idealize.ShloMosaic.Adequacy
public import Idealize.ShloMosaic.Init

@[expose] public section

noncomputable section

namespace Cert.Proof

open Idealize.ShloMosaic Idealize.SL.Sem Cert.Kernel

/-- The kernel at its bits: it ends with its arguments unchanged and every counter at zero. -/
theorem quiescent_kernel : Cert.quiescent_Kernel (hKernel := Cert.Kernel.Gen.facts) := fun m g _ =>
  (θ_run Cert.Kernel.defs _ _).mono (fun _ h => ⟨fun c => (h.1 c).2, h.2⟩) (Cert.Kernel.Mlp.run m g)

/-- The kernel over the reals: the same. -/
theorem quiescent_kernel_ideal : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Mlp.run m g)

/-- The reference over the reals ends with its arguments unchanged; it has no counter. -/
theorem quiescent_reference_ideal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.KernelIdeal.Mlp.ref_run m g)

/-- Over the reals, each device's result is its block of columns of the reference's result. -/
theorem algebraic : Cert.algebraic_KernelIdeal_ReferenceIdeal (hKernelIdeal := Cert.KernelIdeal.Gen.facts)
    (hReferenceIdeal := Cert.ReferenceIdeal.Gen.facts) := fun m g m' g' _ hb => by
  have blocks : Cert.KernelIdeal.Mlp.Blocks (Cert.KernelIdeal.Mlp.Im m) _ _ _ _ _ _ _ :=
    { x := fun c i n => (congrFun (hb c).1 _).trans (Cert.KernelIdeal.Mlp.block_cols c _ i n)
      a1 := fun c n j => (congrFun (hb c).2.1 _).trans (Cert.KernelIdeal.Mlp.block_rows c _ n j)
      a3 := fun c n j => (congrFun (hb c).2.2.1 _).trans (Cert.KernelIdeal.Mlp.block_rows c _ n j)
      a5 := fun c n j => (congrFun (hb c).2.2.2.1 _).trans (Cert.KernelIdeal.Mlp.block_rows c _ n j)
      a2 := fun c i n => (congrFun (hb c).2.2.2.2.1 _).trans (Cert.KernelIdeal.Mlp.block_cols c _ i n)
      a4 := fun c i n => (congrFun (hb c).2.2.2.2.2.1 _).trans (Cert.KernelIdeal.Mlp.block_cols c _ i n)
      a6 := fun c i n => (congrFun (hb c).2.2.2.2.2.2 _).trans (Cert.KernelIdeal.Mlp.block_cols c _ i n) }
  exact ⟨_, (θ_run Cert.KernelIdeal.defs _ _).mono
      (fun _ h c => ⟨(h.1 c).1.trans (Cert.KernelIdeal.Mlp.out_layout blocks c), (h.1 c).2⟩) (Cert.KernelIdeal.Mlp.run m g),
    (θ_run Cert.ReferenceIdeal.defs _ _).mono (fun _ h => h 0) (Cert.KernelIdeal.Mlp.ref_run m' g')⟩

/-- Everything claimed. -/
theorem claim : Cert.Claim := ⟨Cert.Kernel.Gen.facts, Cert.KernelIdeal.Gen.facts, Cert.ReferenceIdeal.Gen.facts,
  quiescent_kernel, quiescent_kernel_ideal, quiescent_reference_ideal, trivial, algebraic⟩

end Cert.Proof

end
